-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)) (v5 : (c : Dev Cert.Kernel2Ideal.nD) → Buf (Elt Ideal) ((c.tc : Thread Cert.Kernel2Ideal.nD Cert.Kernel2Ideal.τ).loc Cert.Kernel2Ideal.main_v12_5)) (v6 : (c : Dev Cert.Kernel2Ideal.nD) → Buf (Elt Ideal) ((c.tc : Thread Cert.Kernel2Ideal.nD Cert.Kernel2Ideal.τ).loc Cert.Kernel2Ideal.main_v12_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_v12_5) = v5 c
          ∧ r.2.mem ((c.tc : Thread Cert.Kernel2Ideal.nD Cert.Kernel2Ideal.τ).loc Cert.Kernel2Ideal.main_v12_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_v20) = v4 c
          ∧ r.2.mem ((c.tc : Thread Cert.Reference2Ideal.nD Cert.Reference2Ideal.τ).loc Cert.Reference2Ideal.main_v21) = v5 c
          ∧ r.2.mem ((c.tc : Thread Cert.Reference2Ideal.nD Cert.Reference2Ideal.τ).loc Cert.Reference2Ideal.main_v23) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)) (v4 : (c : Dev Cert.Kernel5Ideal.nD) → Buf (Elt Ideal) ((c.tc : Thread Cert.Kernel5Ideal.nD Cert.Kernel5Ideal.τ).loc Cert.Kernel5Ideal.main_v11_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_v11_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_v23) = v3 c
          ∧ r.2.mem ((c.tc : Thread Cert.Reference5Ideal.nD Cert.Reference5Ideal.τ).loc Cert.Reference5Ideal.main_v17) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v51_0)) (v1 : (c : Dev Cert.Kernel6Ideal.nD) → Buf (Elt Ideal) ((c.tc : Thread Cert.Kernel6Ideal.nD Cert.Kernel6Ideal.τ).loc Cert.Kernel6Ideal.main_v51_1)) (v2 : (c : Dev Cert.Kernel6Ideal.nD) → Buf (Elt Ideal) ((c.tc : Thread Cert.Kernel6Ideal.nD Cert.Kernel6Ideal.τ).loc Cert.Kernel6Ideal.main_v51_2)) (v3 : (c : Dev Cert.Kernel6Ideal.nD) → Buf (Elt Ideal) ((c.tc : Thread Cert.Kernel6Ideal.nD Cert.Kernel6Ideal.τ).loc Cert.Kernel6Ideal.main_v51_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v51_0) = v0 c
          ∧ r.2.mem ((c.tc : Thread Cert.Kernel6Ideal.nD Cert.Kernel6Ideal.τ).loc Cert.Kernel6Ideal.main_v51_1) = v1 c
          ∧ r.2.mem ((c.tc : Thread Cert.Kernel6Ideal.nD Cert.Kernel6Ideal.τ).loc Cert.Kernel6Ideal.main_v51_2) = v2 c
          ∧ r.2.mem ((c.tc : Thread Cert.Kernel6Ideal.nD Cert.Kernel6Ideal.τ).loc Cert.Kernel6Ideal.main_v51_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v84) = v0 c
          ∧ r.2.mem ((c.tc : Thread Cert.Reference6Ideal.nD Cert.Reference6Ideal.τ).loc Cert.Reference6Ideal.main_v64) = v1 c
          ∧ r.2.mem ((c.tc : Thread Cert.Reference6Ideal.nD Cert.Reference6Ideal.τ).loc Cert.Reference6Ideal.main_v75) = v2 c
          ∧ r.2.mem ((c.tc : Thread Cert.Reference6Ideal.nD Cert.Reference6Ideal.τ).loc Cert.Reference6Ideal.main_v85) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S8x8x2048x256 : Shape := ⟨4, ![8, 8, 2048, 256]⟩
abbrev S8x8x2048x64 : Shape := ⟨4, ![8, 8, 2048, 64]⟩
abbrev S8x2048x256 : Shape := ⟨3, ![8, 2048, 256]⟩
abbrev S8x2048x64 : Shape := ⟨3, ![8, 2048, 64]⟩
abbrev S_ : Shape := ⟨0, ![]⟩

class Facts : Prop where
  bcast_S_S8x8x2048x256 : S_.BroadcastsInDim S8x8x2048x256 (![] : Fin 0 → Fin S8x8x2048x256.rank)
  bcast_S_S8x8x2048x64 : S_.BroadcastsInDim S8x8x2048x64 (![] : Fin 0 → Fin S8x8x2048x64.rank)
  bcast_S_S8x2048x256 : S_.BroadcastsInDim S8x2048x256 (![] : Fin 0 → Fin S8x2048x256.rank)
  bcast_S_S8x2048x64 : S_.BroadcastsInDim S8x2048x64 (![] : Fin 0 → Fin S8x2048x64.rank)

variable [Facts]

def fn {F : FTy → Type} [FloatOps F] (main_arg0 : FVec F S8x8x2048x256 .f32) (main_arg1 : FVec F S8x8x2048x64 .f32) (main_arg2 : FVec F S8x2048x256 .f32) (main_arg3 : FVec F S8x2048x64 .f32) : IVec S8x8x2048x256 1 × IVec S8x8x2048x64 1 × IVec S8x2048x256 1 × IVec S8x2048x64 1 :=
  let main_v0 : FVec F S8x8x2048x256 .f32 := Host.absf main_arg0
  let main_cst : FVec F S_ .f32 := constant S_ .f32 0x7F800000#32
  let main_v1 : FVec F S8x8x2048x256 .f32 := broadcastInDim S8x8x2048x256 ![] bcast_S_S8x8x2048x256 main_cst
  let main_v2 : IVec S8x8x2048x256 1 := cmpf .olt main_v0 main_v1
  let main_v3 : FVec F S8x8x2048x64 .f32 := Host.absf main_arg1
  let main_cst_0 : FVec F S_ .f32 := constant S_ .f32 0x7F800000#32
  let main_v4 : FVec F S8x8x2048x64 .f32 := broadcastInDim S8x8x2048x64 ![] bcast_S_S8x8x2048x64 main_cst_0
  let main_v5 : IVec S8x8x2048x64 1 := cmpf .olt main_v3 main_v4
  let main_v6 : FVec F S8x2048x256 .f32 := Host.absf main_arg2
  let main_cst_1 : FVec F S_ .f32 := constant S_ .f32 0x7F800000#32
  let main_v7 : FVec F S8x2048x256 .f32 := broadcastInDim S8x2048x256 ![] bcast_S_S8x2048x256 main_cst_1
  let main_v8 : IVec S8x2048x256 1 := cmpf .olt main_v6 main_v7
  let main_v9 : FVec F S8x2048x64 .f32 := Host.absf main_arg3
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  (main_v2, main_v5, main_v8, main_v11)
-- ==== Pre_finite5.lean ====
abbrev S16384x1024 : Shape := ⟨2, ![16384, 1024]⟩
abbrev S1024 : Shape := ⟨1, ![1024]⟩
abbrev S1024x1728 : Shape := ⟨2, ![1024, 1728]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1728 : S_.BroadcastsInDim S1024x1728 (![] : Fin 0 → Fin S1024x1728.rank)

variable [Facts]

def fn {F : FTy → Type} [FloatOps F] (main_arg0 : FVec F S16384x1024 .f32) (main_arg1 : FVec F S1024 .f32) (main_arg2 : FVec F S1024x1728 .f32) : IVec S16384x1024 1 × IVec S1024 1 × IVec S1024x1728 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1728 .f32 := Host.absf main_arg2
  let main_cst_1 : FVec F S_ .f32 := constant S_ .f32 0x7F800000#32
  let main_v7 : FVec F S1024x1728 .f32 := broadcastInDim S1024x1728 ![] bcast_S_S1024x1728 main_cst_1
  let main_v8 : IVec S1024x1728 1 := cmpf .olt main_v6 main_v7
  (main_v2, main_v5, main_v8)
-- ==== Pre_finite6.lean ====
abbrev S16384x384 : Shape := ⟨2, ![16384, 384]⟩
abbrev S16384x256 : Shape := ⟨2, ![16384, 256]⟩
abbrev S16384x64 : Shape := ⟨2, ![16384, 64]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S_ : Shape := ⟨0, ![]⟩

class Facts : Prop where
  bcast_S_S16384x384 : S_.BroadcastsInDim S16384x384 (![] : Fin 0 → Fin S16384x384.rank)
  bcast_S_S384 : S_.BroadcastsInDim S384 (![] : Fin 0 → Fin S384.rank)
  bcast_S_S384x1536 : S_.BroadcastsInDim S384x1536 (![] : Fin 0 → Fin S384x1536.rank)

variable [Facts]

def fn {F : FTy → Type} [FloatOps F] (main_arg0 : FVec F S16384x384 .f32) (main_arg1 : FVec F S16384x256 .f32) (main_arg2 : FVec F S16384x64 .f32) (main_arg3 : FVec F S384 .f32) (main_arg4 : FVec F S256 .f32) (main_arg5 : FVec F S384x1536 .f32) (main_arg6 : FVec F S256x2048 .f32) : IVec S16384x384 1 × IVec S384 1 × IVec S384x1536 1 :=
  let main_v0 : FVec F S16384x384 .f32 := Host.absf main_arg0
  let main_cst : FVec F S_ .f32 := constant S_ .f32 0x7F800000#32
  let main_v1 : FVec F S16384x384 .f32 := broadcastInDim S16384x384 ![] bcast_S_S16384x384 main_cst
  let main_v2 : IVec S16384x384 1 := cmpf .olt main_v0 main_v1
  let main_v3 : FVec F S384 .f32 := Host.absf main_arg3
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S384x1536 .f32 := Host.absf main_arg5
  let main_cst_1 : FVec F S_ .f32 := constant S_ .f32 0x7F800000#32
  let main_v7 : FVec F S384x1536 .f32 := broadcastInDim S384x1536 ![] bcast_S_S384x1536 main_cst_1
  let main_v8 : IVec S384x1536 1 := cmpf .olt main_v6 main_v7
  (main_v2, main_v5, main_v8)
-- ==== Kernel.lean ====
abbrev S8x8x2048x256 : Shape := ⟨4, ![8, 8, 2048, 256]⟩
abbrev S8x8x2048x64 : Shape := ⟨4, ![8, 8, 2048, 64]⟩
abbrev S8x2048x256 : Shape := ⟨3, ![8, 2048, 256]⟩
abbrev S8x2048x64 : Shape := ⟨3, ![8, 2048, 64]⟩
abbrev S_ : Shape := ⟨0, ![]⟩
abbrev S8x8x2048x384 : Shape := ⟨4, ![8, 8, 2048, 384]⟩
abbrev S8x2048x384 : Shape := ⟨3, ![8, 2048, 384]⟩
abbrev S8x1x256x384 : Shape := ⟨4, ![8, 1, 256, 384]⟩
abbrev S1x2048x384 : Shape := ⟨3, ![1, 2048, 384]⟩
abbrev S8x1x256x256 : Shape := ⟨4, ![8, 1, 256, 256]⟩
abbrev S2048x256 : Shape := ⟨2, ![2048, 256]⟩
abbrev S2048x128 : Shape := ⟨2, ![2048, 128]⟩
abbrev S8x256x384 : Shape := ⟨3, ![8, 256, 384]⟩
abbrev S2048x384 : Shape := ⟨2, ![2048, 384]⟩
abbrev S1x256x384 : Shape := ⟨3, ![1, 256, 384]⟩
abbrev S256x384 : Shape := ⟨2, ![256, 384]⟩
abbrev S1x2048x256 : Shape := ⟨3, ![1, 2048, 256]⟩
abbrev S2048 : Shape := ⟨1, ![2048]⟩
abbrev S2048x1 : Shape := ⟨2, ![2048, 1]⟩
abbrev S256x256 : Shape := ⟨2, ![256, 256]⟩
abbrev S8x256x256 : Shape := ⟨3, ![8, 256, 256]⟩

abbrev nBuf : Space → Nat
  | .hbm => 13
  | .vmem => 11
  | .smem => 0
  | _ => 0

abbrev bufTy : (tb : Table) → Fin (tcTables nBuf tb) → BufTy
  | .hbm, ⟨0, _⟩ => ⟨S8x8x2048x256, .f32⟩
  | .hbm, ⟨1, _⟩ => ⟨S8x8x2048x64, .f32⟩
  | .hbm, ⟨2, _⟩ => ⟨S8x2048x256, .f32⟩
  | .hbm, ⟨3, _⟩ => ⟨S8x2048x64, .f32⟩
  | .hbm, ⟨4, _⟩ => ⟨S_, .f32⟩
  | .hbm, ⟨5, _⟩ => ⟨S8x8x2048x64, .f32⟩
  | .hbm, ⟨6, _⟩ => ⟨S_, .f32⟩
  | .hbm, ⟨7, _⟩ => ⟨S8x2048x64, .f32⟩
  | .hbm, ⟨8, _⟩ => ⟨S8x8x2048x384, .f32⟩
  | .hbm, ⟨9, _⟩ => ⟨S8x8x2048x384, .bf16⟩
  | .hbm, ⟨10, _⟩ => ⟨S8x2048x384, .f32⟩
  | .hbm, ⟨11, _⟩ => ⟨S8x2048x384, .bf16⟩
  | .hbm, ⟨12, _⟩ => ⟨S8x8x2048x256, .bf16⟩
  | .local _ .vmem, ⟨0, _⟩ => ⟨S8x1x256x384, .bf16⟩
  | .local _ .vmem, ⟨1, _⟩ => ⟨S8x1x256x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S8x1x256x256, .bf16⟩
  | .local _ .vmem, ⟨5, _⟩ => ⟨S8x1x256x256, .bf16⟩
  | .local _ .vmem, ⟨6, _⟩ => ⟨S8x2048x256, .f32⟩
  | .local _ .vmem, ⟨7, _⟩ => ⟨S2048x256, .f32⟩
  | .local _ .vmem, ⟨8, _⟩ => ⟨S2048x128, .f32⟩
  | .local _ .vmem, ⟨9, _⟩ => ⟨S2048x128, .f32⟩
  | .local _ .vmem, ⟨10, _⟩ => ⟨S2048x256, .f32⟩
  | _, _ => ⟨S8x8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v8 : BitVec 32 := Scalar.muli arg1 c256_i32
  v8
def k0_off1 (i : grid0.Coords) : Fin 3 → Nat :=
  let c0_3 : Index := 0#32
  let arg1 : BitVec 32 := BitVec.ofNat 32 (i 1).val
  let c256_i32 : BitVec 32 := 256#32
  let v8 : BitVec 32 := Scalar.muli arg1 c256_i32
  let v9 : BitVec 32 := v8
  let v10 : Index := Scalar.indexCast v9
  let c0_4 : Index := 0#32
  ![0, v10.toNat, 0]
def k0_off2 (i : grid0.Coords) : Fin 3 → Nat :=
  let arg1 : BitVec 32 := BitVec.ofNat 32 (i 1).val
  let v16 : Index := Scalar.indexCast arg1
  let c0_6 : Index := 0#32
  let c0_7 : Index := 0#32
  ![v16.toNat, 0, 0]
@[reducible] def k0_t1_loop (i : grid0.Coords) : Scf.Loop 32 :=
  let c0_i32_10 : BitVec 32 := 0#32
  let arg1 : BitVec 32 := BitVec.ofNat 32 (i 1).val
  let v23 : BitVec 32 := Scalar.subi arg1 c0_i32_10
  let c1_i32 : BitVec 32 := 1#32
  let v25 : BitVec 32 := Scalar.divsi v23 c1_i32
  let v26 : BitVec 32 := Scalar.muli v25 c1_i32
  let v27 : BitVec 32 := Scalar.addi c0_i32_10 v26
  let c1_i32_11 : BitVec 32 := 1#32
  ⟨c0_i32_10, v27, c1_i32_11⟩
def k0_mult2 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c256_i32_47 : BitVec 32 := 256#32
  let v84 : BitVec 32 := Scalar.muli arg10 c256_i32_47
  v84
def k0_off3 (i : grid0.Coords) (k0_t1 : Fin (k0_t1_loop i).trips) : Fin 3 → Nat :=
  let c0_48 : Index := 0#32
  let c0_i32_10 : BitVec 32 := 0#32
  let c1_i32_11 : BitVec 32 := 1#32
  let arg10 : BitVec 32 := Scf.iv c0_i32_10 c1_i32_11 k0_t1
  let c256_i32_47 : BitVec 32 := 256#32
  let v84 : BitVec 32 := Scalar.muli arg10 c256_i32_47
  let v85 : BitVec 32 := v84
  let v86 : Index := Scalar.indexCast v85
  let c0_49 : Index := 0#32
  ![0, v86.toNat, 0]
def k0_off4 (i : grid0.Coords) (k0_t1 : Fin (k0_t1_loop i).trips) : Fin 3 → Nat :=
  let c0_i32_10 : BitVec 32 := 0#32
  let c1_i32_11 : BitVec 32 := 1#32
  let arg10 : BitVec 32 := Scf.iv c0_i32_10 c1_i32_11 k0_t1
  let v90 : Index := Scalar.indexCast arg10
  let c0_51 : Index := 0#32
  let c0_52 : Index := 0#32
  ![v90.toNat, 0, 0]
@[reducible] def k0_t2_loop (i : grid0.Coords) : Scf.Loop 32 :=
  let c0_i32_10 : BitVec 32 := 0#32
  let arg1 : BitVec 32 := BitVec.ofNat 32 (i 1).val
  let v23 : BitVec 32 := Scalar.subi arg1 c0_i32_10
  let c1_i32 : BitVec 32 := 1#32
  let v25 : BitVec 32 := Scalar.divsi v23 c1_i32
  let v26 : BitVec 32 := Scalar.muli v25 c1_i32
  let v27 : BitVec 32 := Scalar.addi c0_i32_10 v26
  let v24 : BitVec 32 := Scalar.addi c0_i32_10 v23
  let c1_i32_12 : BitVec 32 := 1#32
  ⟨v27, v24, c1_i32_12⟩
def k0_mult3 (i : grid0.Coords) (k0_t2 : Fin (k0_t2_loop i).trips) : BitVec 32 :=
  let c0_i32_10 : BitVec 32 := 0#32
  let arg1 : BitVec 32 := BitVec.ofNat 32 (i 1).val
  let v23 : BitVec 32 := Scalar.subi arg1 c0_i32_10
  let c1_i32 : BitVec 32 := 1#32
  let v25 : BitVec 32 := Scalar.divsi v23 c1_i32
  let v26 : BitVec 32 := Scalar.muli v25 c1_i32
  let v27 : BitVec 32 := Scalar.addi c0_i32_10 v26
  let c1_i32_12 : BitVec 32 := 1#32
  let arg10 : BitVec 32 := Scf.iv v27 c1_i32_12 k0_t2
  let c256_i32_47 : BitVec 32 := 256#32
  let v84 : BitVec 32 := Scalar.muli arg10 c256_i32_47
  v84
def k0_off5 (i : grid0.Coords) (k0_t2 : Fin (k0_t2_loop i).trips) : Fin 3 → Nat :=
  let c0_48 : Index := 0#32
  let c0_i32_10 : BitVec 32 := 0#32
  let arg1 : BitVec 32 := BitVec.ofNat 32 (i 1).val
  let v23 : BitVec 32 := Scalar.subi arg1 c0_i32_10
  let c1_i32 : BitVec 32 := 1#32
  let v25 : BitVec 32 := Scalar.divsi v23 c1_i32
  let v26 : BitVec 32 := Scalar.muli v25 c1_i32
  let v27 : BitVec 32 := Scalar.addi c0_i32_10 v26
  let c1_i32_12 : BitVec 32 := 1#32
  let arg10 : BitVec 32 := Scf.iv v27 c1_i32_12 k0_t2
  let c256_i32_47 : BitVec 32 := 256#32
  let v84 : BitVec 32 := Scalar.muli arg10 c256_i32_47
  let v85 : BitVec 32 := v84
  let v86 : Index := Scalar.indexCast v85
  let c0_49 : Index := 0#32
  ![0, v86.toNat, 0]
def k0_off6 (i : grid0.Coords) (k0_t2 : Fin (k0_t2_loop i).trips) : Fin 3 → Nat :=
  let c0_i32_10 : BitVec 32 := 0#32
  let arg1 : BitVec 32 := BitVec.ofNat 32 (i 1).val
  let v23 : BitVec 32 := Scalar.subi arg1 c0_i32_10
  let c1_i32 : BitVec 32 := 1#32
  let v25 : BitVec 32 := Scalar.divsi v23 c1_i32
  let v26 : BitVec 32 := Scalar.muli v25 c1_i32
  let v27 : BitVec 32 := Scalar.addi c0_i32_10 v26
  let c1_i32_12 : BitVec 32 := 1#32
  let arg10 : BitVec 32 := Scf.iv v27 c1_i32_12 k0_t2
  let v90 : Index := Scalar.indexCast arg10
  let c0_51 : Index := 0#32
  let c0_52 : Index := 0#32
  ![v90.toNat, 0, 0]
def k0_mult4 (i : grid0.Coords) : BitVec 32 :=
  let arg1 : BitVec 32 := BitVec.ofNat 32 (i 1).val
  let c256_i32_25 : BitVec 32 := 256#32
  let v55 : BitVec 32 := Scalar.muli arg1 c256_i32_25
  v55
@[reducible] def k0_t3_loop (i : grid0.Coords) : Scf.Loop 32 :=
  let c0_i32_34 : BitVec 32 := 0#32
  let arg1 : BitVec 32 := BitVec.ofNat 32 (i 1).val
  let v68 : BitVec 32 := Scalar.subi arg1 c0_i32_34
  let c1_i32_35 : BitVec 32 := 1#32
  let v70 : BitVec 32 := Scalar.divsi v68 c1_i32_35
  let v71 : BitVec 32 := Scalar.muli v70 c1_i32_35
  let v72 : BitVec 32 := Scalar.addi c0_i32_34 v71
  let c1_i32_36 : BitVec 32 := 1#32
  ⟨c0_i32_34, v72, c1_i32_36⟩
def k0_off7 (i : grid0.Coords) (k0_t3 : Fin (k0_t3_loop i).trips) : Fin 3 → Nat :=
  let c0_i32_34 : BitVec 32 := 0#32
  let c1_i32_36 : BitVec 32 := 1#32
  let arg10 : BitVec 32 := Scf.iv c0_i32_34 c1_i32_36 k0_t3
  let v84 : Index := Scalar.indexCast arg10
  let c0_47 : Index := 0#32
  let c0_48 : Index := 0#32
  ![v84.toNat, 0, 0]
def k0_mult5 (i : grid0.Coords) (k0_t3 : Fin (k0_t3_loop i).trips) : BitVec 32 :=
  let c0_i32_34 : BitVec 32 := 0#32
  let c1_i32_36 : BitVec 32 := 1#32
  let arg10 : BitVec 32 := Scf.iv c0_i32_34 c1_i32_36 k0_t3
  let c256_i32_53 : BitVec 32 := 256#32
  let v101 : BitVec 32 := Scalar.muli arg10 c256_i32_53
  v101
def k0_off8 (i : grid0.Coords) (k0_t3 : Fin (k0_t3_loop i).trips) : Fin 3 → Nat :=
  let c0_54 : Index := 0#32
  let c0_i32_34 : BitVec 32 := 0#32
  let c1_i32_36 : BitVec 32 := 1#32
  let arg10 : BitVec 32 := Scf.iv c0_i32_34 c1_i32_36 k0_t3
  let c256_i32_53 : BitVec 32 := 256#32
  let v101 : BitVec 32 := Scalar.muli arg10 c256_i32_53
  let v102 : BitVec 32 := v101
  let v103 : Index := Scalar.indexCast v102
  let c0_55 : Index := 0#32
  ![0, v103.toNat, 0]
@[reducible] def k0_t4_loop (i : grid0.Coords) : Scf.Loop 32 :=
  let c0_i32_34 : BitVec 32 := 0#32
  let arg1 : BitVec 32 := BitVec.ofNat 32 (i 1).val
  let v68 : BitVec 32 := Scalar.subi arg1 c0_i32_34
  let c1_i32_35 : BitVec 32 := 1#32
  let v70 : BitVec 32 := Scalar.divsi v68 c1_i32_35
  let v71 : BitVec 32 := Scalar.muli v70 c1_i32_35
  let v72 : BitVec 32 := Scalar.addi c0_i32_34 v71
  let v69 : BitVec 32 := Scalar.addi c0_i32_34 v68
  let c1_i32_37 : BitVec 32 := 1#32
  ⟨v72, v69, c1_i32_37⟩
def k0_off9 (i : grid0.Coords) (k0_t4 : Fin (k0_t4_loop i).trips) : Fin 3 → Nat :=
  let c0_i32_34 : BitVec 32 := 0#32
  let arg1 : BitVec 32 := BitVec.ofNat 32 (i 1).val
  let v68 : BitVec 32 := Scalar.subi arg1 c0_i32_34
  let c1_i32_35 : BitVec 32 := 1#32
  let v70 : BitVec 32 := Scalar.divsi v68 c1_i32_35
  let v71 : BitVec 32 := Scalar.muli v70 c1_i32_35
  let v72 : BitVec 32 := Scalar.addi c0_i32_34 v71
  let c1_i32_37 : BitVec 32 := 1#32
  let arg10 : BitVec 32 := Scf.iv v72 c1_i32_37 k0_t4
  let v84 : Index := Scalar.indexCast arg10
  let c0_47 : Index := 0#32
  let c0_48 : Index := 0#32
  ![v84.toNat, 0, 0]
def k0_mult6 (i : grid0.Coords) (k0_t4 : Fin (k0_t4_loop i).trips) : BitVec 32 :=
  let c0_i32_34 : BitVec 32 := 0#32
  let arg1 : BitVec 32 := BitVec.ofNat 32 (i 1).val
  let v68 : BitVec 32 := Scalar.subi arg1 c0_i32_34
  let c1_i32_35 : BitVec 32 := 1#32
  let v70 : BitVec 32 := Scalar.divsi v68 c1_i32_35
  let v71 : BitVec 32 := Scalar.muli v70 c1_i32_35
  let v72 : BitVec 32 := Scalar.addi c0_i32_34 v71
  let c1_i32_37 : BitVec 32 := 1#32
  let arg10 : BitVec 32 := Scf.iv v72 c1_i32_37 k0_t4
  let c256_i32_53 : BitVec 32 := 256#32
  let v101 : BitVec 32 := Scalar.muli arg10 c256_i32_53
  v101
def k0_off10 (i : grid0.Coords) (k0_t4 : Fin (k0_t4_loop i).trips) : Fin 3 → Nat :=
  let c0_54 : Index := 0#32
  let c0_i32_34 : BitVec 32 := 0#32
  let arg1 : BitVec 32 := BitVec.ofNat 32 (i 1).val
  let v68 : BitVec 32 := Scalar.subi arg1 c0_i32_34
  let c1_i32_35 : BitVec 32 := 1#32
  let v70 : BitVec 32 := Scalar.divsi v68 c1_i32_35
  let v71 : BitVec 32 := Scalar.muli v70 c1_i32_35
  let v72 : BitVec 32 := Scalar.addi c0_i32_34 v71
  let c1_i32_37 : BitVec 32 := 1#32
  let arg10 : BitVec 32 := Scf.iv v72 c1_i32_37 k0_t4
  let c256_i32_53 : BitVec 32 := 256#32
  let v101 : BitVec 32 := Scalar.muli arg10 c256_i32_53
  let v102 : BitVec 32 := v101
  let v103 : Index := Scalar.indexCast v102
  let c0_55 : Index := 0#32
  ![0, v103.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S8x1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S8x8x2048x256 : Shape := ⟨4, ![8, 8, 2048, 256]⟩
abbrev S8x8x2048x64 : Shape := ⟨4, ![8, 8, 2048, 64]⟩
abbrev S8x2048x256 : Shape := ⟨3, ![8, 2048, 256]⟩
abbrev S8x2048x64 : Shape := ⟨3, ![8, 2048, 64]⟩
abbrev S8x2048x8x2048 : Shape := ⟨4, ![8, 2048, 8, 2048]⟩
abbrev S8x8x2048x2048 : Shape := ⟨4, ![8, 8, 2048, 2048]⟩
abbrev S_ : Shape := ⟨0, ![]⟩
abbrev S2048 : Shape := ⟨1, ![2048]⟩
abbrev S1x1x1x2048 : Shape := ⟨4, ![1, 1, 1, 2048]⟩
abbrev S1x1x2048x1 : Shape := ⟨4, ![1, 1, 2048, 1]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x256x8x2048 : Shape := ⟨4, ![8, 256, 8, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x8x2048x256, .f32⟩
  | .hbm, ⟨1, _⟩ => ⟨S8x8x2048x64, .f32⟩
  | .hbm, ⟨2, _⟩ => ⟨S8x2048x256, .f32⟩
  | .hbm, ⟨3, _⟩ => ⟨S8x2048x64, .f32⟩
  | .hbm, ⟨4, _⟩ => ⟨S8x2048x8x2048, .f32⟩
  | .hbm, ⟨5, _⟩ => ⟨S8x8x2048x2048, .f32⟩
  | .hbm, ⟨6, _⟩ => ⟨S8x2048x8x2048, .f32⟩
  | .hbm, ⟨7, _⟩ => ⟨S8x8x2048x2048, .f32⟩
  | .hbm, ⟨8, _⟩ => ⟨S8x8x2048x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x8x2048x2048, .f32⟩
  | .hbm, ⟨13, _⟩ => ⟨S8x8x2048x2048, .f32⟩
  | .hbm, ⟨14, _⟩ => ⟨S2048, .i32⟩
  | .hbm, ⟨15, _⟩ => ⟨S1x1x1x2048, .i32⟩
  | .hbm, ⟨16, _⟩ => ⟨S1x1x2048x1, .i32⟩
  | .hbm, ⟨17, _⟩ => ⟨S1x1x2048x2048, .i32⟩
  | .hbm, ⟨18, _⟩ => ⟨S1x1x2048x2048, .i32⟩
  | .hbm, ⟨19, _⟩ => ⟨S1x1x2048x2048, .i1⟩
  | .hbm, ⟨20, _⟩ => ⟨S_, .f32⟩
  | .hbm, ⟨21, _⟩ => ⟨S_, .f32⟩
  | .hbm, ⟨22, _⟩ => ⟨S8x8x2048x2048, .i1⟩
  | .hbm, ⟨23, _⟩ => ⟨S8x8x2048x2048, .f32⟩
  | .hbm, ⟨24, _⟩ => ⟨S8x8x2048x2048, .f32⟩
  | .hbm, ⟨25, _⟩ => ⟨S_, .f32⟩
  | .hbm, ⟨26, _⟩ => ⟨S8x8x2048, .f32⟩
  | .hbm, ⟨27, _⟩ => ⟨S_, .f32⟩
  | .hbm, ⟨28, _⟩ => ⟨S8x8x2048, .f32⟩
  | .hbm, ⟨29, _⟩ => ⟨S8x8x2048, .f32⟩
  | .hbm, ⟨30, _⟩ => ⟨S8x8x2048x1, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S8x8x2048x1, .f32⟩
  | .hbm, ⟨37, _⟩ => ⟨S8x8x2048x2048, .f32⟩
  | .hbm, ⟨38, _⟩ => ⟨S8x8x2048x2048, .f32⟩
  | .hbm, ⟨39, _⟩ => ⟨S8x256x8x2048, .f32⟩
  | .hbm, ⟨40, _⟩ => ⟨S8x8x2048x256, .f32⟩
  | .hbm, ⟨41, _⟩ => ⟨S8x8x2048x256, .bf16⟩
  | _, _ => ⟨S8x8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x3592 : Shape := ⟨2, ![1024, 3592]⟩
abbrev S1024x1536 : Shape := ⟨2, ![1024, 1536]⟩
abbrev S1024x512 : Shape := ⟨2, ![1024, 512]⟩
abbrev S1024x4 : Shape := ⟨2, ![1024, 4]⟩
abbrev S1024x256 : Shape := ⟨2, ![1024, 256]⟩
abbrev S_ : Shape := ⟨0, ![]⟩
abbrev S1024x120 : Shape := ⟨2, ![1024, 120]⟩
abbrev S1024x3712 : Shape := ⟨2, ![1024, 3712]⟩
abbrev S1x1024 : Shape := ⟨2, ![1, 1024]⟩
abbrev S16384x1536 : Shape := ⟨2, ![16384, 1536]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S512x1536 : Shape := ⟨2, ![512, 1536]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩

abbrev nBuf : Space → Nat
  | .hbm => 23
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S1024x1536, .f32⟩
  | .hbm, ⟨4, _⟩ => ⟨S1024x512, .f32⟩
  | .hbm, ⟨5, _⟩ => ⟨S1024x4, .f32⟩
  | .hbm, ⟨6, _⟩ => ⟨S1024x4, .f32⟩
  | .hbm, ⟨7, _⟩ => ⟨S1024x512, .f32⟩
  | .hbm, ⟨8, _⟩ => ⟨S1024x256, .f32⟩
  | .hbm, ⟨9, _⟩ => ⟨S1024x256, .f32⟩
  | .hbm, ⟨10, _⟩ => ⟨S1024x512, .f32⟩
  | .hbm, ⟨11, _⟩ => ⟨S_, .f32⟩
  | .hbm, ⟨12, _⟩ => ⟨S1024x120, .f32⟩
  | .hbm, ⟨13, _⟩ => ⟨S1024x3712, .f32⟩
  | .hbm, ⟨14, _⟩ => ⟨S1024x3712, .bf16⟩
  | .hbm, ⟨15, _⟩ => ⟨S1x1024, .f32⟩
  | .hbm, ⟨16, _⟩ => ⟨S16384x1536, .f32⟩
  | .hbm, ⟨17, _⟩ => ⟨S16384x512, .f32⟩
  | .hbm, ⟨18, _⟩ => ⟨S16384x512, .f32⟩
  | .hbm, ⟨19, _⟩ => ⟨S16384x256, .f32⟩
  | .hbm, ⟨20, _⟩ => ⟨S16384x256, .f32⟩
  | .hbm, ⟨21, _⟩ => ⟨S16384x512, .f32⟩
  | .hbm, ⟨22, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x1536, .f32⟩
  | .local _ .vmem, ⟨5, _⟩ => ⟨S512x1536, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev main_v12_5 : Ref sig .tc := ⟨.hbm, 21, rfl⟩
abbrev main_v12_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1024 : Shape := ⟨1, ![1024]⟩
abbrev S1024x3592 : Shape := ⟨2, ![1024, 3592]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3592 : Shape := ⟨2, ![16384, 3592]⟩
abbrev S16384x1536 : Shape := ⟨2, ![16384, 1536]⟩
abbrev S16384x512 : Shape := ⟨2, ![16384, 512]⟩
abbrev S16384x4 : Shape := ⟨2, ![16384, 4]⟩
abbrev S16384x256 : Shape := ⟨2, ![16384, 256]⟩
abbrev S16384x120 : Shape := ⟨2, ![16384, 120]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3592, .f32⟩
  | .hbm, ⟨20, _⟩ => ⟨S16384x1536, .f32⟩
  | .hbm, ⟨21, _⟩ => ⟨S16384x512, .f32⟩
  | .hbm, ⟨22, _⟩ => ⟨S16384x4, .f32⟩
  | .hbm, ⟨23, _⟩ => ⟨S16384x4, .f32⟩
  | .hbm, ⟨24, _⟩ => ⟨S16384x512, .f32⟩
  | .hbm, ⟨25, _⟩ => ⟨S16384x256, .f32⟩
  | .hbm, ⟨26, _⟩ => ⟨S16384x256, .f32⟩
  | .hbm, ⟨27, _⟩ => ⟨S16384x512, .f32⟩
  | .hbm, ⟨28, _⟩ => ⟨S_, .f32⟩
  | .hbm, ⟨29, _⟩ => ⟨S16384x120, .f32⟩
  | .hbm, ⟨30, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel3.lean ====
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S1024x1024, .bf16⟩
  | .hbm, ⟨6, _⟩ => ⟨S1x1024, .f32⟩
  | .hbm, ⟨7, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel4.lean ====
abbrev S8x16384x256 : Shape := ⟨3, ![8, 16384, 256]⟩
abbrev S16384x1024 : Shape := ⟨2, ![16384, 1024]⟩
abbrev S256x2048 : Shape := ⟨2, ![256, 2048]⟩
abbrev S1024x1024 : Shape := ⟨2, ![1024, 1024]⟩
abbrev S1024 : Shape := ⟨1, ![1024]⟩
abbrev S1x1024 : Shape := ⟨2, ![1, 1024]⟩
abbrev S8x512x256 : Shape := ⟨3, ![8, 512, 256]⟩
abbrev S512x1024 : Shape := ⟨2, ![512, 1024]⟩
abbrev S1x512x256 : Shape := ⟨3, ![1, 512, 256]⟩
abbrev S512x256 : Shape := ⟨2, ![512, 256]⟩
abbrev S256x128 : Shape := ⟨2, ![256, 128]⟩
abbrev S512x128 : Shape := ⟨2, ![512, 128]⟩
abbrev S128x1024 : Shape := ⟨2, ![128, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8x16384x256, .f32⟩
  | .hbm, ⟨1, _⟩ => ⟨S16384x1024, .f32⟩
  | .hbm, ⟨2, _⟩ => ⟨S256x2048, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S256x2048, .bf16⟩
  | .hbm, ⟨7, _⟩ => ⟨S1024x1024, .bf16⟩
  | .hbm, ⟨8, _⟩ => ⟨S1x1024, .f32⟩
  | .hbm, ⟨9, _⟩ => ⟨S16384x1024, .f32⟩
  | .local _ .vmem, ⟨0, _⟩ => ⟨S8x512x256, .f32⟩
  | .local _ .vmem, ⟨1, _⟩ => ⟨S8x512x256, .f32⟩
  | .local _ .vmem, ⟨2, _⟩ => ⟨S512x1024, .f32⟩
  | .local _ .vmem, ⟨3, _⟩ => ⟨S512x1024, .f32⟩
  | .local _ .vmem, ⟨4, _⟩ => ⟨S256x2048, .bf16⟩
  | .local _ .vmem, ⟨5, _⟩ => ⟨S1024x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x16384x256 : Shape := ⟨3, ![8, 16384, 256]⟩
abbrev S16384x1024 : Shape := ⟨2, ![16384, 1024]⟩
abbrev S256x2048 : Shape := ⟨2, ![256, 2048]⟩
abbrev S1024x1024 : Shape := ⟨2, ![1024, 1024]⟩
abbrev S1024 : Shape := ⟨1, ![1024]⟩
abbrev S256x8x256 : Shape := ⟨3, ![256, 8, 256]⟩
abbrev S256x8x128 : Shape := ⟨3, ![256, 8, 128]⟩
abbrev S8x128x16384 : Shape := ⟨3, ![8, 128, 16384]⟩
abbrev S16384x8x128 : Shape := ⟨3, ![16384, 8, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x16384x256, .f32⟩
  | .hbm, ⟨1, _⟩ => ⟨S16384x1024, .f32⟩
  | .hbm, ⟨2, _⟩ => ⟨S256x2048, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S256x8x256, .f32⟩
  | .hbm, ⟨7, _⟩ => ⟨S256x8x128, .f32⟩
  | .hbm, ⟨8, _⟩ => ⟨S8x128x16384, .f32⟩
  | .hbm, ⟨9, _⟩ => ⟨S16384x8x128, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S8x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x1728 : Shape := ⟨2, ![1024, 1728]⟩
abbrev S1024x64 : Shape := ⟨2, ![1024, 64]⟩
abbrev S_ : Shape := ⟨0, ![]⟩
abbrev S1024x640 : Shape := ⟨2, ![1024, 640]⟩
abbrev S1024x32 : Shape := ⟨2, ![1024, 32]⟩
abbrev S1024x1024 : Shape := ⟨2, ![1024, 1024]⟩
abbrev S1024x1920 : Shape := ⟨2, ![1024, 1920]⟩
abbrev S1x1024 : Shape := ⟨2, ![1, 1024]⟩
abbrev S16384x384 : Shape := ⟨2, ![16384, 384]⟩
abbrev S16384x256 : Shape := ⟨2, ![16384, 256]⟩
abbrev S16384x128 : Shape := ⟨2, ![16384, 128]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x384 : Shape := ⟨2, ![1024, 384]⟩
abbrev S1024x256 : Shape := ⟨2, ![1024, 256]⟩
abbrev S1024x128 : Shape := ⟨2, ![1024, 128]⟩

abbrev nBuf : Space → Nat
  | .hbm => 20
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1728, .f32⟩
  | .hbm, ⟨3, _⟩ => ⟨S1024x64, .f32⟩
  | .hbm, ⟨4, _⟩ => ⟨S_, .f32⟩
  | .hbm, ⟨5, _⟩ => ⟨S1024x64, .f32⟩
  | .hbm, ⟨6, _⟩ => ⟨S1024x640, .f32⟩
  | .hbm, ⟨7, _⟩ => ⟨S1024x32, .f32⟩
  | .hbm, ⟨8, _⟩ => ⟨S1024x32, .f32⟩
  | .hbm, ⟨9, _⟩ => ⟨S1024x32, .f32⟩
  | .hbm, ⟨10, _⟩ => ⟨S1024x64, .f32⟩
  | .hbm, ⟨11, _⟩ => ⟨S1024x1024, .f32⟩
  | .hbm, ⟨12, _⟩ => ⟨S1024x1920, .f32⟩
  | .hbm, ⟨13, _⟩ => ⟨S1024x1920, .bf16⟩
  | .hbm, ⟨14, _⟩ => ⟨S1x1024, .f32⟩
  | .hbm, ⟨15, _⟩ => ⟨S16384x384, .f32⟩
  | .hbm, ⟨16, _⟩ => ⟨S16384x256, .f32⟩
  | .hbm, ⟨17, _⟩ => ⟨S16384x128, .f32⟩
  | .hbm, ⟨18, _⟩ => ⟨S16384x128, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S512x384, .f32⟩
  | .local _ .vmem, ⟨5, _⟩ => ⟨S512x384, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S1024 : Shape := ⟨1, ![1024]⟩
abbrev S1024x1728 : Shape := ⟨2, ![1024, 1728]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1728 : Shape := ⟨2, ![16384, 1728]⟩
abbrev S16384x384 : Shape := ⟨2, ![16384, 384]⟩
abbrev S16384x256 : Shape := ⟨2, ![16384, 256]⟩
abbrev S16384x64 : Shape := ⟨2, ![16384, 64]⟩
abbrev S16384x32 : Shape := ⟨2, ![16384, 32]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1728, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1728, .f32⟩
  | .hbm, ⟨20, _⟩ => ⟨S16384x384, .f32⟩
  | .hbm, ⟨21, _⟩ => ⟨S16384x256, .f32⟩
  | .hbm, ⟨22, _⟩ => ⟨S16384x64, .f32⟩
  | .hbm, ⟨23, _⟩ => ⟨S16384x1024, .f32⟩
  | .hbm, ⟨24, _⟩ => ⟨S_, .f32⟩
  | .hbm, ⟨25, _⟩ => ⟨S16384x64, .f32⟩
  | .hbm, ⟨26, _⟩ => ⟨S16384x32, .f32⟩
  | .hbm, ⟨27, _⟩ => ⟨S16384x32, .f32⟩
  | .hbm, ⟨28, _⟩ => ⟨S16384x128, .f32⟩
  | .hbm, ⟨29, _⟩ => ⟨S16384x32, .f32⟩
  | .hbm, ⟨30, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel6.lean ====
abbrev S16384x384 : Shape := ⟨2, ![16384, 384]⟩
abbrev S16384x256 : Shape := ⟨2, ![16384, 256]⟩
abbrev S16384x64 : Shape := ⟨2, ![16384, 64]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S_ : Shape := ⟨0, ![]⟩
abbrev S16384x128 : Shape := ⟨2, ![16384, 128]⟩
abbrev S16384x32 : Shape := ⟨2, ![16384, 32]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S1x2048x1x128 : Shape := ⟨4, ![1, 2048, 1, 128]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x8x32 : Shape := ⟨3, ![384, 8, 32]⟩
abbrev S384x3072 : Shape := ⟨2, ![384, 3072]⟩
abbrev S1x384 : Shape := ⟨2, ![1, 384]⟩
abbrev S1x256 : Shape := ⟨2, ![1, 256]⟩
abbrev S8x16384x384 : Shape := ⟨3, ![8, 16384, 384]⟩
abbrev S512x384 : Shape := ⟨2, ![512, 384]⟩
abbrev S512x256 : Shape := ⟨2, ![512, 256]⟩
abbrev S512x128 : Shape := ⟨2, ![512, 128]⟩
abbrev S8x512x384 : Shape := ⟨3, ![8, 512, 384]⟩
abbrev S512x64 : Shape := ⟨2, ![512, 64]⟩
abbrev S512 : Shape := ⟨1, ![512]⟩
abbrev S512x1 : Shape := ⟨2, ![512, 1]⟩
abbrev S512x3072 : Shape := ⟨2, ![512, 3072]⟩
abbrev S256x128 : Shape := ⟨2, ![256, 128]⟩
abbrev S1x512x256 : Shape := ⟨3, ![1, 512, 256]⟩
abbrev S1x512x128 : Shape := ⟨3, ![1, 512, 128]⟩

abbrev nBuf : Space → Nat
  | .hbm => 67
  | .vmem => 24
  | .smem => 0
  | _ => 0

abbrev bufTy : (tb : Table) → Fin (tcTables nBuf tb) → BufTy
  | .hbm, ⟨0, _⟩ => ⟨S16384x384, .f32⟩
  | .hbm, ⟨1, _⟩ => ⟨S16384x256, .f32⟩
  | .hbm, ⟨2, _⟩ => ⟨S16384x64, .f32⟩
  | .hbm, ⟨3, _⟩ => ⟨S384, .f32⟩
  | .hbm, ⟨4, _⟩ => ⟨S256, .f32⟩
  | .hbm, ⟨5, _⟩ => ⟨S384x1536, .f32⟩
  | .hbm, ⟨6, _⟩ => ⟨S256x2048, .f32⟩
  | .hbm, ⟨7, _⟩ => ⟨S_, .f32⟩
  | .hbm, ⟨8, _⟩ => ⟨S16384x64, .f32⟩
  | .hbm, ⟨9, _⟩ => ⟨S16384x128, .f32⟩
  | .hbm, ⟨10, _⟩ => ⟨S16384x32, .f32⟩
  | .hbm, ⟨11, _⟩ => ⟨S16384x32, .f32⟩
  | .hbm, ⟨12, _⟩ => ⟨S16384x32, .f32⟩
  | .hbm, ⟨13, _⟩ => ⟨S16384x64, .f32⟩
  | .hbm, ⟨14, _⟩ => ⟨S16384x128, .f32⟩
  | .hbm, ⟨15, _⟩ => ⟨S2048, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2048, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S_, .f32⟩
  | .hbm, ⟨31, _⟩ => ⟨S2048x64, .f32⟩
  | .hbm, ⟨32, _⟩ => ⟨S2048x32, .f32⟩
  | .hbm, ⟨33, _⟩ => ⟨S2048x32, .f32⟩
  | .hbm, ⟨34, _⟩ => ⟨S2048x128, .f32⟩
  | .hbm, ⟨35, _⟩ => ⟨S2048x32, .f32⟩
  | .hbm, ⟨36, _⟩ => ⟨S2048x32, .f32⟩
  | .hbm, ⟨37, _⟩ => ⟨S2048x128, .f32⟩
  | .hbm, ⟨38, _⟩ => ⟨S1x2048x1x128, .f32⟩
  | .hbm, ⟨39, _⟩ => ⟨S1x2048x1x128, .f32⟩
  | .hbm, ⟨40, _⟩ => ⟨S2048x128, .f32⟩
  | .hbm, ⟨41, _⟩ => ⟨S1x2048x1x128, .f32⟩
  | .hbm, ⟨42, _⟩ => ⟨S1x2048x1x128, .f32⟩
  | .hbm, ⟨43, _⟩ => ⟨S2048x128, .f32⟩
  | .hbm, ⟨44, _⟩ => ⟨S384x8x192, .f32⟩
  | .hbm, ⟨45, _⟩ => ⟨S384x8x128, .f32⟩
  | .hbm, ⟨46, _⟩ => ⟨S384x1024, .f32⟩
  | .hbm, ⟨47, _⟩ => ⟨S384x8x64, .f32⟩
  | .hbm, ⟨48, _⟩ => ⟨S_, .f32⟩
  | .hbm, ⟨49, _⟩ => ⟨S384x8x64, .f32⟩
  | .hbm, ⟨50, _⟩ => ⟨S384x8x128, .f32⟩
  | .hbm, ⟨51, _⟩ => ⟨S384x1024, .f32⟩
  | .hbm, ⟨52, _⟩ => ⟨S384x8x32, .f32⟩
  | .hbm, ⟨53, _⟩ => ⟨S384x8x32, .f32⟩
  | .hbm, ⟨54, _⟩ => ⟨S384x8x32, .f32⟩
  | .hbm, ⟨55, _⟩ => ⟨S384x8x64, .f32⟩
  | .hbm, ⟨56, _⟩ => ⟨S384x8x128, .f32⟩
  | .hbm, ⟨57, _⟩ => ⟨S384x1024, .f32⟩
  | .hbm, ⟨58, _⟩ => ⟨S384x3072, .f32⟩
  | .hbm, ⟨59, _⟩ => ⟨S384x3072, .bf16⟩
  | .hbm, ⟨60, _⟩ => ⟨S256x2048, .bf16⟩
  | .hbm, ⟨61, _⟩ => ⟨S1x384, .f32⟩
  | .hbm, ⟨62, _⟩ => ⟨S1x256, .f32⟩
  | .hbm, ⟨63, _⟩ => ⟨S8x16384x384, .bf16⟩
  | .hbm, ⟨64, _⟩ => ⟨S16384x256, .f32⟩
  | .hbm, ⟨65, _⟩ => ⟨S16384x64, .f32⟩
  | .hbm, ⟨66, _⟩ => ⟨S16384x384, .bf16⟩
  | .local _ .vmem, ⟨0, _⟩ => ⟨S512x384, .f32⟩
  | .local _ .vmem, ⟨1, _⟩ => ⟨S512x384, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x384, .f32⟩
  | .local _ .vmem, ⟨13, _⟩ => ⟨S1x256, .f32⟩
  | .local _ .vmem, ⟨14, _⟩ => ⟨S384x3072, .bf16⟩
  | .local _ .vmem, ⟨15, _⟩ => ⟨S256x2048, .bf16⟩
  | .local _ .vmem, ⟨16, _⟩ => ⟨S8x512x384, .bf16⟩
  | .local _ .vmem, ⟨17, _⟩ => ⟨S8x512x384, .bf16⟩
  | .local _ .vmem, ⟨18, _⟩ => ⟨S512x256, .f32⟩
  | .local _ .vmem, ⟨19, _⟩ => ⟨S512x256, .f32⟩
  | .local _ .vmem, ⟨20, _⟩ => ⟨S512x64, .f32⟩
  | .local _ .vmem, ⟨21, _⟩ => ⟨S512x64, .f32⟩
  | .local _ .vmem, ⟨22, _⟩ => ⟨S512x384, .bf16⟩
  | .local _ .vmem, ⟨23, _⟩ => ⟨S512x384, .bf16⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51_0 : Ref sig .tc := ⟨.hbm, 63, rfl⟩
abbrev main_v51_1 : Ref sig .tc := ⟨.hbm, 64, rfl⟩
abbrev main_v51_2 : Ref sig .tc := ⟨.hbm, 65, rfl⟩
abbrev main_v51_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S16384x384 : Shape := ⟨2, ![16384, 384]⟩
abbrev S16384x256 : Shape := ⟨2, ![16384, 256]⟩
abbrev S16384x64 : Shape := ⟨2, ![16384, 64]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S2048 : Shape := ⟨1, ![2048]⟩
abbrev S1x2048 : Shape := ⟨2, ![1, 2048]⟩
abbrev S8x2048 : Shape := ⟨2, ![8, 2048]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x384 : Shape := ⟨2, ![1, 384]⟩
abbrev S16384x1536 : Shape := ⟨2, ![16384, 1536]⟩
abbrev S16384x8x192 : Shape := ⟨3, ![16384, 8, 192]⟩
abbrev S16384x8x128 : Shape := ⟨3, ![16384, 8, 128]⟩
abbrev S16384x8x64 : Shape := ⟨3, ![16384, 8, 64]⟩
abbrev S16384x1x32 : Shape := ⟨3, ![16384, 1, 32]⟩
abbrev S16384x8x32 : Shape := ⟨3, ![16384, 8, 32]⟩
abbrev S1x256 : Shape := ⟨2, ![1, 256]⟩
abbrev S256x8x256 : Shape := ⟨3, ![256, 8, 256]⟩
abbrev S256x8x128 : Shape := ⟨3, ![256, 8, 128]⟩
abbrev S8x16384x256 : Shape := ⟨3, ![8, 16384, 256]⟩
abbrev S8x16384x64 : Shape := ⟨3, ![8, 16384, 64]⟩
abbrev S8x16384x384 : Shape := ⟨3, ![8, 16384, 384]⟩

abbrev nBuf : Space → Nat
  | .hbm => 103
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x256, .f32⟩
  | .hbm, ⟨2, _⟩ => ⟨S16384x64, .f32⟩
  | .hbm, ⟨3, _⟩ => ⟨S384, .f32⟩
  | .hbm, ⟨4, _⟩ => ⟨S256, .f32⟩
  | .hbm, ⟨5, _⟩ => ⟨S384x1536, .f32⟩
  | .hbm, ⟨6, _⟩ => ⟨S256x2048, .f32⟩
  | .hbm, ⟨7, _⟩ => ⟨S2048, .i32⟩
  | .hbm, ⟨8, _⟩ => ⟨S1x2048, .i32⟩
  | .hbm, ⟨9, _⟩ => ⟨S8x2048, .i32⟩
  | .hbm, ⟨10, _⟩ => ⟨S16384, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S16384, .f32⟩
  | .hbm, ⟨20, _⟩ => ⟨S16384x1, .f32⟩
  | .hbm, ⟨21, _⟩ => ⟨S1x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x384, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x384, .f32⟩
  | .hbm, ⟨39, _⟩ => ⟨S16384x384, .f32⟩
  | .hbm, ⟨40, _⟩ => ⟨S1x384, .f32⟩
  | .hbm, ⟨41, _⟩ => ⟨S16384x384, .f32⟩
  | .hbm, ⟨42, _⟩ => ⟨S16384x384, .f32⟩
  | .hbm, ⟨43, _⟩ => ⟨S16384x1536, .f32⟩
  | .hbm, ⟨44, _⟩ => ⟨S16384x8x192, .f32⟩
  | .hbm, ⟨45, _⟩ => ⟨S16384x8x128, .f32⟩
  | .hbm, ⟨46, _⟩ => ⟨S16384x8x64, .f32⟩
  | .hbm, ⟨47, _⟩ => ⟨S16384x1x32, .f32⟩
  | .hbm, ⟨48, _⟩ => ⟨S16384x1x32, .f32⟩
  | .hbm, ⟨49, _⟩ => ⟨S16384x8x32, .f32⟩
  | .hbm, ⟨50, _⟩ => ⟨S16384x8x32, .f32⟩
  | .hbm, ⟨51, _⟩ => ⟨S16384x8x32, .f32⟩
  | .hbm, ⟨52, _⟩ => ⟨S16384x8x32, .f32⟩
  | .hbm, ⟨53, _⟩ => ⟨S16384x8x32, .f32⟩
  | .hbm, ⟨54, _⟩ => ⟨S16384x8x32, .f32⟩
  | .hbm, ⟨55, _⟩ => ⟨S16384x8x32, .f32⟩
  | .hbm, ⟨56, _⟩ => ⟨S16384x8x32, .f32⟩
  | .hbm, ⟨57, _⟩ => ⟨S16384x8x32, .f32⟩
  | .hbm, ⟨58, _⟩ => ⟨S16384x8x32, .f32⟩
  | .hbm, ⟨59, _⟩ => ⟨S16384x8x32, .f32⟩
  | .hbm, ⟨60, _⟩ => ⟨S16384x8x32, .f32⟩
  | .hbm, ⟨61, _⟩ => ⟨S16384x8x32, .f32⟩
  | .hbm, ⟨62, _⟩ => ⟨S16384x8x32, .f32⟩
  | .hbm, ⟨63, _⟩ => ⟨S16384x8x64, .f32⟩
  | .hbm, ⟨64, _⟩ => ⟨S16384x256, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x256, .f32⟩
  | .hbm, ⟨76, _⟩ => ⟨S16384x256, .f32⟩
  | .hbm, ⟨77, _⟩ => ⟨S1x256, .f32⟩
  | .hbm, ⟨78, _⟩ => ⟨S16384x256, .f32⟩
  | .hbm, ⟨79, _⟩ => ⟨S16384x256, .f32⟩
  | .hbm, ⟨80, _⟩ => ⟨S16384x32, .f32⟩
  | .hbm, ⟨81, _⟩ => ⟨S16384x32, .f32⟩
  | .hbm, ⟨82, _⟩ => ⟨S16384x32, .f32⟩
  | .hbm, ⟨83, _⟩ => ⟨S16384x32, .f32⟩
  | .hbm, ⟨84, _⟩ => ⟨S16384x32, .f32⟩
  | .hbm, ⟨85, _⟩ => ⟨S16384x32, .f32⟩
  | .hbm, ⟨86, _⟩ => ⟨S16384x32, .f32⟩
  | .hbm, ⟨87, _⟩ => ⟨S16384x32, .f32⟩
  | .hbm, ⟨88, _⟩ => ⟨S16384x32, .f32⟩
  | .hbm, ⟨89, _⟩ => ⟨S16384x32, .f32⟩
  | .hbm, ⟨90, _⟩ => ⟨S16384x64, .f32⟩
  | .hbm, ⟨91, _⟩ => ⟨S256x8x256, .f32⟩
  | .hbm, ⟨92, _⟩ => ⟨S256x8x128, .f32⟩
  | .hbm, ⟨93, _⟩ => ⟨S8x16384x256, .f32⟩
  | .hbm, ⟨94, _⟩ => ⟨S8x16384x64, .f32⟩
  | .hbm, ⟨95, _⟩ => ⟨S_, .f32⟩
  | .hbm, ⟨96, _⟩ => ⟨S8x16384x64, .f32⟩
  | .hbm, ⟨97, _⟩ => ⟨S8x16384x384, .f32⟩
  | .hbm, ⟨98, _⟩ => ⟨S_, .f32⟩
  | .hbm, ⟨99, _⟩ => ⟨S16384x64, .f32⟩
  | .hbm, ⟨100, _⟩ => ⟨S16384x384, .f32⟩
  | .hbm, ⟨101, _⟩ => ⟨S8x16384x384, .bf16⟩
  | .hbm, ⟨102, _⟩ => ⟨S16384x384, .bf16⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_4 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_7 : Ref sig .tc := ⟨.hbm, 95, rfl⟩
abbrev main_v80 : Ref sig .tc := ⟨.hbm, 96, rfl⟩
abbrev main_v81 : Ref sig .tc := ⟨.hbm, 97, rfl⟩
abbrev main_cst_8 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Proof.Consts.lean ====
/- The float constants the two programs spell, as the extended reals they denote. -/
module

public import proofs.«01_k».proof.KernelIdeal
public import Idealize.ShloMosaic.PureOps.Ideal
public import Idealize.ShloMosaic.PureOps.IdealRules
public import Mathlib.Analysis.SpecialFunctions.Log.Basic

@[expose] public section

noncomputable section

namespace Cert.Consts
open Idealize.ShloMosaic

/-- The pattern of minus infinity is `⊥`. -/
theorem neg_inf : Ideal.ofBits .f32 0xFF800000#32 = ⊥ := by
  simp [Ideal.ofBits, Ideal.ieee]

/-- The pattern of infinity is `⊤`. -/
theorem pos_inf : Ideal.ofBits .f32 0x7F800000#32 = ⊤ := by
  simp [Ideal.ofBits, Ideal.ieee]

/-- The pattern of zero is `0`. -/
theorem zero_bits : Ideal.ofBits .f32 0x00000000#32 = 0 := by
  simp [Ideal.ofBits, Ideal.ieee]

/-- `192.0` is the real `192`. -/
theorem ofBits_192 : Ideal.ofBits .f32 0x43400000#32 = ((192 : ℝ) : EReal) := by
  simp [Ideal.ofBits, Ideal.ieee, -EReal.coe_mul]; norm_num

/-- The factor of the scores. -/
def fac : ℝ := (Real.sqrt 192)⁻¹

/-- The real the kernel's named constant stands for. -/
def scl : ℝ := fac * (Real.log 2)⁻¹

/-- It is positive. -/
theorem scl_pos : 0 < scl :=
  mul_pos (inv_pos.mpr (Real.sqrt_pos.mpr (by norm_num))) (inv_pos.mpr (Real.log_pos (by norm_num)))

/-- The kernel's named constant is that real. -/
theorem named_scl : Named.named (F := Ideal) Cert.KernelIdeal.κ "scale_log2e" (φ := .f32) 0x3DD53B95#32 = (scl : EReal) :=
  IdealRules.named_const.ideal_named_scalar _ _ _ _ rfl

/-- A quotient by the root of `192.0` is a product with the factor. -/
theorem div_root (x : ℝ) : Ideal.div (x : EReal) (Ideal.sqrt (Ideal.ofBits .f32 0x43400000#32)) = ((x * fac : ℝ) : EReal) := by
  rw [ofBits_192, Ideal.sqrt_coe, if_neg (by norm_num),
    Ideal.div_coe (Real.sqrt_pos.mpr (by norm_num : (0 : ℝ) < 192)).ne', ← EReal.coe_mul, one_div]
  rfl

end Cert.Consts
-- ==== Proof.Sums.lean ====
/- Facts about sums of reals that the values of the two programs need: a row's weights summed block by block, as the
   kernel adds them, and key by key, as the reference does. -/
module

public import Mathlib.Analysis.SpecialFunctions.Exp
public import Mathlib.Analysis.SpecialFunctions.Pow.Real
public import Mathlib.Algebra.BigOperators.Intervals
public import Mathlib.Data.EReal.Operations
public import Mathlib.Data.Finset.Fold
public import Mathlib.Algebra.BigOperators.Group.Finset.Basic
public import Mathlib.Algebra.BigOperators.Fin
public import Mathlib.Tactic.FieldSimp
public import Mathlib.Tactic.Ring
public import Mathlib.Tactic.Linarith

@[expose] public section

namespace Cert.Sums

open Finset

/-- Two half-rows of 128 lanes are one row of 256. -/
theorem halves (f : ℕ → ℝ) : ∑ l ∈ range 128, (f l + f (128 + l)) = ∑ s ∈ range 256, f s := by
  rw [show (256 : ℕ) = 128 + 128 from rfl, sum_range_add, sum_add_distrib]

/-- The blocks of 256 before block `q` are the places before `256 q`. -/
theorem blocks (g : ℕ → ℝ) (q : ℕ) :
    ∑ k ∈ range q, ∑ s ∈ range 256, g (256 * k + s) = ∑ j ∈ range (256 * q), g j := by
  induction q with
  | zero => simp
  | succ q ih => rw [sum_range_succ, ih, Nat.mul_succ, sum_range_add]

/-- A row that is zero after place `r` sums to its places up to `r`. -/
theorem masked (g : ℕ → ℝ) (n r : ℕ) (hr : r < n) :
    ∑ s ∈ range n, (if s ≤ r then g s else 0) = ∑ s ∈ range (r + 1), g s := by
  rw [← sum_filter]
  refine sum_congr ?_ fun _ _ => rfl
  ext s
  simp only [mem_filter, mem_range]
  omega

/-- A row's own block up to place `r`, and the blocks before it, are the places up to `256 q + r`. -/
theorem causal (g : ℕ → ℝ) (q r : ℕ) (hr : r < 256) :
    ∑ s ∈ range 256, (if s ≤ r then g (256 * q + s) else 0) + ∑ k ∈ range q, ∑ s ∈ range 256, g (256 * k + s)
      = ∑ j ∈ range (256 * q + r + 1), g j := by
  rw [blocks, masked (fun s => g (256 * q + s)) 256 r hr, add_assoc, sum_range_add g (256 * q) (r + 1), add_comm]

/-- A mean by exponential weights does not see which number is taken off the scores first. -/
theorem mean (t x : ℕ → ℝ) (a b d : ℝ) (n : ℕ) :
    (∑ j ∈ range n, Real.exp ((t j - a) * d) * x j) / ∑ j ∈ range n, Real.exp ((t j - a) * d)
      = ∑ j ∈ range n, x j * (Real.exp (t j * d - b) / ∑ i ∈ range n, Real.exp (t i * d - b)) := by
  have h : ∀ j, Real.exp ((t j - a) * d) = Real.exp (b - a * d) * Real.exp (t j * d - b) := fun j => by
    rw [← Real.exp_add]; congr 1; ring
  simp only [h, mul_assoc]
  rw [← mul_sum, ← mul_sum, mul_div_mul_left _ _ (Real.exp_ne_zero _), div_eq_mul_inv, sum_mul]
  exact sum_congr rfl fun j _ => by ring

/-- A power of two at a score times `d / log 2` is the exponential at the score times `d`. -/
theorem two_rpow (t a d : ℝ) :
    (2 : ℝ) ^ (t * (d * (Real.log 2)⁻¹) - a * (d * (Real.log 2)⁻¹)) = Real.exp ((t - a) * d) := by
  have h2 : Real.log 2 ≠ 0 := (Real.log_pos (by norm_num)).ne'
  rw [Real.rpow_def_of_pos (by norm_num)]
  congr 1
  field_simp

/-- A finite sum of reals is the same sum of them as extended reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [sum_insert ha, sum_insert ha, EReal.coe_add, ih]

/-- A sum over `Fin n` of reals that are a function of the place. -/
theorem coe_sum_fin (n : ℕ) (f : ℕ → ℝ) : ∑ i : Fin n, ((f i : ℝ) : EReal) = ((∑ i ∈ range n, f i : ℝ) : EReal) := by
  rw [← coe_sum, Fin.sum_univ_eq_sum_range]

/-- The maximum of entries none of which is `⊤` and one of which is real, is real; `op` is the maximum and `b` is `⊥`,
    however they are written. -/
theorem fold_max_real {ι : Type} [Fintype ι] {op : EReal → EReal → EReal} [Std.Commutative op] [Std.Associative op]
    (hop : ∀ x y, op x y = max x y) {b : EReal} (hb : b = ⊥) (f : ι → EReal) (h : ∀ i, f i ≠ ⊤) (i₀ : ι) (h₀ : f i₀ ≠ ⊥) :
    ∃ r : ℝ, Finset.univ.fold op b f = (r : EReal) := by
  classical
  have key : ∀ s : Finset ι, s.fold op b f ≠ ⊤ ∧ (∀ i ∈ s, f i ≤ s.fold op b f) := by
    intro s
    induction s using Finset.induction with
    | empty => simp [hb]
    | insert a s ha ih =>
      rw [Finset.fold_insert ha, hop]
      refine ⟨(max_lt (lt_top_iff_ne_top.mpr (h a)) (lt_top_iff_ne_top.mpr ih.1)).ne, fun i hi => ?_⟩
      rcases Finset.mem_insert.mp hi with rfl | hi
      · exact le_max_left _ _
      · exact (ih.2 i hi).trans (le_max_right _ _)
  have h2 : Finset.univ.fold op b f ≠ ⊥ :=
    ((bot_lt_iff_ne_bot.mpr h₀).trans_le ((key _).2 i₀ (mem_univ _))).ne'
  exact ⟨_, (EReal.coe_toReal (key _).1 h2).symm⟩

end Cert.Sums
-- ==== Proof.Finite.lean ====
/- Arguments whose entries are all finite are arrays of reals. -/
module

public import proofs.«01_k».proof.Defs
public import proofs.«01_k».proof.Proof.Consts
public import proofs.«01_k».proof.Proof.Sums
public import Idealize.ShloMosaic.Lib.Pipeline.ValueKit

@[expose] public section
set_option maxRecDepth 16384
set_option maxHeartbeats 200000
noncomputable section
namespace Cert.Finite
open Idealize.ShloMosaic Idealize.ShloMosaic.TcCoe

/-- An entry whose absolute value is below infinity is a real. -/
theorem real_of_lt (x y : Ideal .f32) (hy : y = ⊤) (h : FloatOps.cmpf .olt (max x (-x) : EReal) y = 1#1) : ∃ r : ℝ, x = (r : EReal) := by
  subst hy
  rw [Ideal.cmpf_def] at h
  induction x using EReal.rec with
  | bot => simp [Ideal.cmp] at h
  | coe r => exact ⟨r, rfl⟩
  | top => simp [Ideal.cmp] at h

/-- The same of a whole array against the array of infinities. -/
theorem reals {s : Shape} (x : FVec Ideal s .f32) {s₀ : Shape} (d : Fin s₀.rank → Fin s.rank) (hb : s₀.BroadcastsInDim s d)
    (h : cmpf .olt (Host.absf x) (broadcastInDim s d hb (constant s₀ .f32 0x7F800000#32)) = fun _ => 1#1) (y : s.Idx) :
    ∃ r : ℝ, x y = (r : EReal) :=
  real_of_lt (x y) _ Cert.Consts.pos_inf (congrFun h y)

/-- Four coordinates' reals as a function of naturals. -/
theorem choose4 {a b c d : ℕ} (x : FVec Ideal ⟨4, ![a, b, c, d]⟩ .f32) (h : ∀ y, ∃ r : ℝ, x y = (r : EReal)) :
    ∃ f : ℕ → ℕ → ℕ → ℕ → ℝ, ∀ (i : Fin a) (j : Fin b) (k : Fin c) (l : Fin d), x (ix4 i j k l) = ((f i.val j.val k.val l.val : ℝ) : EReal) := by
  choose g hg using h
  refine ⟨fun i j k l => if hh : i < a ∧ j < b ∧ k < c ∧ l < d then g (ix4 ⟨i, hh.1⟩ ⟨j, hh.2.1⟩ ⟨k, hh.2.2.1⟩ ⟨l, hh.2.2.2⟩) else 0,
    fun i j k l => ?_⟩
  beta_reduce
  rw [dif_pos ⟨i.isLt, j.isLt, k.isLt, l.isLt⟩]
  exact hg _

/-- Three coordinates' reals as a function of naturals. -/
theorem choose3 {a b c : ℕ} (x : FVec Ideal ⟨3, ![a, b, c]⟩ .f32) (h : ∀ y, ∃ r : ℝ, x y = (r : EReal)) :
    ∃ f : ℕ → ℕ → ℕ → ℝ, ∀ (i : Fin a) (j : Fin b) (k : Fin c), x (ix3 i j k) = ((f i.val j.val k.val : ℝ) : EReal) := by
  choose g hg using h
  refine ⟨fun i j k => if hh : i < a ∧ j < b ∧ k < c then g (ix3 ⟨i, hh.1⟩ ⟨j, hh.2.1⟩ ⟨k, hh.2.2⟩) else 0, fun i j k => ?_⟩
  beta_reduce
  rw [dif_pos ⟨i.isLt, j.isLt, k.isLt⟩]
  exact hg _

open Cert.KernelIdeal in
/-- Under the precondition the four arguments are arrays of reals. -/
theorem args [Cert.Pre_finite.Facts] (m : (ℓ : Loc nD τ sig) → Buf (Elt Ideal) ℓ) (h : Cert.Pre_KernelIdeal_finite m) (c : Dev nD) :
    (∃ f : ℕ → ℕ → ℕ → ℕ → ℝ, ∀ (i j : Fin 8) (k : Fin 2048) (l : Fin 256),
      (m ((c.tc : Thread nD τ).loc main_arg0) : FVec Ideal S8x8x2048x256 .f32) (ix4 i j k l) = ((f i.val j.val k.val l.val : ℝ) : EReal))
    ∧ (∃ f : ℕ → ℕ → ℕ → ℕ → ℝ, ∀ (i j : Fin 8) (k : Fin 2048) (l : Fin 64),
      (m ((c.tc : Thread nD τ).loc main_arg1) : FVec Ideal S8x8x2048x64 .f32) (ix4 i j k l) = ((f i.val j.val k.val l.val : ℝ) : EReal))
    ∧ (∃ f : ℕ → ℕ → ℕ → ℝ, ∀ (i : Fin 8) (k : Fin 2048) (l : Fin 256),
      (m ((c.tc : Thread nD τ).loc main_arg2) : FVec Ideal S8x2048x256 .f32) (ix3 i k l) = ((f i.val k.val l.val : ℝ) : EReal))
    ∧ (∃ f : ℕ → ℕ → ℕ → ℝ, ∀ (i : Fin 8) (k : Fin 2048) (l : Fin 64),
      (m ((c.tc : Thread nD τ).loc main_arg3) : FVec Ideal S8x2048x64 .f32) (ix3 i k l) = ((f i.val k.val l.val : ℝ) : EReal)) := by
  obtain ⟨h0, h1, h2, h3⟩ := h c
  exact ⟨choose4 _ (reals _ _ _ h0), choose4 _ (reals _ _ _ h1), choose3 _ (reals _ _ _ h2), choose3 _ (reals _ _ _ h3)⟩

end Cert.Finite
end
-- ==== Proof.NormMatmul.lean ====
/- The projections an even layer opens with: the kernel's products with its own order of the columns. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Quiescent

@[expose] public section
set_option maxRecDepth 16384
set_option maxHeartbeats 200000
noncomputable section
namespace Cert.Kernel2Ideal.Own
open Idealize.ShloMosaic

/-- A row over its root mean square, times the weights. -/
def unit (y g : Fin 1024 → EReal) (l : Fin 1024) : EReal :=
  y l * Ideal.rsqrt (Ideal.div (∑ u, y u * y u) (Ideal.ofBits .f32 0x44800000#32) + Ideal.ofBits .f32 0x358637BD#32) * g l

end Cert.Kernel2Ideal.Own

namespace Cert.Reference2Ideal.Own
open Cert.Reference2Ideal Cert.Reference2Ideal.Gen
open Idealize.ShloMosaic Idealize.ShloMosaic.TcCoe
open Cert.Kernel2Ideal.Own (unit)

/-- The reference's product, all its columns. -/
def prod (x : FVec Ideal S16384x1024 .f32) (g : FVec Ideal S1024 .f32) (w : FVec Ideal S1024x3592 .f32) : FVec Ideal S16384x3592 .f32 :=
  Host.dotGeneral dot_S16384x1024_S1024x3592_S16384x3592_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem prod_at (x : FVec Ideal S16384x1024 .f32) (g : FVec Ideal S1024 .f32) (w : FVec Ideal S1024x3592 .f32) (i : Fin 16384) (e : Fin 3592) :
    prod x g w (ix2 i e) = ∑ l : Fin 1024, unit (fun l => x (ix2 i l)) (fun l => g (ix1 l)) l * w (ix2 l e) := by
  unfold prod unit
  pointwise

/-- The reference's last result: the eight gates' columns, then zeros. -/
def gates (u : FVec Ideal S16384x3592 .f32) : FVec Ideal S16384x128 .f32 :=
  concatenate S16384x128 1 [⟨S16384x4, extractStridedSlice S16384x4 ![0, 2048] u slices_S16384x3592_S16384x4_0_2048⟩, ⟨S16384x4, extractStridedSlice S16384x4 ![0, 2052] u slices_S16384x3592_S16384x4_0_2052⟩, ⟨S16384x120, broadcastInDim S16384x120 ![] bcast_S_S16384x120 (constant S_ .f32 0x00000000#32 : FVec Ideal S_ .f32)⟩] concatenates_S16384x4_S16384x4_S16384x120_S16384x128_d1

theorem gates_at (u : FVec Ideal S16384x3592 .f32) (i : Fin 16384) (e : Fin 128) :
    gates u (ix2 i e) = if h : e.val < 8 then u (ix2 i ⟨2048 + e.val, by omega⟩) else 0 := by
  unfold gates
  pointwise
  repeat' split
  all_goals first
    | (exfalso; omega)
    | rfl
    | exact congrArg (fun k => u (ix2 i k)) (Fin.ext (by dsimp only <;> omega))

end Cert.Reference2Ideal.Own

namespace Cert.Kernel2Ideal.Own
open Cert.Kernel2Ideal Cert.Kernel2Ideal.Gen
open Idealize.ShloMosaic Idealize.ShloMosaic.TcCoe Idealize.SL.Sem

theorem unit_at (x : Vec Ideal S512x1024 .f32) (g : Vec Ideal S1x1024 .f32) (i : Fin 512) (l : Fin 1024) :
    k0_pay4 x g (ix2 i l) = unit (fun l => x (ix2 i l)) (fun l => g (ix2 0 l)) l := by
  unfold unit
  pointwise [k0_pay4]

/-- The argument's columns in the kernel's order, then zeros. -/
def ordered (w : FVec Ideal S1024x3592 .f32) : FVec Ideal S1024x3712 .bf16 :=
  truncf .bf16 (concatenate S1024x3712 1 [⟨S1024x1536, extractStridedSlice S1024x1536 ![0, 0] w slices_S1024x3592_S1024x1536_0_0⟩, ⟨S1024x512, extractStridedSlice S1024x512 ![0, 1536] w slices_S1024x3592_S1024x512_0_1536⟩, ⟨S1024x512, extractStridedSlice S1024x512 ![0, 2056] w slices_S1024x3592_S1024x512_0_2056⟩, ⟨S1024x256, extractStridedSlice S1024x256 ![0, 2568] w slices_S1024x3592_S1024x256_0_2568⟩, ⟨S1024x256, extractStridedSlice S1024x256 ![0, 2824] w slices_S1024x3592_S1024x256_0_2824⟩, ⟨S1024x512, extractStridedSlice S1024x512 ![0, 3080] w slices_S1024x3592_S1024x512_0_3080⟩, ⟨S1024x4, extractStridedSlice S1024x4 ![0, 2048] w slices_S1024x3592_S1024x4_0_2048⟩, ⟨S1024x4, extractStridedSlice S1024x4 ![0, 2052] w slices_S1024x3592_S1024x4_0_2052⟩, ⟨S1024x120, broadcastInDim S1024x120 ![] bcast_S_S1024x120 (constant S_ .f32 0x00000000#32 : FVec Ideal S_ .f32)⟩] concatenates_S1024x1536_S1024x512_S1024x512_S1024x256_S1024x256_S1024x512_S1024x4_S1024x4_S1024x120_S1024x3712_d1) bitsLt_bf16_f32

theorem ordered_at (w : FVec Ideal S1024x3592 .f32) (l : Fin 1024) (e : Fin 3712) (f : Fin 3592)
    (h : (e.val < 2048 ∧ f.val = e.val) ∨ (2048 ≤ e.val ∧ e.val < 3584 ∧ f.val = e.val + 8) ∨ (3584 ≤ e.val ∧ e.val < 3592 ∧ f.val + 1536 = e.val)) :
    ordered w (ix2 l e) = w (ix2 l f) := by
  have hf := f.isLt
  unfold ordered
  pointwise
  repeat' split
  all_goals first
    | (exfalso; omega)
    | exact congrArg (fun k => w (ix2 l k)) (Fin.ext (by dsimp only <;> omega))

theorem ordered_zero (w : FVec Ideal S1024x3592 .f32) (l : Fin 1024) (e : Fin 3712) (h : 3592 ≤ e.val) : ordered w (ix2 l e) = 0 := by
  unfold ordered
  pointwise
  repeat' split
  all_goals first
    | (exfalso; omega)
    | rfl

section
variable (m : (ℓ : Loc nD τ sig) → Buf (Elt Ideal) ℓ) (c : Dev nD)

/-- The weights the call takes: the argument's columns in the kernel's order, then zeros. -/
theorem V_w : V m c main_v10 = ordered (m ((c.tc : Thread nD τ).loc main_arg2)) := by
  unfold V
  after_results
  all_goals try rfl

/-- The weights the call takes, at a column `e` of the argument's column `f`. -/
theorem weight (l : Fin 1024) (e : Fin 3712) (f : Fin 3592)
    (h : (e.val < 2048 ∧ f.val = e.val) ∨ (2048 ≤ e.val ∧ e.val < 3584 ∧ f.val = e.val + 8) ∨ (3584 ≤ e.val ∧ e.val < 3592 ∧ f.val + 1536 = e.val)) :
    (V m c main_v10 : FVec Ideal S1024x3712 .bf16) (ix2 l e) = (m ((c.tc : Thread nD τ).loc main_arg2) : FVec Ideal S1024x3592 .f32) (ix2 l f) := by
  rw [V_w]
  exact ordered_at _ l e f h

/-- Past the argument's columns the weights are zeros. -/
theorem weight_zero (l : Fin 1024) (e : Fin 3712) (h : 3592 ≤ e.val) : (V m c main_v10 : FVec Ideal S1024x3712 .bf16) (ix2 l e) = (0 : EReal) := by
  rw [V_w]
  exact ordered_zero _ l e h

/-- The norm's weights the call takes: the argument as one row. -/
theorem V_g : V m c main_v11 = (shapeCast S1x1024 (m ((c.tc : Thread nD τ).loc main_arg1) : FVec Ideal S1024 .f32) shapeCasts_S1024_S1x1024 : FVec Ideal S1x1024 .f32) := by
  unfold V
  after_results
  all_goals try rfl

/-- Which block each window holds at a point. -/
theorem idx (t : Fin cfg0.N) : (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) :=
  (by decide +kernel : ∀ t : Fin grid0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0)) t

/-- The token of a row of a point's block. -/
def row (t : Fin cfg0.N) (r : Fin 512) : Fin 16384 := ⟨512 * t.val + r.val, by have : t.val < 32 := t.isLt; omega⟩

theorem block_x (t : Fin cfg0.N) (i : Fin 512) (l : Fin 1024) :
    iblk m c 0 t (ix2 i l) = (m ((c.tc : Thread nD τ).loc main_arg0) : FVec Ideal S16384x1024 .f32) (ix2 (row t i) l) := by
  obtain ⟨⟨a0, a1⟩, _⟩ := idx t
  unfold row
  blk_point [iblk, V, a0, a1]

theorem block_g (t : Fin cfg0.N) (l : Fin 1024) :
    iblk m c 1 t (ix2 0 l) = (m ((c.tc : Thread nD τ).loc main_arg1) : FVec Ideal S1024 .f32) (ix1 l) := by
  obtain ⟨_, ⟨a0, a1⟩, _⟩ := idx t
  blk_simp [iblk]
  rw [V_g, show (win0_1.blk t).view.emb (ix2 0 l) = ix2 0 l by blk_ext; all_goals omega]
  pointwise

theorem block_w (t : Fin cfg0.N) (l : Fin 1024) (e : Fin 3712) :
    iblk m c 2 t (ix2 l e) = (V m c main_v10 : FVec Ideal S1024x3712 .bf16) (ix2 l e) := by
  obtain ⟨_, _, ⟨a0, a1⟩, _⟩ := idx t
  blk_simp [iblk]
  rw [show (win0_2.blk t).view.emb (ix2 l e) = ix2 l e by blk_ext; all_goals omega]

theorem pay9 (x : Vec Ideal S512x1024 .f32) (g : Vec Ideal S1x1024 .f32) (w : Vec Ideal S1024x3712 .bf16) : k0_pay9 x g w = k0_pay4 x g := by
  unfold k0_pay9
  exact congrArg₂ k0_pay4 (View.ld_unit_zero (by funext a; fin_cases a <;> rfl) _ _) (View.ld_unit_zero (by funext a; fin_cases a <;> rfl) _ _)

/-- The reference's product, of the kernel's arguments. -/
def projected : FVec Ideal Cert.Reference2Ideal.S16384x3592 .f32 :=
  Cert.Reference2Ideal.Own.prod (m ((c.tc : Thread nD τ).loc main_arg0)) (m ((c.tc : Thread nD τ).loc main_arg1)) (m ((c.tc : Thread nD τ).loc main_arg2))

/-- A row of a point's block against a column of the kernel's weights: the reference's product at the argument's column. -/
theorem column (t : Fin cfg0.N) (i : Fin 512) (e : Fin 3712) (f : Fin 3592)
    (h : (e.val < 2048 ∧ f.val = e.val) ∨ (2048 ≤ e.val ∧ e.val < 3584 ∧ f.val = e.val + 8) ∨ (3584 ≤ e.val ∧ e.val < 3592 ∧ f.val + 1536 = e.val)) :
    ∑ l, k0_pay4 (iblk m c 0 t) (iblk m c 1 t) (ix2 i l) * (iblk m c 2 t : Vec Ideal S1024x3712 .bf16) (ix2 l e) = projected m c (ix2 (row t i) f) := by
  unfold projected
  rw [Cert.Reference2Ideal.Own.prod_at]
  refine Finset.sum_congr rfl fun l _ => congrArg₂ (· * ·) ?_ ((block_w m c t l e).trans (weight m c l e f h))
  rw [unit_at]
  simp only [block_x, block_g]

/-- The same past the argument's columns. -/
theorem column_zero (t : Fin cfg0.N) (i : Fin 512) (e : Fin 3712) (h : 3592 ≤ e.val) :
    ∑ l, k0_pay4 (iblk m c 0 t) (iblk m c 1 t) (ix2 i l) * (iblk m c 2 t : Vec Ideal S1024x3712 .bf16) (ix2 l e) = (0 : EReal) :=
  Finset.sum_eq_zero fun l _ => (congrArg _ ((block_w m c t l e).trans (weight_zero m c l e h))).trans (mul_zero _)

theorem mul_3 (x : Vec Ideal S512x1024 .f32) (g : Vec Ideal S1x1024 .f32) (w : Vec Ideal S1024x1536 .bf16) (i : Fin 512) (v : Fin 1536) :
    k0_pay5 x g w (ix2 i v) = ∑ l, k0_pay4 x g (ix2 i l) * w (ix2 l v) := by
  pointwise [k0_pay5]

theorem ld_3 (w : Vec Ideal S1024x3712 .bf16) (l : Fin 1024) (v : Fin 1536) :
    View.ld w r0_2 (ix2 l v) = w (ix2 l ⟨0 + v.val, by omega⟩) :=
  View.ld_unit_apply_of w _ _ _ _ _ fun a => by fin_cases a <;> simp

theorem emb_3 (t : Fin cfg0.N) (i : Fin 512) (v : Fin 1536) : (win0_3.blk t).view.emb (ix2 i v) = ix2 (row t i) v := by
  obtain ⟨_, _, _, ⟨a0, a1⟩, _⟩ := idx t
  unfold row
  blk_ext
  all_goals omega

theorem slice_3 (u : FVec Ideal Cert.Reference2Ideal.S16384x3592 .f32) (i : Fin 16384) (v : Fin 1536) :
    (extractStridedSlice S16384x1536 ![0, 0] u Cert.Reference2Ideal.Gen.slices_S16384x3592_S16384x1536_0_0 : FVec Ideal S16384x1536 .f32) (ix2 i v) = u (ix2 i ⟨0 + v.val, by omega⟩) := by
  pointwise

theorem block_3 (t : Fin cfg0.N) (i : Fin 512) (v : Fin 1536) :
    (k0_pay5 (iblk m c 0 t) (iblk m c 1 t) (View.ld (iblk m c 2 t) r0_2) : FVec Ideal S512x1536 .f32) (ix2 i v) = projected m c (ix2 (row t i) ⟨0 + v.val, by omega⟩) := by
  rw [mul_3]
  exact (Finset.sum_congr rfl fun l _ => congrArg _ (ld_3 _ l v)).trans (column m c t i _ _ (by dsimp only; omega))

theorem result_3 (G : FVec Ideal S16384x1536 .f32) (hG : ∀ (r : Fin 16384) (v : Fin 1536), G (ix2 r v) = projected m c (ix2 r ⟨0 + v.val, by omega⟩)) :
    (dats m 0 c).arrAt 3 cfg0.N = G := by
  refine (dats m 0 c).arrAt_eq_of_covers 3 _ (by decide +kernel) fun t hf y => ?_
  blk_simp
  rw [after0_3]
  frame_out
  obtain ⟨i, v, rfl⟩ : ∃ (i : Fin 512) (v : Fin 1536), y = ix2 i v := ⟨y 0, y 1, by funext a; fin_cases a <;> rfl⟩
  refine (block_3 m c t i v).trans ?_
  exact ((congrArg G (emb_3 t i v)).trans (hG _ v)).symm

theorem mul_4 (x : Vec Ideal S512x1024 .f32) (g : Vec Ideal S1x1024 .f32) (w : Vec Ideal S1024x512 .bf16) (i : Fin 512) (v : Fin 512) :
    k0_pay6 x g w (ix2 i v) = ∑ l, k0_pay4 x g (ix2 i l) * w (ix2 l v) := by
  pointwise [k0_pay6]

theorem ld_4 (w : Vec Ideal S1024x3712 .bf16) (l : Fin 1024) (v : Fin 512) :
    View.ld w r0_4 (ix2 l v) = w (ix2 l ⟨1536 + v.val, by omega⟩) :=
  View.ld_unit_apply_of w _ _ _ _ _ fun a => by fin_cases a <;> simp

theorem emb_4 (t : Fin cfg0.N) (i : Fin 512) (v : Fin 512) : (win0_4.blk t).view.emb (ix2 i v) = ix2 (row t i) v := by
  obtain ⟨_, _, _, _, ⟨a0, a1⟩, _⟩ := idx t
  unfold row
  blk_ext
  all_goals omega

theorem slice_4 (u : FVec Ideal Cert.Reference2Ideal.S16384x3592 .f32) (i : Fin 16384) (v : Fin 512) :
    (extractStridedSlice S16384x512 ![0, 1536] u Cert.Reference2Ideal.Gen.slices_S16384x3592_S16384x512_0_1536 : FVec Ideal S16384x512 .f32) (ix2 i v) = u (ix2 i ⟨1536 + v.val, by omega⟩) := by
  pointwise

theorem block_4 (t : Fin cfg0.N) (i : Fin 512) (v : Fin 512) :
    (k0_pay6 (iblk m c 0 t) (iblk m c 1 t) (View.ld (iblk m c 2 t) r0_4) : FVec Ideal S512x512 .f32) (ix2 i v) = projected m c (ix2 (row t i) ⟨1536 + v.val, by omega⟩) := by
  rw [mul_4]
  exact (Finset.sum_congr rfl fun l _ => congrArg _ (ld_4 _ l v)).trans (column m c t i _ _ (by dsimp only; omega))

theorem result_4 (G : FVec Ideal S16384x512 .f32) (hG : ∀ (r : Fin 16384) (v : Fin 512), G (ix2 r v) = projected m c (ix2 r ⟨1536 + v.val, by omega⟩)) :
    (dats m 0 c).arrAt 4 cfg0.N = G := by
  refine (dats m 0 c).arrAt_eq_of_covers 4 _ (by decide +kernel) fun t hf y => ?_
  blk_simp
  rw [after0_4]
  frame_out
  obtain ⟨i, v, rfl⟩ : ∃ (i : Fin 512) (v : Fin 512), y = ix2 i v := ⟨y 0, y 1, by funext a; fin_cases a <;> rfl⟩
  refine (block_4 m c t i v).trans ?_
  exact ((congrArg G (emb_4 t i v)).trans (hG _ v)).symm

theorem mul_5 (x : Vec Ideal S512x1024 .f32) (g : Vec Ideal S1x1024 .f32) (w : Vec Ideal S1024x512 .bf16) (i : Fin 512) (v : Fin 512) :
    k0_pay7 x g w (ix2 i v) = ∑ l, k0_pay4 x g (ix2 i l) * w (ix2 l v) := by
  pointwise [k0_pay7]

theorem ld_5 (w : Vec Ideal S1024x3712 .bf16) (l : Fin 1024) (v : Fin 512) :
    View.ld w r0_6 (ix2 l v) = w (ix2 l ⟨2048 + v.val, by omega⟩) :=
  View.ld_unit_apply_of w _ _ _ _ _ fun a => by fin_cases a <;> simp

theorem emb_5 (t : Fin cfg0.N) (i : Fin 512) (v : Fin 512) : (win0_5.blk t).view.emb (ix2 i v) = ix2 (row t i) v := by
  obtain ⟨_, _, _, _, _, ⟨a0, a1⟩, _⟩ := idx t
  unfold row
  blk_ext
  all_goals omega

theorem slice_5 (u : FVec Ideal Cert.Reference2Ideal.S16384x3592 .f32) (i : Fin 16384) (v : Fin 512) :
    (extractStridedSlice S16384x512 ![0, 2056] u Cert.Reference2Ideal.Gen.slices_S16384x3592_S16384x512_0_2056 : FVec Ideal S16384x512 .f32) (ix2 i v) = u (ix2 i ⟨2056 + v.val, by omega⟩) := by
  pointwise

theorem block_5 (t : Fin cfg0.N) (i : Fin 512) (v : Fin 512) :
    (k0_pay7 (iblk m c 0 t) (iblk m c 1 t) (View.ld (iblk m c 2 t) r0_6) : FVec Ideal S512x512 .f32) (ix2 i v) = projected m c (ix2 (row t i) ⟨2056 + v.val, by omega⟩) := by
  rw [mul_5]
  exact (Finset.sum_congr rfl fun l _ => congrArg _ (ld_5 _ l v)).trans (column m c t i _ _ (by dsimp only; omega))

theorem result_5 (G : FVec Ideal S16384x512 .f32) (hG : ∀ (r : Fin 16384) (v : Fin 512), G (ix2 r v) = projected m c (ix2 r ⟨2056 + v.val, by omega⟩)) :
    (dats m 0 c).arrAt 5 cfg0.N = G := by
  refine (dats m 0 c).arrAt_eq_of_covers 5 _ (by decide +kernel) fun t hf y => ?_
  blk_simp
  rw [after0_5]
  frame_out
  obtain ⟨i, v, rfl⟩ : ∃ (i : Fin 512) (v : Fin 512), y = ix2 i v := ⟨y 0, y 1, by funext a; fin_cases a <;> rfl⟩
  refine (block_5 m c t i v).trans ?_
  exact ((congrArg G (emb_5 t i v)).trans (hG _ v)).symm

theorem mul_6 (x : Vec Ideal S512x1024 .f32) (g : Vec Ideal S1x1024 .f32) (w : Vec Ideal S1024x256 .bf16) (i : Fin 512) (v : Fin 256) :
    k0_pay8 x g w (ix2 i v) = ∑ l, k0_pay4 x g (ix2 i l) * w (ix2 l v) := by
  pointwise [k0_pay8]

theorem ld_6 (w : Vec Ideal S1024x3712 .bf16) (l : Fin 1024) (v : Fin 256) :
    View.ld w r0_7 (ix2 l v) = w (ix2 l ⟨2560 + v.val, by omega⟩) :=
  View.ld_unit_apply_of w _ _ _ _ _ fun a => by fin_cases a <;> simp

theorem emb_6 (t : Fin cfg0.N) (i : Fin 512) (v : Fin 256) : (win0_6.blk t).view.emb (ix2 i v) = ix2 (row t i) v := by
  obtain ⟨_, _, _, _, _, _, ⟨a0, a1⟩, _⟩ := idx t
  unfold row
  blk_ext
  all_goals omega

theorem slice_6 (u : FVec Ideal Cert.Reference2Ideal.S16384x3592 .f32) (i : Fin 16384) (v : Fin 256) :
    (extractStridedSlice S16384x256 ![0, 2568] u Cert.Reference2Ideal.Gen.slices_S16384x3592_S16384x256_0_2568 : FVec Ideal S16384x256 .f32) (ix2 i v) = u (ix2 i ⟨2568 + v.val, by omega⟩) := by
  pointwise

theorem block_6 (t : Fin cfg0.N) (i : Fin 512) (v : Fin 256) :
    (k0_pay8 (iblk m c 0 t) (iblk m c 1 t) (View.ld (iblk m c 2 t) r0_7) : FVec Ideal S512x256 .f32) (ix2 i v) = projected m c (ix2 (row t i) ⟨2568 + v.val, by omega⟩) := by
  rw [mul_6]
  exact (Finset.sum_congr rfl fun l _ => congrArg _ (ld_6 _ l v)).trans (column m c t i _ _ (by dsimp only; omega))

theorem result_6 (G : FVec Ideal S16384x256 .f32) (hG : ∀ (r : Fin 16384) (v : Fin 256), G (ix2 r v) = projected m c (ix2 r ⟨2568 + v.val, by omega⟩)) :
    (dats m 0 c).arrAt 6 cfg0.N = G := by
  refine (dats m 0 c).arrAt_eq_of_covers 6 _ (by decide +kernel) fun t hf y => ?_
  blk_simp
  rw [after0_6]
  frame_out
  obtain ⟨i, v, rfl⟩ : ∃ (i : Fin 512) (v : Fin 256), y = ix2 i v := ⟨y 0, y 1, by funext a; fin_cases a <;> rfl⟩
  refine (block_6 m c t i v).trans ?_
  exact ((congrArg G (emb_6 t i v)).trans (hG _ v)).symm

theorem mul_7 (a : FVec Ideal S512x1024 .bf16) (w : Vec Ideal S1024x256 .bf16) (i : Fin 512) (v : Fin 256) :
    k0_pay1 a w (ix2 i v) = ∑ l, a (ix2 i l) * w (ix2 l v) := by
  pointwise [k0_pay1]

theorem ld_7 (w : Vec Ideal S1024x3712 .bf16) (l : Fin 1024) (v : Fin 256) :
    View.ld w r0_9 (ix2 l v) = w (ix2 l ⟨2816 + v.val, by omega⟩) :=
  View.ld_unit_apply_of w _ _ _ _ _ fun a => by fin_cases a <;> simp

theorem emb_7 (t : Fin cfg0.N) (i : Fin 512) (v : Fin 256) : (win0_7.blk t).view.emb (ix2 i v) = ix2 (row t i) v := by
  obtain ⟨_, _, _, _, _, _, _, ⟨a0, a1⟩, _⟩ := idx t
  unfold row
  blk_ext
  all_goals omega

theorem slice_7 (u : FVec Ideal Cert.Reference2Ideal.S16384x3592 .f32) (i : Fin 16384) (v : Fin 256) :
    (extractStridedSlice S16384x256 ![0, 2824] u Cert.Reference2Ideal.Gen.slices_S16384x3592_S16384x256_0_2824 : FVec Ideal S16384x256 .f32) (ix2 i v) = u (ix2 i ⟨2824 + v.val, by omega⟩) := by
  pointwise

theorem block_7 (t : Fin cfg0.N) (i : Fin 512) (v : Fin 256) :
    (k0_pay1 (k0_pay9 (iblk m c 0 t) (iblk m c 1 t) (iblk m c 2 t)) (View.ld (iblk m c 2 t) r0_9) : FVec Ideal S512x256 .f32) (ix2 i v) = projected m c (ix2 (row t i) ⟨2824 + v.val, by omega⟩) := by
  rw [pay9, mul_7]
  exact (Finset.sum_congr rfl fun l _ => congrArg _ (ld_7 _ l v)).trans (column m c t i _ _ (by dsimp only; omega))

theorem result_7 (G : FVec Ideal S16384x256 .f32) (hG : ∀ (r : Fin 16384) (v : Fin 256), G (ix2 r v) = projected m c (ix2 r ⟨2824 + v.val, by omega⟩)) :
    (dats m 0 c).arrAt 7 cfg0.N = G := by
  refine (dats m 0 c).arrAt_eq_of_covers 7 _ (by decide +kernel) fun t hf y => ?_
  blk_simp
  rw [after0_7]
  frame_out
  obtain ⟨i, v, rfl⟩ : ∃ (i : Fin 512) (v : Fin 256), y = ix2 i v := ⟨y 0, y 1, by funext a; fin_cases a <;> rfl⟩
  refine (block_7 m c t i v).trans ?_
  exact ((congrArg G (emb_7 t i v)).trans (hG _ v)).symm

theorem mul_8 (a : FVec Ideal S512x1024 .bf16) (w : Vec Ideal S1024x512 .bf16) (i : Fin 512) (v : Fin 512) :
    k0_pay2 a w (ix2 i v) = ∑ l, a (ix2 i l) * w (ix2 l v) := by
  pointwise [k0_pay2]

theorem ld_8 (w : Vec Ideal S1024x3712 .bf16) (l : Fin 1024) (v : Fin 512) :
    View.ld w r0_10 (ix2 l v) = w (ix2 l ⟨3072 + v.val, by omega⟩) :=
  View.ld_unit_apply_of w _ _ _ _ _ fun a => by fin_cases a <;> simp

theorem emb_8 (t : Fin cfg0.N) (i : Fin 512) (v : Fin 512) : (win0_8.blk t).view.emb (ix2 i v) = ix2 (row t i) v := by
  obtain ⟨_, _, _, _, _, _, _, _, ⟨a0, a1⟩, _⟩ := idx t
  unfold row
  blk_ext
  all_goals omega

theorem slice_8 (u : FVec Ideal Cert.Reference2Ideal.S16384x3592 .f32) (i : Fin 16384) (v : Fin 512) :
    (extractStridedSlice S16384x512 ![0, 3080] u Cert.Reference2Ideal.Gen.slices_S16384x3592_S16384x512_0_3080 : FVec Ideal S16384x512 .f32) (ix2 i v) = u (ix2 i ⟨3080 + v.val, by omega⟩) := by
  pointwise

theorem block_8 (t : Fin cfg0.N) (i : Fin 512) (v : Fin 512) :
    (k0_pay2 (k0_pay9 (iblk m c 0 t) (iblk m c 1 t) (iblk m c 2 t)) (View.ld (iblk m c 2 t) r0_10) : FVec Ideal S512x512 .f32) (ix2 i v) = projected m c (ix2 (row t i) ⟨3080 + v.val, by omega⟩) := by
  rw [pay9, mul_8]
  exact (Finset.sum_congr rfl fun l _ => congrArg _ (ld_8 _ l v)).trans (column m c t i _ _ (by dsimp only; omega))

theorem result_8 (G : FVec Ideal S16384x512 .f32) (hG : ∀ (r : Fin 16384) (v : Fin 512), G (ix2 r v) = projected m c (ix2 r ⟨3080 + v.val, by omega⟩)) :
    (dats m 0 c).arrAt 8 cfg0.N = G := by
  refine (dats m 0 c).arrAt_eq_of_covers 8 _ (by decide +kernel) fun t hf y => ?_
  blk_simp
  rw [after0_8]
  frame_out
  obtain ⟨i, v, rfl⟩ : ∃ (i : Fin 512) (v : Fin 512), y = ix2 i v := ⟨y 0, y 1, by funext a; fin_cases a <;> rfl⟩
  refine (block_8 m c t i v).trans ?_
  exact ((congrArg G (emb_8 t i v)).trans (hG _ v)).symm

theorem mul_9 (a : FVec Ideal S512x1024 .bf16) (w : Vec Ideal S1024x128 .bf16) (i : Fin 512) (v : Fin 128) :
    k0_pay3 a w (ix2 i v) = ∑ l, a (ix2 i l) * w (ix2 l v) := by
  pointwise [k0_pay3]

theorem ld_9 (w : Vec Ideal S1024x3712 .bf16) (l : Fin 1024) (v : Fin 128) :
    View.ld w r0_11 (ix2 l v) = w (ix2 l ⟨3584 + v.val, by omega⟩) :=
  View.ld_unit_apply_of w _ _ _ _ _ fun a => by fin_cases a <;> simp

theorem emb_9 (t : Fin cfg0.N) (i : Fin 512) (v : Fin 128) : (win0_9.blk t).view.emb (ix2 i v) = ix2 (row t i) v := by
  obtain ⟨_, _, _, _, _, _, _, _, _, ⟨a0, a1⟩⟩ := idx t
  unfold row
  blk_ext
  all_goals omega

theorem block_9 (t : Fin cfg0.N) (i : Fin 512) (v : Fin 128) :
    (k0_pay3 (k0_pay9 (iblk m c 0 t) (iblk m c 1 t) (iblk m c 2 t)) (View.ld (iblk m c 2 t) r0_11) : FVec Ideal S512x128 .f32) (ix2 i v) = Cert.Reference2Ideal.Own.gates (projected m c) (ix2 (row t i) v) := by
  rw [pay9, mul_9]
  refine (Finset.sum_congr rfl fun l _ => congrArg _ (ld_9 _ l v)).trans ?_
  rw [Cert.Reference2Ideal.Own.gates_at]
  split_ifs with h
  · exact column m c t i _ _ (by dsimp only; omega)
  · exact column_zero m c t i _ (by dsimp only; omega)

theorem result_9 (G : FVec Ideal S16384x128 .f32) (hG : ∀ (r : Fin 16384) (v : Fin 128), G (ix2 r v) = Cert.Reference2Ideal.Own.gates (projected m c) (ix2 r v)) :
    (dats m 0 c).arrAt 9 cfg0.N = G := by
  refine (dats m 0 c).arrAt_eq_of_covers 9 _ (by decide +kernel) fun t hf y => ?_
  blk_simp
  rw [after0_9]
  frame_out
  obtain ⟨i, v, rfl⟩ : ∃ (i : Fin 512) (v : Fin 128), y = ix2 i v := ⟨y 0, y 1, by funext a; fin_cases a <;> rfl⟩
  refine (block_9 m c t i v).trans ?_
  exact ((congrArg G (emb_9 t i v)).trans (hG _ v)).symm

end
end Cert.Kernel2Ideal.Own

namespace Cert.Proof.NormMatmul
open Idealize.ShloMosaic Idealize.ShloMosaic.TcCoe Idealize.SL.Sem
open Cert.Kernel2Ideal.Own

/-- The kernel and the reference end with the same seven results. -/
theorem algebraic : Cert.algebraic_Kernel2Ideal_Reference2Ideal := by
  intro m ρ m' ρ' _ hagree
  refine ⟨fun c => extractStridedSlice Cert.Kernel2Ideal.S16384x1536 ![0, 0] (projected m c) Cert.Reference2Ideal.Gen.slices_S16384x3592_S16384x1536_0_0, fun c => extractStridedSlice Cert.Kernel2Ideal.S16384x512 ![0, 1536] (projected m c) Cert.Reference2Ideal.Gen.slices_S16384x3592_S16384x512_0_1536, fun c => extractStridedSlice Cert.Kernel2Ideal.S16384x512 ![0, 2056] (projected m c) Cert.Reference2Ideal.Gen.slices_S16384x3592_S16384x512_0_2056, fun c => extractStridedSlice Cert.Kernel2Ideal.S16384x256 ![0, 2568] (projected m c) Cert.Reference2Ideal.Gen.slices_S16384x3592_S16384x256_0_2568, fun c => extractStridedSlice Cert.Kernel2Ideal.S16384x256 ![0, 2824] (projected m c) Cert.Reference2Ideal.Gen.slices_S16384x3592_S16384x256_0_2824, fun c => extractStridedSlice Cert.Kernel2Ideal.S16384x512 ![0, 3080] (projected m c) Cert.Reference2Ideal.Gen.slices_S16384x3592_S16384x512_0_3080, fun c => Cert.Reference2Ideal.Own.gates (projected m c), (θ_run Cert.Kernel2Ideal.defs _ _).mono (fun _ h c =>
    ⟨(h c).1.trans (result_3 m c _ (slice_3 _)), (h c).2.1.trans (result_4 m c _ (slice_4 _)), (h c).2.2.1.trans (result_5 m c _ (slice_5 _)), (h c).2.2.2.1.trans (result_6 m c _ (slice_6 _)),
      (h c).2.2.2.2.1.trans (result_7 m c _ (slice_7 _)), (h c).2.2.2.2.2.1.trans (result_8 m c _ (slice_8 _)), (h c).2.2.2.2.2.2.1.trans (result_9 m c _ fun _ _ => rfl), (h c).2.2.2.2.2.2.2⟩)
    (Cert.Kernel2Ideal.Value.run_blocks m ρ), ?_⟩
  have hu : ∀ c : Dev Cert.Reference2Ideal.nD, Cert.Reference2Ideal.Own.prod (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = projected m c := by
    intro c
    obtain ⟨h0, h1, h2⟩ := hagree c
    rw [h0, h1, h2]
    rfl
  refine (θ_run Cert.Reference2Ideal.defs _ _).mono (fun _ h c => ?_) (Cert.Reference2Ideal.Value.run (F := Ideal) m' ρ')
  simp only [← hu c]
  exact h c

end Cert.Proof.NormMatmul
end
-- ==== Proof.OddNorm.lean ====
/- The projections an odd layer opens with: the kernel's products, its weights carrying the rotary key's columns twice,
   once with their halves exchanged and one half negated. -/
module

public import proofs.«01_k».proof.Defs
public import proofs.«01_k».proof.Proof.Finite
public import proofs.«01_k».proof.Proof.NormMatmul
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Pre_finite5
public import Idealize.ShloMosaic.Lib.Pipeline.ValueKit
public import Idealize.ShloMosaic.Lib.Claim
public import Idealize.ShloMosaic.Lib.Quiescent

@[expose] public section
set_option maxRecDepth 16384
set_option maxHeartbeats 200000
noncomputable section
namespace Cert.Kernel5Ideal.Own
open Idealize.ShloMosaic
open Cert.Kernel2Ideal.Own (unit)

/-- A sum of reals, taken as extended reals. -/
theorem sum_coe {n : ℕ} (f : Fin n → ℝ) : ∑ l, ((f l : ℝ) : EReal) = ((∑ l, f l : ℝ) : EReal) :=
  (map_sum (⟨⟨Real.toEReal, EReal.coe_zero⟩, EReal.coe_add⟩ : ℝ →+ EReal) f Finset.univ).symm

/-- A sum of reals negated is the sum of the reals negated. -/
theorem sum_neg {n : ℕ} (f : Fin n → EReal) (h : ∀ l, ∃ r : ℝ, f l = (r : EReal)) : ∑ l, -f l = -∑ l, f l := by
  choose g hg using h
  simp only [hg, ← EReal.coe_neg, sum_coe, Finset.sum_neg_distrib]

/-- The divisor of a row's mean of squares. -/
theorem ofBits_1024 : Ideal.ofBits .f32 0x44800000#32 = ((1024 : ℝ) : EReal) := by
  simp [Ideal.ofBits, Ideal.ieee, -EReal.coe_mul]; norm_num

/-- What is added to the mean of squares is a positive real. -/
theorem eps_pos : ∃ e : ℝ, 0 < e ∧ Ideal.ofBits .f32 0x358637BD#32 = (e : EReal) :=
  ⟨8796093 * 2 ^ (-43 : ℤ), by positivity, by simp [Ideal.ofBits, Ideal.ieee, -EReal.coe_mul]⟩

/-- A row of reals over its root mean square, times weights that are reals, is a row of reals. -/
theorem real_unit (y g : Fin 1024 → EReal) (hy : ∀ l, ∃ r : ℝ, y l = (r : EReal)) (hg : ∀ l, ∃ r : ℝ, g l = (r : EReal)) (l : Fin 1024) :
    ∃ r : ℝ, unit y g l = (r : EReal) := by
  choose a ha using hy
  choose b hb using hg
  obtain ⟨e, he, hE⟩ := eps_pos
  have hs : 0 < (∑ u, a u * a u) * (1 / 1024) + e := add_pos_of_nonneg_of_pos (mul_nonneg (Finset.sum_nonneg fun u _ => mul_self_nonneg _) (by norm_num)) he
  refine ⟨a l * (Real.sqrt ((∑ u, a u * a u) * (1 / 1024) + e))⁻¹ * b l, ?_⟩
  unfold unit
  simp only [ha, hb, ← EReal.coe_mul, sum_coe]
  rw [ofBits_1024, hE, Ideal.div_coe (by norm_num : (1024 : ℝ) ≠ 0), ← EReal.coe_mul, ← EReal.coe_add, Ideal.rsqrt_coe,
    if_neg hs.not_gt, if_neg hs.ne', ← EReal.coe_mul, ← EReal.coe_mul]

end Cert.Kernel5Ideal.Own

namespace Cert.Reference5Ideal.Own
open Cert.Reference5Ideal Cert.Reference5Ideal.Gen
open Idealize.ShloMosaic Idealize.ShloMosaic.TcCoe
open Cert.Kernel2Ideal.Own (unit)

/-- The reference's product, all its columns. -/
def prod (x : FVec Ideal S16384x1024 .f32) (g : FVec Ideal S1024 .f32) (w : FVec Ideal S1024x1728 .f32) : FVec Ideal S16384x1728 .f32 :=
  Host.dotGeneral dot_S16384x1024_S1024x1728_S16384x1728_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem prod_at (x : FVec Ideal S16384x1024 .f32) (g : FVec Ideal S1024 .f32) (w : FVec Ideal S1024x1728 .f32) (i : Fin 16384) (e : Fin 1728) :
    prod x g w (ix2 i e) = ∑ l : Fin 1024, unit (fun l => x (ix2 i l)) (fun l => g (ix1 l)) l * w (ix2 l e) := by
  unfold prod unit
  pointwise

/-- The rotary key's columns, then zeros. -/
def key (u : FVec Ideal S16384x1728 .f32) : FVec Ideal S16384x128 .f32 :=
  concatenate S16384x128 1 [⟨S16384x64, extractStridedSlice S16384x64 ![0, 640] u slices_S16384x1728_S16384x64_0_640⟩, ⟨S16384x64, broadcastInDim S16384x64 ![] bcast_S_S16384x64 (constant S_ .f32 0x00000000#32 : FVec Ideal S_ .f32)⟩] concatenates_S16384x64_S16384x64_S16384x128_d1

theorem key_at (u : FVec Ideal S16384x1728 .f32) (i : Fin 16384) (e : Fin 128) :
    key u (ix2 i e) = if h : e.val < 64 then u (ix2 i ⟨640 + e.val, by omega⟩) else 0 := by
  unfold key
  pointwise
  repeat' split
  all_goals first
    | (exfalso; omega)
    | rfl
    | exact congrArg (fun k => u (ix2 i k)) (Fin.ext (by dsimp only <;> omega))

/-- The rotary key with its halves exchanged, the second one negated, then zeros. -/
def turned (u : FVec Ideal S16384x1728 .f32) : FVec Ideal S16384x128 .f32 :=
  concatenate S16384x128 1 [⟨S16384x32, (Host.negf (extractStridedSlice S16384x32 ![0, 32] (extractStridedSlice S16384x64 ![0, 640] u slices_S16384x1728_S16384x64_0_640) slices_S16384x64_S16384x32_0_32) : FVec Ideal S16384x32 .f32)⟩, ⟨S16384x32, extractStridedSlice S16384x32 ![0, 0] (extractStridedSlice S16384x64 ![0, 640] u slices_S16384x1728_S16384x64_0_640) slices_S16384x64_S16384x32_0_0⟩, ⟨S16384x64, broadcastInDim S16384x64 ![] bcast_S_S16384x64 (constant S_ .f32 0x00000000#32 : FVec Ideal S_ .f32)⟩] concatenates_S16384x32_S16384x32_S16384x64_S16384x128_d1

theorem turned_at (u : FVec Ideal S16384x1728 .f32) (i : Fin 16384) (e : Fin 128) :
    turned u (ix2 i e) = if h : e.val < 32 then (-(u (ix2 i ⟨672 + e.val, by omega⟩) : EReal) : EReal) else if h : e.val < 64 then u (ix2 i ⟨608 + e.val, by omega⟩) else 0 := by
  unfold turned
  pointwise
  repeat' split
  all_goals first
    | (exfalso; omega)
    | rfl
    | exact congrArg (fun k => u (ix2 i k)) (Fin.ext (by dsimp only <;> omega))
    | exact congrArg (fun k => (-(u (ix2 i k) : EReal) : EReal)) (Fin.ext (by dsimp only <;> omega))

end Cert.Reference5Ideal.Own

namespace Cert.Kernel5Ideal.Own
open Cert.Kernel5Ideal Cert.Kernel5Ideal.Gen
open Idealize.ShloMosaic Idealize.ShloMosaic.TcCoe Idealize.SL.Sem
open Cert.Kernel2Ideal.Own (unit)

theorem unit_at (x : Vec Ideal S512x1024 .f32) (g : Vec Ideal S1x1024 .f32) (i : Fin 512) (l : Fin 1024) :
    k0_pay2 x g (ix2 i l) = unit (fun l => x (ix2 i l)) (fun l => g (ix2 0 l)) l := by
  unfold unit
  pointwise [k0_pay2]

/-- The rotary key's columns in the weights. -/
def keyCols (w : FVec Ideal S1024x1728 .f32) : FVec Ideal S1024x64 .f32 :=
  extractStridedSlice S1024x64 ![0, 640] w slices_S1024x1728_S1024x64_0_640

/-- The columns of zeros after a rotary key. -/
def zeros : FVec Ideal S1024x64 .f32 :=
  broadcastInDim S1024x64 ![] bcast_S_S1024x64 (constant S_ .f32 0x00000000#32 : FVec Ideal S_ .f32)

/-- The argument's columns as the kernel lays them out. -/
def ordered (w : FVec Ideal S1024x1728 .f32) : FVec Ideal S1024x1920 .bf16 :=
  truncf .bf16 (concatenate S1024x1920 1 [⟨S1024x640, extractStridedSlice S1024x640 ![0, 0] w slices_S1024x1728_S1024x640_0_0⟩, ⟨S1024x64, keyCols w⟩, ⟨S1024x64, zeros⟩, ⟨S1024x64, (concatenate S1024x64 1 [⟨S1024x32, (Host.negf (extractStridedSlice S1024x32 ![0, 32] (keyCols w) slices_S1024x64_S1024x32_0_32) : FVec Ideal S1024x32 .f32)⟩, ⟨S1024x32, extractStridedSlice S1024x32 ![0, 0] (keyCols w) slices_S1024x64_S1024x32_0_0⟩] concatenates_S1024x32_S1024x32_S1024x64_d1 : FVec Ideal S1024x64 .f32)⟩, ⟨S1024x64, zeros⟩, ⟨S1024x1024, extractStridedSlice S1024x1024 ![0, 704] w slices_S1024x1728_S1024x1024_0_704⟩] concatenates_S1024x640_S1024x64_S1024x64_S1024x64_S1024x64_S1024x1024_S1024x1920_d1) bitsLt_bf16_f32

theorem ordered_at (w : FVec Ideal S1024x1728 .f32) (l : Fin 1024) (e : Fin 1920) (f : Fin 1728)
    (h : (e.val < 704 ∧ f.val = e.val) ∨ (800 ≤ e.val ∧ e.val < 832 ∧ f.val + 160 = e.val) ∨ (896 ≤ e.val ∧ f.val + 192 = e.val)) :
    ordered w (ix2 l e) = w (ix2 l f) := by
  have hf := f.isLt
  unfold ordered keyCols zeros
  pointwise
  repeat' split
  all_goals first
    | (exfalso; omega)
    | exact congrArg (fun k => w (ix2 l k)) (Fin.ext (by dsimp only <;> omega))

theorem ordered_neg (w : FVec Ideal S1024x1728 .f32) (l : Fin 1024) (e : Fin 1920) (f : Fin 1728)
    (h : 768 ≤ e.val ∧ e.val < 800 ∧ f.val + 96 = e.val) :
    ordered w (ix2 l e) = (-(w (ix2 l f) : EReal) : EReal) := by
  have hf := f.isLt
  unfold ordered keyCols zeros
  pointwise
  repeat' split
  all_goals first
    | (exfalso; omega)
    | exact congrArg (fun k => (-(w (ix2 l k) : EReal) : EReal)) (Fin.ext (by dsimp only <;> omega))

theorem ordered_zero (w : FVec Ideal S1024x1728 .f32) (l : Fin 1024) (e : Fin 1920)
    (h : (704 ≤ e.val ∧ e.val < 768) ∨ (832 ≤ e.val ∧ e.val < 896)) :
    ordered w (ix2 l e) = (0 : EReal) := by
  unfold ordered keyCols zeros
  pointwise
  repeat' split
  all_goals first
    | (exfalso; omega)
    | rfl

section
variable (m : (ℓ : Loc nD τ sig) → Buf (Elt Ideal) ℓ) (c : Dev nD)

/-- The weights the call takes: the argument's columns as the kernel lays them out. -/
theorem V_w : V m c main_v9 = ordered (m ((c.tc : Thread nD τ).loc main_arg2)) := by
  unfold V
  after_results
  all_goals try rfl

/-- The norm's weights the call takes: the argument as one row. -/
theorem V_g : V m c main_v10 = (shapeCast S1x1024 (m ((c.tc : Thread nD τ).loc main_arg1) : FVec Ideal S1024 .f32) shapeCasts_S1024_S1x1024 : FVec Ideal S1x1024 .f32) := by
  unfold V
  after_results
  all_goals try rfl

/-- Which block each window holds at a point. -/
theorem idx (t : Fin cfg0.N) : (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0)) t

/-- The token of a row of a point's block. -/
def row (t : Fin cfg0.N) (r : Fin 512) : Fin 16384 := ⟨512 * t.val + r.val, by have : t.val < 32 := t.isLt; omega⟩

theorem block_x (t : Fin cfg0.N) (i : Fin 512) (l : Fin 1024) :
    iblk m c 0 t (ix2 i l) = (m ((c.tc : Thread nD τ).loc main_arg0) : FVec Ideal S16384x1024 .f32) (ix2 (row t i) l) := by
  obtain ⟨⟨a0, a1⟩, _⟩ := idx t
  unfold row
  blk_point [iblk, V, a0, a1]

theorem block_g (t : Fin cfg0.N) (l : Fin 1024) :
    iblk m c 1 t (ix2 0 l) = (m ((c.tc : Thread nD τ).loc main_arg1) : FVec Ideal S1024 .f32) (ix1 l) := by
  obtain ⟨_, ⟨a0, a1⟩, _⟩ := idx t
  blk_simp [iblk]
  rw [V_g, show (win0_1.blk t).view.emb (ix2 0 l) = ix2 0 l by blk_ext; all_goals omega]
  pointwise

theorem block_w (t : Fin cfg0.N) (l : Fin 1024) (e : Fin 1920) :
    iblk m c 2 t (ix2 l e) = (V m c main_v9 : FVec Ideal S1024x1920 .bf16) (ix2 l e) := by
  obtain ⟨_, _, ⟨a0, a1⟩, _⟩ := idx t
  blk_simp [iblk]
  rw [show (win0_2.blk t).view.emb (ix2 l e) = ix2 l e by blk_ext; all_goals omega]

/-- The reference's product, of the kernel's arguments. -/
def projected : FVec Ideal Cert.Reference5Ideal.S16384x1728 .f32 :=
  Cert.Reference5Ideal.Own.prod (m ((c.tc : Thread nD τ).loc main_arg0)) (m ((c.tc : Thread nD τ).loc main_arg1)) (m ((c.tc : Thread nD τ).loc main_arg2))

theorem block_unit (t : Fin cfg0.N) (i : Fin 512) (l : Fin 1024) :
    k0_pay2 (iblk m c 0 t) (iblk m c 1 t) (ix2 i l) = unit (fun l => (m ((c.tc : Thread nD τ).loc main_arg0) : FVec Ideal S16384x1024 .f32) (ix2 (row t i) l)) (fun l => (m ((c.tc : Thread nD τ).loc main_arg1) : FVec Ideal S1024 .f32) (ix1 l)) l := by
  rw [unit_at]
  simp only [block_x, block_g]

theorem block_col (t : Fin cfg0.N) (l : Fin 1024) (e : Fin 1920) :
    iblk m c 2 t (ix2 l e) = ordered (m ((c.tc : Thread nD τ).loc main_arg2)) (ix2 l e) :=
  (block_w m c t l e).trans (congrFun (V_w m c) (ix2 l e))

/-- A row of a point's block against a column of the kernel's weights that is the argument's: the reference's product there. -/
theorem column (t : Fin cfg0.N) (i : Fin 512) (e : Fin 1920) (f : Fin 1728)
    (h : (e.val < 704 ∧ f.val = e.val) ∨ (800 ≤ e.val ∧ e.val < 832 ∧ f.val + 160 = e.val) ∨ (896 ≤ e.val ∧ f.val + 192 = e.val)) :
    ∑ l, k0_pay2 (iblk m c 0 t) (iblk m c 1 t) (ix2 i l) * (iblk m c 2 t : Vec Ideal S1024x1920 .bf16) (ix2 l e) = projected m c (ix2 (row t i) f) := by
  unfold projected
  rw [Cert.Reference5Ideal.Own.prod_at]
  exact Finset.sum_congr rfl fun l _ => congrArg₂ (· * ·) (block_unit m c t i l) ((block_col m c t l e).trans (ordered_at _ l e f h))

/-- Against a column that is the argument's negated: the product negated, when the arguments are reals. -/
theorem column_neg (hx : ∀ y, ∃ r : ℝ, (m ((c.tc : Thread nD τ).loc main_arg0) : FVec Ideal S16384x1024 .f32) y = (r : EReal))
    (hg : ∀ y, ∃ r : ℝ, (m ((c.tc : Thread nD τ).loc main_arg1) : FVec Ideal S1024 .f32) y = (r : EReal))
    (hw : ∀ y, ∃ r : ℝ, (m ((c.tc : Thread nD τ).loc main_arg2) : FVec Ideal S1024x1728 .f32) y = (r : EReal))
    (t : Fin cfg0.N) (i : Fin 512) (e : Fin 1920) (f : Fin 1728) (h : 768 ≤ e.val ∧ e.val < 800 ∧ f.val + 96 = e.val) :
    ∑ l, k0_pay2 (iblk m c 0 t) (iblk m c 1 t) (ix2 i l) * (iblk m c 2 t : Vec Ideal S1024x1920 .bf16) (ix2 l e) = (-(projected m c (ix2 (row t i) f) : EReal) : EReal) := by
  unfold projected
  rw [Cert.Reference5Ideal.Own.prod_at, ← sum_neg]
  · refine Finset.sum_congr rfl fun l _ => ?_
    refine (congrArg₂ (· * ·) (block_unit m c t i l) ((block_col m c t l e).trans (ordered_neg _ l e f h))).trans ?_
    exact mul_neg _ _
  · intro l
    obtain ⟨a, ha⟩ := real_unit _ _ (fun l => hx (ix2 (row t i) l)) (fun l => hg (ix1 l)) l
    obtain ⟨b, hb⟩ := hw (ix2 l f)
    exact ⟨a * b, (congrArg₂ (· * ·) ha hb).trans (EReal.coe_mul a b).symm⟩

/-- Against a column of zeros. -/
theorem column_zero (t : Fin cfg0.N) (i : Fin 512) (e : Fin 1920) (h : (704 ≤ e.val ∧ e.val < 768) ∨ (832 ≤ e.val ∧ e.val < 896)) :
    ∑ l, k0_pay2 (iblk m c 0 t) (iblk m c 1 t) (ix2 i l) * (iblk m c 2 t : Vec Ideal S1024x1920 .bf16) (ix2 l e) = (0 : EReal) :=
  Finset.sum_eq_zero fun l _ => (congrArg _ ((block_col m c t l e).trans (ordered_zero _ l e h))).trans (mul_zero _)

theorem mul_3 (x : Vec Ideal S512x1024 .f32) (g : Vec Ideal S1x1024 .f32) (w : Vec Ideal S1024x384 .bf16) (i : Fin 512) (v : Fin 384) :
    k0_pay3 x g w (ix2 i v) = ∑ l, k0_pay2 x g (ix2 i l) * w (ix2 l v) := by
  pointwise [k0_pay3]

theorem ld_3 (w : Vec Ideal S1024x1920 .bf16) (l : Fin 1024) (v : Fin 384) :
    View.ld w r0_2 (ix2 l v) = w (ix2 l ⟨0 + v.val, by omega⟩) :=
  View.ld_unit_apply_of w _ _ _ _ _ fun a => by fin_cases a <;> simp

theorem emb_3 (t : Fin cfg0.N) (i : Fin 512) (v : Fin 384) : (win0_3.blk t).view.emb (ix2 i v) = ix2 (row t i) v := by
  obtain ⟨_, _, _, ⟨a0, a1⟩, _⟩ := idx t
  unfold row
  blk_ext
  all_goals omega

theorem slice_3 (u : FVec Ideal Cert.Reference5Ideal.S16384x1728 .f32) (i : Fin 16384) (v : Fin 384) :
    (extractStridedSlice S16384x384 ![0, 0] u Cert.Reference5Ideal.Gen.slices_S16384x1728_S16384x384_0_0 : FVec Ideal S16384x384 .f32) (ix2 i v) = u (ix2 i ⟨0 + v.val, by omega⟩) := by
  pointwise

theorem block_3 (t : Fin cfg0.N) (i : Fin 512) (v : Fin 384) :
    (k0_pay3 (iblk m c 0 t) (iblk m c 1 t) (View.ld (iblk m c 2 t) r0_2) : FVec Ideal S512x384 .f32) (ix2 i v) = projected m c (ix2 (row t i) ⟨0 + v.val, by omega⟩) := by
  rw [mul_3]
  exact (Finset.sum_congr rfl fun l _ => congrArg _ (ld_3 _ l v)).trans (column m c t i _ _ (by dsimp only; omega))

theorem result_3 (G : FVec Ideal S16384x384 .f32) (hG : ∀ (r : Fin 16384) (v : Fin 384), G (ix2 r v) = projected m c (ix2 r ⟨0 + v.val, by omega⟩)) :
    (dats m 0 c).arrAt 3 cfg0.N = G := by
  refine (dats m 0 c).arrAt_eq_of_covers 3 _ (by decide +kernel) fun t hf y => ?_
  blk_simp
  rw [after0_3]
  frame_out
  obtain ⟨i, v, rfl⟩ : ∃ (i : Fin 512) (v : Fin 384), y = ix2 i v := ⟨y 0, y 1, by funext a; fin_cases a <;> rfl⟩
  refine (block_3 m c t i v).trans ?_
  exact ((congrArg G (emb_3 t i v)).trans (hG _ v)).symm

theorem mul_4 (x : Vec Ideal S512x1024 .f32) (g : Vec Ideal S1x1024 .f32) (w : Vec Ideal S1024x256 .bf16) (i : Fin 512) (v : Fin 256) :
    k0_pay4 x g w (ix2 i v) = ∑ l, k0_pay2 x g (ix2 i l) * w (ix2 l v) := by
  pointwise [k0_pay4]

theorem ld_4 (w : Vec Ideal S1024x1920 .bf16) (l : Fin 1024) (v : Fin 256) :
    View.ld w r0_4 (ix2 l v) = w (ix2 l ⟨384 + v.val, by omega⟩) :=
  View.ld_unit_apply_of w _ _ _ _ _ fun a => by fin_cases a <;> simp

theorem emb_4 (t : Fin cfg0.N) (i : Fin 512) (v : Fin 256) : (win0_4.blk t).view.emb (ix2 i v) = ix2 (row t i) v := by
  obtain ⟨_, _, _, _, ⟨a0, a1⟩, _⟩ := idx t
  unfold row
  blk_ext
  all_goals omega

theorem slice_4 (u : FVec Ideal Cert.Reference5Ideal.S16384x1728 .f32) (i : Fin 16384) (v : Fin 256) :
    (extractStridedSlice S16384x256 ![0, 384] u Cert.Reference5Ideal.Gen.slices_S16384x1728_S16384x256_0_384 : FVec Ideal S16384x256 .f32) (ix2 i v) = u (ix2 i ⟨384 + v.val, by omega⟩) := by
  pointwise

theorem block_4 (t : Fin cfg0.N) (i : Fin 512) (v : Fin 256) :
    (k0_pay4 (iblk m c 0 t) (iblk m c 1 t) (View.ld (iblk m c 2 t) r0_4) : FVec Ideal S512x256 .f32) (ix2 i v) = projected m c (ix2 (row t i) ⟨384 + v.val, by omega⟩) := by
  rw [mul_4]
  exact (Finset.sum_congr rfl fun l _ => congrArg _ (ld_4 _ l v)).trans (column m c t i _ _ (by dsimp only; omega))

theorem result_4 (G : FVec Ideal S16384x256 .f32) (hG : ∀ (r : Fin 16384) (v : Fin 256), G (ix2 r v) = projected m c (ix2 r ⟨384 + v.val, by omega⟩)) :
    (dats m 0 c).arrAt 4 cfg0.N = G := by
  refine (dats m 0 c).arrAt_eq_of_covers 4 _ (by decide +kernel) fun t hf y => ?_
  blk_simp
  rw [after0_4]
  frame_out
  obtain ⟨i, v, rfl⟩ : ∃ (i : Fin 512) (v : Fin 256), y = ix2 i v := ⟨y 0, y 1, by funext a; fin_cases a <;> rfl⟩
  refine (block_4 m c t i v).trans ?_
  exact ((congrArg G (emb_4 t i v)).trans (hG _ v)).symm

theorem mul_5 (x : Vec Ideal S512x1024 .f32) (g : Vec Ideal S1x1024 .f32) (w : Vec Ideal S1024x128 .bf16) (i : Fin 512) (v : Fin 128) :
    k0_pay5 x g w (ix2 i v) = ∑ l, k0_pay2 x g (ix2 i l) * w (ix2 l v) := by
  pointwise [k0_pay5]

theorem ld_5 (w : Vec Ideal S1024x1920 .bf16) (l : Fin 1024) (v : Fin 128) :
    View.ld w r0_6 (ix2 l v) = w (ix2 l ⟨640 + v.val, by omega⟩) :=
  View.ld_unit_apply_of w _ _ _ _ _ fun a => by fin_cases a <;> simp

theorem emb_5 (t : Fin cfg0.N) (i : Fin 512) (v : Fin 128) : (win0_5.blk t).view.emb (ix2 i v) = ix2 (row t i) v := by
  obtain ⟨_, _, _, _, _, ⟨a0, a1⟩, _⟩ := idx t
  unfold row
  blk_ext
  all_goals omega

theorem block_5 (t : Fin cfg0.N) (i : Fin 512) (v : Fin 128) :
    (k0_pay5 (iblk m c 0 t) (iblk m c 1 t) (View.ld (iblk m c 2 t) r0_6) : FVec Ideal S512x128 .f32) (ix2 i v) = Cert.Reference5Ideal.Own.key (projected m c) (ix2 (row t i) v) := by
  rw [mul_5]
  refine (Finset.sum_congr rfl fun l _ => congrArg _ (ld_5 _ l v)).trans ?_
  rw [Cert.Reference5Ideal.Own.key_at]
  split_ifs with h
  · exact column m c t i _ _ (by dsimp only; omega)
  · exact column_zero m c t i _ (by dsimp only; omega)

theorem result_5 (G : FVec Ideal S16384x128 .f32) (hG : ∀ (r : Fin 16384) (v : Fin 128), G (ix2 r v) = Cert.Reference5Ideal.Own.key (projected m c) (ix2 r v)) :
    (dats m 0 c).arrAt 5 cfg0.N = G := by
  refine (dats m 0 c).arrAt_eq_of_covers 5 _ (by decide +kernel) fun t hf y => ?_
  blk_simp
  rw [after0_5]
  frame_out
  obtain ⟨i, v, rfl⟩ : ∃ (i : Fin 512) (v : Fin 128), y = ix2 i v := ⟨y 0, y 1, by funext a; fin_cases a <;> rfl⟩
  refine (block_5 m c t i v).trans ?_
  exact ((congrArg G (emb_5 t i v)).trans (hG _ v)).symm

theorem mul_6 (x : Vec Ideal S512x1024 .f32) (g : Vec Ideal S1x1024 .f32) (w : Vec Ideal S1024x128 .bf16) (i : Fin 512) (v : Fin 128) :
    k0_pay6 x g w (ix2 i v) = ∑ l, k0_pay2 x g (ix2 i l) * w (ix2 l v) := by
  pointwise [k0_pay6]

theorem ld_6 (w : Vec Ideal S1024x1920 .bf16) (l : Fin 1024) (v : Fin 128) :
    View.ld w r0_8 (ix2 l v) = w (ix2 l ⟨768 + v.val, by omega⟩) :=
  View.ld_unit_apply_of w _ _ _ _ _ fun a => by fin_cases a <;> simp

theorem emb_6 (t : Fin cfg0.N) (i : Fin 512) (v : Fin 128) : (win0_6.blk t).view.emb (ix2 i v) = ix2 (row t i) v := by
  obtain ⟨_, _, _, _, _, _, ⟨a0, a1⟩, _⟩ := idx t
  unfold row
  blk_ext
  all_goals omega

theorem block_6 (hx : ∀ y, ∃ r : ℝ, (m ((c.tc : Thread nD τ).loc main_arg0) : FVec Ideal S16384x1024 .f32) y = (r : EReal))
    (hg : ∀ y, ∃ r : ℝ, (m ((c.tc : Thread nD τ).loc main_arg1) : FVec Ideal S1024 .f32) y = (r : EReal))
    (hw : ∀ y, ∃ r : ℝ, (m ((c.tc : Thread nD τ).loc main_arg2) : FVec Ideal S1024x1728 .f32) y = (r : EReal))
    (t : Fin cfg0.N) (i : Fin 512) (v : Fin 128) :
    (k0_pay6 (iblk m c 0 t) (iblk m c 1 t) (View.ld (iblk m c 2 t) r0_8) : FVec Ideal S512x128 .f32) (ix2 i v) = Cert.Reference5Ideal.Own.turned (projected m c) (ix2 (row t i) v) := by
  rw [mul_6]
  refine (Finset.sum_congr rfl fun l _ => congrArg _ (ld_6 _ l v)).trans ?_
  rw [Cert.Reference5Ideal.Own.turned_at]
  split_ifs with h h'
  · exact column_neg m c hx hg hw t i _ _ (by dsimp only; omega)
  · exact column m c t i _ _ (by dsimp only; omega)
  · exact column_zero m c t i _ (by dsimp only; omega)

theorem result_6 (hx : ∀ y, ∃ r : ℝ, (m ((c.tc : Thread nD τ).loc main_arg0) : FVec Ideal S16384x1024 .f32) y = (r : EReal))
    (hg : ∀ y, ∃ r : ℝ, (m ((c.tc : Thread nD τ).loc main_arg1) : FVec Ideal S1024 .f32) y = (r : EReal))
    (hw : ∀ y, ∃ r : ℝ, (m ((c.tc : Thread nD τ).loc main_arg2) : FVec Ideal S1024x1728 .f32) y = (r : EReal))
    (G : FVec Ideal S16384x128 .f32) (hG : ∀ (r : Fin 16384) (v : Fin 128), G (ix2 r v) = Cert.Reference5Ideal.Own.turned (projected m c) (ix2 r v)) :
    (dats m 0 c).arrAt 6 cfg0.N = G := by
  refine (dats m 0 c).arrAt_eq_of_covers 6 _ (by decide +kernel) fun t hf y => ?_
  blk_simp
  rw [after0_6]
  frame_out
  obtain ⟨i, v, rfl⟩ : ∃ (i : Fin 512) (v : Fin 128), y = ix2 i v := ⟨y 0, y 1, by funext a; fin_cases a <;> rfl⟩
  refine (block_6 m c hx hg hw t i v).trans ?_
  exact ((congrArg G (emb_6 t i v)).trans (hG _ v)).symm

theorem mul_7 (a : FVec Ideal S512x1024 .bf16) (w : Vec Ideal S1024x1024 .bf16) (i : Fin 512) (v : Fin 1024) :
    k0_pay1 a w (ix2 i v) = ∑ l, a (ix2 i l) * w (ix2 l v) := by
  pointwise [k0_pay1]

theorem ld_7 (w : Vec Ideal S1024x1920 .bf16) (l : Fin 1024) (v : Fin 1024) :
    View.ld w r0_9 (ix2 l v) = w (ix2 l ⟨896 + v.val, by omega⟩) :=
  View.ld_unit_apply_of w _ _ _ _ _ fun a => by fin_cases a <;> simp

theorem emb_7 (t : Fin cfg0.N) (i : Fin 512) (v : Fin 1024) : (win0_7.blk t).view.emb (ix2 i v) = ix2 (row t i) v := by
  obtain ⟨_, _, _, _, _, _, _, ⟨a0, a1⟩⟩ := idx t
  unfold row
  blk_ext
  all_goals omega

theorem slice_7 (u : FVec Ideal Cert.Reference5Ideal.S16384x1728 .f32) (i : Fin 16384) (v : Fin 1024) :
    (extractStridedSlice S16384x1024 ![0, 704] u Cert.Reference5Ideal.Gen.slices_S16384x1728_S16384x1024_0_704 : FVec Ideal S16384x1024 .f32) (ix2 i v) = u (ix2 i ⟨704 + v.val, by omega⟩) := by
  pointwise

theorem block_7 (t : Fin cfg0.N) (i : Fin 512) (v : Fin 1024) :
    (k0_pay1 (k0_pay2 (iblk m c 0 t) (iblk m c 1 t)) (View.ld (iblk m c 2 t) r0_9) : FVec Ideal S512x1024 .f32) (ix2 i v) = projected m c (ix2 (row t i) ⟨704 + v.val, by omega⟩) := by
  rw [mul_7]
  exact (Finset.sum_congr rfl fun l _ => congrArg _ (ld_7 _ l v)).trans (column m c t i _ _ (by dsimp only; omega))

theorem result_7 (G : FVec Ideal S16384x1024 .f32) (hG : ∀ (r : Fin 16384) (v : Fin 1024), G (ix2 r v) = projected m c (ix2 r ⟨704 + v.val, by omega⟩)) :
    (dats m 0 c).arrAt 7 cfg0.N = G := by
  refine (dats m 0 c).arrAt_eq_of_covers 7 _ (by decide +kernel) fun t hf y => ?_
  blk_simp
  rw [after0_7]
  frame_out
  obtain ⟨i, v, rfl⟩ : ∃ (i : Fin 512) (v : Fin 1024), y = ix2 i v := ⟨y 0, y 1, by funext a; fin_cases a <;> rfl⟩
  refine (block_7 m c t i v).trans ?_
  exact ((congrArg G (emb_7 t i v)).trans (hG _ v)).symm

end
end Cert.Kernel5Ideal.Own

namespace Cert.Proof.OddNorm
open Idealize.ShloMosaic Idealize.ShloMosaic.TcCoe Idealize.SL.Sem
open Cert.Kernel5Ideal.Own

/-- From finite arguments the kernel and the reference end with the same five results. -/
theorem algebraic [Cert.Pre_finite5.Facts] : Cert.algebraic_Kernel5Ideal_Reference5Ideal_pre_finite5 := by
  intro m ρ m' ρ' hpre hagree
  refine ⟨fun c => extractStridedSlice Cert.Kernel5Ideal.S16384x384 ![0, 0] (projected m c) Cert.Reference5Ideal.Gen.slices_S16384x1728_S16384x384_0_0, fun c => extractStridedSlice Cert.Kernel5Ideal.S16384x256 ![0, 384] (projected m c) Cert.Reference5Ideal.Gen.slices_S16384x1728_S16384x256_0_384, fun c => Cert.Reference5Ideal.Own.key (projected m c), fun c => Cert.Reference5Ideal.Own.turned (projected m c), fun c => extractStridedSlice Cert.Kernel5Ideal.S16384x1024 ![0, 704] (projected m c) Cert.Reference5Ideal.Gen.slices_S16384x1728_S16384x1024_0_704, (θ_run Cert.Kernel5Ideal.defs _ _).mono (fun _ h c =>
    ⟨(h c).1.trans (result_3 m c _ (slice_3 _)), (h c).2.1.trans (result_4 m c _ (slice_4 _)), (h c).2.2.1.trans (result_5 m c _ fun _ _ => rfl),
      (h c).2.2.2.1.trans (result_6 m c (Cert.Finite.reals _ _ _ (hpre c).1) (Cert.Finite.reals _ _ _ (hpre c).2.1) (Cert.Finite.reals _ _ _ (hpre c).2.2) _ fun _ _ => rfl),
      (h c).2.2.2.2.1.trans (result_7 m c _ (slice_7 _)), (h c).2.2.2.2.2⟩)
    (Cert.Kernel5Ideal.Value.run_blocks m ρ), ?_⟩
  have hu : ∀ c : Dev Cert.Reference5Ideal.nD, Cert.Reference5Ideal.Own.prod (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2)) = projected m c := by
    intro c
    obtain ⟨h0, h1, h2⟩ := hagree c
    rw [h0, h1, h2]
    rfl
  refine (θ_run Cert.Reference5Ideal.defs _ _).mono (fun _ h c => ?_) (Cert.Reference5Ideal.Value.run (F := Ideal) m' ρ')
  simp only [← hu c]
  exact h c

end Cert.Proof.OddNorm
end
-- ==== Proof.PrepRef.lean ====
/- What comes before the latent attention of an odd layer, the reference's side: the norms, the products by head, and the
   rotation of the keys and of each head's last columns. -/
module

public import proofs.«01_k».proof.Defs
public import proofs.«01_k».proof.Proof.OddNorm
public import proofs.«01_k».proof.Proof.Gen.Reference6Ideal.Run
public import proofs.«01_k».proof.Proof.Gen.Kernel6Ideal.Value
public import Idealize.ShloMosaic.Lib.Pipeline.ValueKit

@[expose] public section
set_option maxRecDepth 16384
set_option maxHeartbeats 200000
noncomputable section
namespace Cert.Kernel6Ideal.Own
open Idealize.ShloMosaic
open Cert.Kernel5Ideal.Own (sum_coe eps_pos)

/-- A row over its root mean square, times the weights; `d` is the row's length. -/
def scaled {n : ℕ} (d : EReal) (y g : Fin n → EReal) (l : Fin n) : EReal :=
  y l * Ideal.rsqrt (Ideal.div (∑ u, y u * y u) d + Ideal.ofBits .f32 0x358637BD#32) * g l

/-- Sixty-four values turned, each against the one half a row away. -/
def rot (x : Fin 64 → EReal) (c s : Fin 32 → EReal) (v : Fin 64) : EReal :=
  if h : v.val < 32 then x v * c ⟨v.val, h⟩ - x ⟨32 + v.val, by omega⟩ * s ⟨v.val, h⟩
  else x ⟨v.val - 32, by omega⟩ * s ⟨v.val - 32, by omega⟩ + x v * c ⟨v.val - 32, by omega⟩

/-- The values, then zeros. -/
def plain (x : Fin 64 → EReal) (v : Fin 128) : EReal := if h : v.val < 64 then x ⟨v.val, h⟩ else 0

/-- The values with their halves exchanged, the second one negated, then zeros. -/
def swapped (x : Fin 64 → EReal) (v : Fin 128) : EReal :=
  if h : v.val < 32 then -x ⟨32 + v.val, by omega⟩ else if h : v.val < 64 then x ⟨v.val - 32, by omega⟩ else 0

/-- Half a row of factors twice, then zeros. -/
def wide (f : Fin 32 → EReal) (v : Fin 128) : EReal :=
  if h : v.val < 32 then f ⟨v.val, h⟩ else if h : v.val < 64 then f ⟨v.val - 32, by omega⟩ else 0

/-- The kernel turns the values by two products of whole rows of 128. -/
theorem turned_lane (x : Fin 64 → EReal) (c s : Fin 32 → EReal) (v : Fin 128) :
    plain x v * wide c v + swapped x v * wide s v = if h : v.val < 64 then rot x c s ⟨v.val, h⟩ else 0 := by
  unfold plain swapped wide rot
  split_ifs
  all_goals first
    | (exfalso; omega)
    | rw [EReal.neg_mul, ← sub_eq_add_neg]
    | (rw [add_comm]; done)
    | simp

/-- A row of reals over its root mean square, times weights that are reals, is a row of reals. -/
theorem real_scaled {n : ℕ} (d : ℝ) (hd : 0 < d) (y g : Fin n → EReal) (hy : ∀ l, ∃ r : ℝ, y l = (r : EReal)) (hg : ∀ l, ∃ r : ℝ, g l = (r : EReal)) (l : Fin n) :
    ∃ r : ℝ, scaled (d : EReal) y g l = (r : EReal) := by
  choose a ha using hy
  choose b hb using hg
  obtain ⟨e, he, hE⟩ := eps_pos
  have hs : 0 < (∑ u, a u * a u) * (1 / d) + e := add_pos_of_nonneg_of_pos (mul_nonneg (Finset.sum_nonneg fun u _ => mul_self_nonneg _) (by positivity)) he
  refine ⟨a l * (Real.sqrt ((∑ u, a u * a u) * (1 / d) + e))⁻¹ * b l, ?_⟩
  unfold scaled
  simp only [ha, hb, ← EReal.coe_mul, sum_coe]
  rw [hE, Ideal.div_coe hd.ne', ← EReal.coe_mul, ← EReal.coe_add, Ideal.rsqrt_coe,
    if_neg hs.not_gt, if_neg hs.ne', ← EReal.coe_mul, ← EReal.coe_mul]

/-- The divisor of a query row's mean of squares. -/
theorem ofBits_384 : Ideal.ofBits .f32 0x43C00000#32 = ((384 : ℝ) : EReal) := by
  simp [Ideal.ofBits, Ideal.ieee, -EReal.coe_mul]; norm_num

end Cert.Kernel6Ideal.Own

namespace Cert.Reference6Ideal.Own
open Cert.Reference6Ideal Cert.Reference6Ideal.Gen
open Idealize.ShloMosaic Idealize.ShloMosaic.TcCoe
open Cert.Kernel6Ideal.Own (scaled rot)

/-- The reference's queries, all heads. -/
def prod (x : FVec Ideal S16384x384 .f32) (g : FVec Ideal S384 .f32) (w : FVec Ideal S384x1536 .f32) : FVec Ideal S16384x1536 .f32 :=
  Host.dotGeneral dot_S16384x384_S384x1536_S16384x1536_1_0_0_1_n_n none (mulf (mulf x (broadcastInDim S16384x384 ![0, 1] bcast_S16384x1_S16384x384_0_1 (Host.rsqrt (addf (Host.divf (broadcastInDim S16384x1 ![0] bcast_S16384_S16384x1_0 (Host.reduceAdd (mulf x x) (constant S_ .f32 0x00000000#32) reducesTo_S16384x384_S16384_d1 h_S_)) (broadcastInDim S16384x1 ![] bcast_S_S16384x1 (constant S_ .f32 0x43C00000#32))) (broadcastInDim S16384x1 ![] bcast_S_S16384x1 (constant S_ .f32 0x358637BD#32)))))) (broadcastInDim S16384x384 ![0, 1] bcast_S1x384_S16384x384_0_1 (broadcastInDim S1x384 ![1] bcast_S384_S1x384_1 g))) w

theorem prod_at (x : FVec Ideal S16384x384 .f32) (g : FVec Ideal S384 .f32) (w : FVec Ideal S384x1536 .f32) (i : Fin 16384) (e : Fin 1536) :
    prod x g w (ix2 i e) = ∑ l : Fin 384, scaled (Ideal.ofBits .f32 0x43C00000#32) (fun l => x (ix2 i l)) (fun l => g (ix1 l)) l * w (ix2 l e) := by
  unfold prod scaled
  pointwise

/-- The reference's latent keys. -/
def latent (x : FVec Ideal S16384x256 .f32) (g : FVec Ideal S256 .f32) : FVec Ideal S16384x256 .f32 :=
  (mulf (mulf x (broadcastInDim S16384x256 ![0, 1] bcast_S16384x1_S16384x256_0_1 (Host.rsqrt (addf (Host.divf (broadcastInDim S16384x1 ![0] bcast_S16384_S16384x1_0 (Host.reduceAdd (mulf x x) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 g)))

theorem latent_at (x : FVec Ideal S16384x256 .f32) (g : FVec Ideal S256 .f32) (i : Fin 16384) (e : Fin 256) :
    latent x g (ix2 i e) = scaled (Ideal.ofBits .f32 0x43800000#32) (fun l => x (ix2 i l)) (fun l => g (ix1 l)) e := by
  unfold latent scaled
  pointwise

/-- The angles of a token, from its place in its sequence. -/
def angles : FVec Ideal S16384x32 .f32 :=
  (mulf (broadcastInDim S16384x32 ![0, 1] bcast_S16384x1_S16384x32_0_1 (broadcastInDim S16384x1 ![0] bcast_S16384_S16384x1_0 (sitofp .f32 (shapeCast S16384 (broadcastInDim S8x2048 ![0, 1] bcast_S1x2048_S8x2048_0_1 (broadcastInDim S1x2048 ![1] bcast_S2048_S1x2048_1 (iotaInDim S2048 32 0))) shapeCasts_S8x2048_S16384)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The reference's rotary keys, of the cosines `c` and the sines `s`. -/
def key (x : FVec Ideal S16384x64 .f32) (c s : FVec Ideal S16384x32 .f32) : FVec Ideal S16384x64 .f32 :=
  concatenate S16384x64 1 [⟨S16384x32, (subf (mulf (extractStridedSlice S16384x32 ![0, 0] x slices_S16384x64_S16384x32_0_0) c) (mulf (extractStridedSlice S16384x32 ![0, 32] x slices_S16384x64_S16384x32_0_32) s) : FVec Ideal S16384x32 .f32)⟩, ⟨S16384x32, (addf (mulf (extractStridedSlice S16384x32 ![0, 0] x slices_S16384x64_S16384x32_0_0) s) (mulf (extractStridedSlice S16384x32 ![0, 32] x slices_S16384x64_S16384x32_0_32) c) : FVec Ideal S16384x32 .f32)⟩] concatenates_S16384x32_S16384x32_S16384x64_d1

theorem key_at (x : FVec Ideal S16384x64 .f32) (c s : FVec Ideal S16384x32 .f32) (i : Fin 16384) (v : Fin 64) :
    key x c s (ix2 i v) = rot (fun j => x (ix2 i j)) (fun j => c (ix2 i j)) (fun j => s (ix2 i j)) v := by
  unfold key rot
  pointwise
  repeat' split
  all_goals first
    | (exfalso; omega)
    | rfl
    | exact congrArg₂ (· + ·) rfl (congrArg (fun k => (x (ix2 i k) : EReal) * c (ix2 i ⟨v.val - 32, by omega⟩)) (Fin.ext (by dsimp only <;> omega)))

/-- A query's columns without place, each head's through its own weights. -/
def shared (u : FVec Ideal S16384x1536 .f32) (w : FVec Ideal S256x2048 .f32) : FVec Ideal S8x16384x256 .f32 :=
  Host.dotGeneral dot_S16384x8x128_S256x8x128_S8x16384x256_2_2_0_0_1_1 none (extractStridedSlice S16384x8x128 ![0, 0, 0] (shapeCast S16384x8x192 u shapeCasts_S16384x1536_S16384x8x192) slices_S16384x8x192_S16384x8x128_0_0_0) (extractStridedSlice S256x8x128 ![0, 0, 0] (shapeCast S256x8x256 w shapeCasts_S256x2048_S256x8x256) slices_S256x8x256_S256x8x128_0_0_0)

theorem shared_at (u : FVec Ideal S16384x1536 .f32) (w : FVec Ideal S256x2048 .f32) (h : Fin 8) (i : Fin 16384) (r : Fin 256) :
    shared u w (ix3 h i r) = ∑ n : Fin 128, u (ix2 i ⟨192 * h.val + n.val, by omega⟩) * w (ix2 r ⟨256 * h.val + n.val, by omega⟩) := by
  unfold shared
  pointwise
  refine Finset.sum_congr rfl fun n _ => congrArg₂ (· * ·) ?_ ?_
  · exact congrArg (fun k => u (ix2 i k)) (Fin.ext (by dsimp only <;> omega))
  · exact congrArg (fun k => w (ix2 r k)) (Fin.ext (by dsimp only <;> omega))

/-- Each head's last columns turned. -/
def heads (u : FVec Ideal S16384x1536 .f32) (c s : FVec Ideal S16384x32 .f32) : FVec Ideal S16384x8x64 .f32 :=
  concatenate S16384x8x64 2 [⟨S16384x8x32, (subf (mulf (extractStridedSlice S16384x8x32 ![0, 0, 0] (extractStridedSlice S16384x8x64 ![0, 0, 128] (shapeCast S16384x8x192 u shapeCasts_S16384x1536_S16384x8x192) slices_S16384x8x192_S16384x8x64_0_0_128) slices_S16384x8x64_S16384x8x32_0_0_0) (broadcastInDim S16384x8x32 ![0, 1, 2] bcast_S16384x1x32_S16384x8x32_0_1_2 (broadcastInDim S16384x1x32 ![0, 2] bcast_S16384x32_S16384x1x32_0_2 c))) (mulf (extractStridedSlice S16384x8x32 ![0, 0, 32] (extractStridedSlice S16384x8x64 ![0, 0, 128] (shapeCast S16384x8x192 u shapeCasts_S16384x1536_S16384x8x192) slices_S16384x8x192_S16384x8x64_0_0_128) slices_S16384x8x64_S16384x8x32_0_0_32) (broadcastInDim S16384x8x32 ![0, 1, 2] bcast_S16384x1x32_S16384x8x32_0_1_2 (broadcastInDim S16384x1x32 ![0, 2] bcast_S16384x32_S16384x1x32_0_2 s))) : FVec Ideal S16384x8x32 .f32)⟩, ⟨S16384x8x32, (addf (mulf (extractStridedSlice S16384x8x32 ![0, 0, 0] (extractStridedSlice S16384x8x64 ![0, 0, 128] (shapeCast S16384x8x192 u shapeCasts_S16384x1536_S16384x8x192) slices_S16384x8x192_S16384x8x64_0_0_128) slices_S16384x8x64_S16384x8x32_0_0_0) (broadcastInDim S16384x8x32 ![0, 1, 2] bcast_S16384x1x32_S16384x8x32_0_1_2 (broadcastInDim S16384x1x32 ![0, 2] bcast_S16384x32_S16384x1x32_0_2 s))) (mulf (extractStridedSlice S16384x8x32 ![0, 0, 32] (extractStridedSlice S16384x8x64 ![0, 0, 128] (shapeCast S16384x8x192 u shapeCasts_S16384x1536_S16384x8x192) slices_S16384x8x192_S16384x8x64_0_0_128) slices_S16384x8x64_S16384x8x32_0_0_32) (broadcastInDim S16384x8x32 ![0, 1, 2] bcast_S16384x1x32_S16384x8x32_0_1_2 (broadcastInDim S16384x1x32 ![0, 2] bcast_S16384x32_S16384x1x32_0_2 c))) : FVec Ideal S16384x8x32 .f32)⟩] concatenates_S16384x8x32_S16384x8x32_S16384x8x64_d2

theorem heads_at (u : FVec Ideal S16384x1536 .f32) (c s : FVec Ideal S16384x32 .f32) (i : Fin 16384) (h : Fin 8) (v : Fin 64) :
    heads u c s (ix3 i h v) = rot (fun j => u (ix2 i ⟨192 * h.val + 128 + j.val, by omega⟩)) (fun j => c (ix2 i j)) (fun j => s (ix2 i j)) v := by
  unfold heads rot
  pointwise
  repeat' split
  all_goals first
    | (exfalso; omega)
    | exact congrArg₂ (fun a b => (u (ix2 i a) : EReal) * c (ix2 i ⟨v.val, by omega⟩) - u (ix2 i b) * s (ix2 i ⟨v.val, by omega⟩)) (Fin.ext (by dsimp only <;> omega)) (Fin.ext (by dsimp only <;> omega))
    | exact congrArg₂ (fun a b => (u (ix2 i a) : EReal) * s (ix2 i ⟨v.val - 32, by omega⟩) + u (ix2 i b) * c (ix2 i ⟨v.val - 32, by omega⟩)) (Fin.ext (by dsimp only <;> omega)) (Fin.ext (by dsimp only <;> omega))

/-- A head's query: the shared columns, the turned ones, then zeros. -/
def query (p : FVec Ideal S8x16384x256 .f32) (q : FVec Ideal S16384x8x64 .f32) : FVec Ideal S8x16384x384 .bf16 :=
  truncf .bf16 (concatenate S8x16384x384 2 [⟨S8x16384x256, p⟩, ⟨S8x16384x64, (transpose S8x16384x64 [1, 0, 2] q transposes_S16384x8x64_S8x16384x64_1_0_2 : FVec Ideal S8x16384x64 .f32)⟩, ⟨S8x16384x64, (broadcastInDim S8x16384x64 ![] bcast_S_S8x16384x64 (constant S_ .f32 0x00000000#32) : FVec Ideal S8x16384x64 .f32)⟩] concatenates_S8x16384x256_S8x16384x64_S8x16384x64_S8x16384x384_d2 : FVec Ideal S8x16384x384 .f32) bitsLt_bf16_f32

theorem query_at (p : FVec Ideal S8x16384x256 .f32) (q : FVec Ideal S16384x8x64 .f32) (h : Fin 8) (i : Fin 16384) (v : Fin 384) :
    query p q (ix3 h i v) = if hv : v.val < 256 then p (ix3 h i ⟨v.val, hv⟩) else if hv : v.val < 320 then q (ix3 i h ⟨v.val - 256, by omega⟩) else (0 : EReal) := by
  unfold query
  pointwise
  repeat' split
  all_goals first
    | (exfalso; omega)
    | rfl

/-- A token's key: the latent columns, the turned ones, then zeros. -/
def keys (p : FVec Ideal S16384x256 .f32) (q : FVec Ideal S16384x64 .f32) : FVec Ideal S16384x384 .bf16 :=
  truncf .bf16 (concatenate S16384x384 1 [⟨S16384x256, p⟩, ⟨S16384x64, q⟩, ⟨S16384x64, (broadcastInDim S16384x64 ![] bcast_S_S16384x64 (constant S_ .f32 0x00000000#32) : FVec Ideal S16384x64 .f32)⟩] concatenates_S16384x256_S16384x64_S16384x64_S16384x384_d1 : FVec Ideal S16384x384 .f32) bitsLt_bf16_f32

theorem keys_at (p : FVec Ideal S16384x256 .f32) (q : FVec Ideal S16384x64 .f32) (i : Fin 16384) (v : Fin 384) :
    keys p q (ix2 i v) = if hv : v.val < 256 then p (ix2 i ⟨v.val, hv⟩) else if hv : v.val < 320 then q (ix2 i ⟨v.val - 256, by omega⟩) else (0 : EReal) := by
  unfold keys
  pointwise
  repeat' split
  all_goals first
    | (exfalso; omega)
    | rfl

end Cert.Reference6Ideal.Own
end
-- ==== Proof.PrepHost.lean ====
/- What the kernel's host code lays out before the latent attention of an odd layer: the rotary keys and tables padded to
   128 columns, and the query weights with their rotary columns twice. -/
module

public import proofs.«01_k».proof.Proof.PrepRef

@[expose] public section
set_option maxRecDepth 16384
set_option maxHeartbeats 200000
noncomputable section
namespace Cert.Kernel6Ideal.Own
open Cert.Kernel6Ideal Cert.Kernel6Ideal.Gen
open Idealize.ShloMosaic Idealize.ShloMosaic.TcCoe Idealize.SL.Sem

/-- The angles of a place in a sequence. -/
def places : FVec Ideal S2048x32 .f32 :=
  (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The reference's angles of a token are those of its place. -/
theorem angles_at (i : Fin 16384) (j : Fin 32) (p : Fin 2048) (h : p.val = i.val % 2048) :
    Cert.Reference6Ideal.Own.angles (ix2 i j) = places (ix2 p j) := by
  unfold Cert.Reference6Ideal.Own.angles places
  pointwise
  rw [h]

/-- A table of half rows as the kernel lays it out. -/
def table (f : FVec Ideal S2048x32 .f32) : FVec Ideal S2048x128 .f32 :=
  (shapeCast S2048x128 (broadcastInDim S1x2048x1x128 ![0, 1, 2, 3] bcast_S1x2048x1x128_S1x2048x1x128_0_1_2_3 (shapeCast S1x2048x1x128 (concatenate S2048x128 1 [⟨S2048x32, f⟩, ⟨S2048x32, f⟩, ⟨S2048x64, (broadcastInDim S2048x64 ![] bcast_S_S2048x64 (constant S_ .f32 0x00000000#32) : FVec Ideal S2048x64 .f32)⟩] concatenates_S2048x32_S2048x32_S2048x64_S2048x128_d1 : FVec Ideal S2048x128 .f32) shapeCasts_S2048x128_S1x2048x1x128 : FVec Ideal S1x2048x1x128 .f32) : FVec Ideal S1x2048x1x128 .f32) shapeCasts_S1x2048x1x128_S2048x128 : FVec Ideal S2048x128 .f32)

theorem table_at (f : FVec Ideal S2048x32 .f32) (p : Fin 2048) (v : Fin 128) :
    table f (ix2 p v) = wide (fun j => f (ix2 p j)) v := by
  unfold table wide
  pointwise
  repeat' split
  all_goals first
    | (exfalso; omega)
    | rfl

/-- The rotary keys, then zeros. -/
def padded (x : FVec Ideal S16384x64 .f32) : FVec Ideal S16384x128 .f32 :=
  concatenate S16384x128 1 [⟨S16384x64, x⟩, ⟨S16384x64, (broadcastInDim S16384x64 ![] bcast_S_S16384x64 (constant S_ .f32 0x00000000#32) : FVec Ideal S16384x64 .f32)⟩] concatenates_S16384x64_S16384x64_S16384x128_d1

theorem padded_at (x : FVec Ideal S16384x64 .f32) (i : Fin 16384) (v : Fin 128) :
    padded x (ix2 i v) = plain (fun j => x (ix2 i j)) v := by
  unfold padded plain
  pointwise
  repeat' split
  all_goals first
    | (exfalso; omega)
    | rfl

/-- The rotary keys with their halves exchanged, the second one negated. -/
def crossed (x : FVec Ideal S16384x64 .f32) : FVec Ideal S16384x64 .f32 :=
  concatenate S16384x64 1 [⟨S16384x32, (Host.negf (extractStridedSlice S16384x32 ![0, 32] x slices_S16384x64_S16384x32_0_32) : FVec Ideal S16384x32 .f32)⟩, ⟨S16384x32, extractStridedSlice S16384x32 ![0, 0] x slices_S16384x64_S16384x32_0_0⟩] concatenates_S16384x32_S16384x32_S16384x64_d1

theorem crossed_at (x : FVec Ideal S16384x64 .f32) (i : Fin 16384) (v : Fin 128) :
    padded (crossed x) (ix2 i v) = swapped (fun j => x (ix2 i j)) v := by
  unfold padded crossed swapped
  pointwise
  repeat' split
  all_goals first
    | (exfalso; omega)
    | rfl

/-- The query weights' columns as the kernel lays them out: every head's columns without place, then every head's rotary
    columns, then the same with their halves exchanged and the second one negated, 128 columns to a head. -/
def ordered (w : FVec Ideal S384x1536 .f32) : FVec Ideal S384x3072 .bf16 :=
  truncf .bf16 (concatenate S384x3072 1 [⟨S384x1024, (shapeCast S384x1024 (extractStridedSlice S384x8x128 ![0, 0, 0] (shapeCast S384x8x192 w shapeCasts_S384x1536_S384x8x192) slices_S384x8x192_S384x8x128_0_0_0) shapeCasts_S384x8x128_S384x1024 : FVec Ideal S384x1024 .f32)⟩, ⟨S384x1024, (shapeCast S384x1024 (concatenate S384x8x128 2 [⟨S384x8x64, (extractStridedSlice S384x8x64 ![0, 0, 128] (shapeCast S384x8x192 w shapeCasts_S384x1536_S384x8x192) slices_S384x8x192_S384x8x64_0_0_128)⟩, ⟨S384x8x64, (broadcastInDim S384x8x64 ![] bcast_S_S384x8x64 (constant S_ .f32 0x00000000#32) : FVec Ideal S384x8x64 .f32)⟩] concatenates_S384x8x64_S384x8x64_S384x8x128_d2 : FVec Ideal S384x8x128 .f32) shapeCasts_S384x8x128_S384x1024 : FVec Ideal S384x1024 .f32)⟩, ⟨S384x1024, (shapeCast S384x1024 (concatenate S384x8x128 2 [⟨S384x8x64, (concatenate S384x8x64 2 [⟨S384x8x32, (Host.negf (extractStridedSlice S384x8x32 ![0, 0, 32] (extractStridedSlice S384x8x64 ![0, 0, 128] (shapeCast S384x8x192 w shapeCasts_S384x1536_S384x8x192) slices_S384x8x192_S384x8x64_0_0_128) slices_S384x8x64_S384x8x32_0_0_32) : FVec Ideal S384x8x32 .f32)⟩, ⟨S384x8x32, extractStridedSlice S384x8x32 ![0, 0, 0] (extractStridedSlice S384x8x64 ![0, 0, 128] (shapeCast S384x8x192 w shapeCasts_S384x1536_S384x8x192) slices_S384x8x192_S384x8x64_0_0_128) slices_S384x8x64_S384x8x32_0_0_0⟩] concatenates_S384x8x32_S384x8x32_S384x8x64_d2 : FVec Ideal S384x8x64 .f32)⟩, ⟨S384x8x64, (broadcastInDim S384x8x64 ![] bcast_S_S384x8x64 (constant S_ .f32 0x00000000#32) : FVec Ideal S384x8x64 .f32)⟩] concatenates_S384x8x64_S384x8x64_S384x8x128_d2 : FVec Ideal S384x8x128 .f32) shapeCasts_S384x8x128_S384x1024 : FVec Ideal S384x1024 .f32)⟩] concatenates_S384x1024_S384x1024_S384x1024_S384x3072_d1 : FVec Ideal S384x3072 .f32) bitsLt_bf16_f32

theorem ordered_0 (w : FVec Ideal S384x1536 .f32) (l : Fin 384) (h : Fin 8) (v : Fin 128) :
    ordered w (ix2 l ⟨128 * h.val + v.val, by omega⟩) = w (ix2 l ⟨192 * h.val + v.val, by omega⟩) := by
  unfold ordered
  pointwise
  repeat' split
  all_goals first
    | (exfalso; omega)
    | exact congrArg (fun k => w (ix2 l k)) (Fin.ext (by dsimp only <;> omega))

theorem ordered_1 (w : FVec Ideal S384x1536 .f32) (l : Fin 384) (h : Fin 8) (v : Fin 128) :
    ordered w (ix2 l ⟨1024 + 128 * h.val + v.val, by omega⟩) = plain (fun j => w (ix2 l ⟨192 * h.val + 128 + j.val, by omega⟩)) v := by
  unfold ordered plain
  pointwise
  repeat' split
  all_goals first
    | (exfalso; omega)
    | rfl
    | exact congrArg (fun k => w (ix2 l k)) (Fin.ext (by dsimp only <;> omega))

theorem ordered_2 (w : FVec Ideal S384x1536 .f32) (l : Fin 384) (h : Fin 8) (v : Fin 128) :
    ordered w (ix2 l ⟨2048 + 128 * h.val + v.val, by omega⟩) = swapped (fun j => w (ix2 l ⟨192 * h.val + 128 + j.val, by omega⟩)) v := by
  unfold ordered swapped
  pointwise
  repeat' split
  all_goals first
    | (exfalso; omega)
    | rfl
    | exact congrArg (fun k => w (ix2 l k)) (Fin.ext (by dsimp only <;> omega))
    | exact congrArg (fun k => (-(w (ix2 l k) : EReal) : EReal)) (Fin.ext (by dsimp only <;> omega))

section
variable (m : (ℓ : Loc nD τ sig) → Buf (Elt Ideal) ℓ) (c : Dev nD)

theorem V_ka : V m c main_v1 = padded (m ((c.tc : Thread nD τ).loc main_arg2)) := by
  unfold V
  after_results
  all_goals try rfl

theorem V_kb : V m c main_v6 = padded (crossed (m ((c.tc : Thread nD τ).loc main_arg2))) := by
  unfold V
  after_results
  all_goals try rfl

theorem V_cos : V m c main_v29 = table (Host.cos places) := by
  unfold V
  after_results
  all_goals try rfl

theorem V_sin : V m c main_v32 = table (Host.sin places) := by
  unfold V
  after_results
  all_goals try rfl

theorem V_wq : V m c main_v47 = ordered (m ((c.tc : Thread nD τ).loc main_arg5)) := by
  unfold V
  after_results
  all_goals try rfl

theorem V_wu : V m c main_v48 = (truncf .bf16 (m ((c.tc : Thread nD τ).loc main_arg6) : FVec Ideal S256x2048 .f32) bitsLt_bf16_f32 : FVec Ideal S256x2048 .bf16) := by
  unfold V
  after_results
  all_goals try rfl

theorem V_gq : V m c main_v49 = (shapeCast S1x384 (m ((c.tc : Thread nD τ).loc main_arg3) : FVec Ideal S384 .f32) shapeCasts_S384_S1x384 : FVec Ideal S1x384 .f32) := by
  unfold V
  after_results
  all_goals try rfl

theorem V_gk : V m c main_v50 = (shapeCast S1x256 (m ((c.tc : Thread nD τ).loc main_arg4) : FVec Ideal S256 .f32) shapeCasts_S256_S1x256 : FVec Ideal S1x256 .f32) := by
  unfold V
  after_results
  all_goals try rfl

end
end Cert.Kernel6Ideal.Own
end
-- ==== Proof.MlaPrep.lean ====
/- What comes before the latent attention of an odd layer: the kernel's norms, its products by head and its rotations by
   products of whole rows. -/
module

public import proofs.«01_k».proof.Proof.PrepHost
public import proofs.«01_k».proof.Proof.Finite
public import proofs.«01_k».proof.Proof.Gen.Kernel6.Frame
public import proofs.«01_k».proof.Proof.Gen.Pre_finite6
public import Idealize.ShloMosaic.Lib.Claim
public import Idealize.ShloMosaic.Lib.Quiescent

@[expose] public section
set_option maxRecDepth 16384
set_option maxHeartbeats 200000
noncomputable section
namespace Cert.Kernel6Ideal.Own
open Cert.Kernel6Ideal Cert.Kernel6Ideal.Gen
open Idealize.ShloMosaic Idealize.ShloMosaic.TcCoe Idealize.SL.Sem
open Cert.Kernel5Ideal.Own (sum_neg)

theorem latent_block (x : Vec Ideal S512x256 .f32) (g : Vec Ideal S1x256 .f32) (i : Fin 512) (l : Fin 256) :
    k0_pay5 x g (ix2 i l) = scaled (Ideal.ofBits .f32 0x43800000#32) (fun l => x (ix2 i l)) (fun l => g (ix2 0 l)) l := by
  unfold scaled
  pointwise [k0_pay5]

theorem latent_narrow (x : Vec Ideal S512x256 .f32) (g : Vec Ideal S1x256 .f32) (i : Fin 512) (l : Fin 256) :
    (k0_pay8 x g : FVec Ideal S512x256 .bf16) (ix2 i l) = k0_pay5 x g (ix2 i l) := by
  pointwise [k0_pay8]

theorem turn_block (p q x y : Vec Ideal S512x128 .f32) (i : Fin 512) (v : Fin 128) :
    k0_pay6 p q x y (ix2 i v) = x (ix2 i v) * p (ix2 i v) + y (ix2 i v) * q (ix2 i v) := by
  pointwise [k0_pay6, k0_pay3, k0_pay4]

theorem turn_short (p q x y : Vec Ideal S512x128 .f32) (i : Fin 512) (v : Fin 64) :
    k0_pay7 p q x y (ix2 i v) = k0_pay6 p q x y (ix2 i ⟨v.val, by omega⟩) := by
  pointwise [k0_pay7]

theorem turn_narrow (p q x y : Vec Ideal S512x128 .f32) (i : Fin 512) (v : Fin 128) :
    (k0_pay9 p q x y : FVec Ideal S512x128 .bf16) (ix2 i v) = k0_pay6 p q x y (ix2 i v) := by
  pointwise [k0_pay9]

theorem product_block (x : Vec Ideal S512x384 .f32) (g : Vec Ideal S1x384 .f32) (w : Vec Ideal S384x3072 .bf16) (i : Fin 512) (e : Fin 3072) :
    k0_pay10 x g w (ix2 i e) = ∑ l : Fin 384, scaled (Ideal.ofBits .f32 0x43C00000#32) (fun l => x (ix2 i l)) (fun l => g (ix2 0 l)) l * w (ix2 l e) := by
  unfold scaled
  pointwise [k0_pay10]

theorem nope_0 (x : Vec Ideal S512x384 .f32) (g : Vec Ideal S1x384 .f32) (w : Vec Ideal S384x3072 .bf16) (b : Vec Ideal S256x128 .bf16) (i : Fin 512) (r : Fin 256) :
    (k0_pay11 x g w b : FVec Ideal S1x512x256 .bf16) (ix3 0 i r) = ∑ n : Fin 128, k0_pay10 x g w (ix2 i ⟨128 * 0 + n.val, by omega⟩) * b (ix2 r n) := by
  pointwise [k0_pay11]

theorem rope_0 (p q : Vec Ideal S512x128 .f32) (x : Vec Ideal S512x384 .f32) (g : Vec Ideal S1x384 .f32) (w : Vec Ideal S384x3072 .bf16) (i : Fin 512) (v : Fin 128) :
    (k0_pay12 (k0_pay3 p) (k0_pay4 q) x g w : FVec Ideal S1x512x128 .bf16) (ix3 0 i v) = k0_pay10 x g w (ix2 i ⟨1024 + 128 * 0 + v.val, by omega⟩) * p (ix2 i v) + k0_pay10 x g w (ix2 i ⟨2048 + 128 * 0 + v.val, by omega⟩) * q (ix2 i v) := by
  pointwise [k0_pay12, k0_pay3, k0_pay4]

theorem nope_1 (x : Vec Ideal S512x384 .f32) (g : Vec Ideal S1x384 .f32) (w : Vec Ideal S384x3072 .bf16) (b : Vec Ideal S256x128 .bf16) (i : Fin 512) (r : Fin 256) :
    (k0_pay14 (k0_pay13 x g w) b : FVec Ideal S1x512x256 .bf16) (ix3 0 i r) = ∑ n : Fin 128, k0_pay10 x g w (ix2 i ⟨128 * 1 + n.val, by omega⟩) * b (ix2 r n) := by
  pointwise [k0_pay14, k0_pay13]

theorem rope_1 (p q : Vec Ideal S512x128 .f32) (x : Vec Ideal S512x384 .f32) (g : Vec Ideal S1x384 .f32) (w : Vec Ideal S384x3072 .bf16) (i : Fin 512) (v : Fin 128) :
    (k0_pay15 (k0_pay3 p) (k0_pay4 q) (k0_pay10 x g w) : FVec Ideal S1x512x128 .bf16) (ix3 0 i v) = k0_pay10 x g w (ix2 i ⟨1024 + 128 * 1 + v.val, by omega⟩) * p (ix2 i v) + k0_pay10 x g w (ix2 i ⟨2048 + 128 * 1 + v.val, by omega⟩) * q (ix2 i v) := by
  pointwise [k0_pay15, k0_pay3, k0_pay4]

theorem nope_2 (x : Vec Ideal S512x384 .f32) (g : Vec Ideal S1x384 .f32) (w : Vec Ideal S384x3072 .bf16) (b : Vec Ideal S256x128 .bf16) (i : Fin 512) (r : Fin 256) :
    (k0_pay16 (k0_pay10 x g w) b : FVec Ideal S1x512x256 .bf16) (ix3 0 i r) = ∑ n : Fin 128, k0_pay10 x g w (ix2 i ⟨128 * 2 + n.val, by omega⟩) * b (ix2 r n) := by
  pointwise [k0_pay16]

theorem rope_2 (p q : Vec Ideal S512x128 .f32) (x : Vec Ideal S512x384 .f32) (g : Vec Ideal S1x384 .f32) (w : Vec Ideal S384x3072 .bf16) (i : Fin 512) (v : Fin 128) :
    (k0_pay17 (k0_pay3 p) (k0_pay4 q) (k0_pay10 x g w) : FVec Ideal S1x512x128 .bf16) (ix3 0 i v) = k0_pay10 x g w (ix2 i ⟨1024 + 128 * 2 + v.val, by omega⟩) * p (ix2 i v) + k0_pay10 x g w (ix2 i ⟨2048 + 128 * 2 + v.val, by omega⟩) * q (ix2 i v) := by
  pointwise [k0_pay17, k0_pay3, k0_pay4]

theorem nope_3 (x : Vec Ideal S512x384 .f32) (g : Vec Ideal S1x384 .f32) (w : Vec Ideal S384x3072 .bf16) (b : Vec Ideal S256x128 .bf16) (i : Fin 512) (r : Fin 256) :
    (k0_pay19 (k0_pay18 (k0_pay10 x g w)) b : FVec Ideal S1x512x256 .bf16) (ix3 0 i r) = ∑ n : Fin 128, k0_pay10 x g w (ix2 i ⟨128 * 3 + n.val, by omega⟩) * b (ix2 r n) := by
  pointwise [k0_pay19, k0_pay18]

theorem rope_3 (p q : Vec Ideal S512x128 .f32) (x : Vec Ideal S512x384 .f32) (g : Vec Ideal S1x384 .f32) (w : Vec Ideal S384x3072 .bf16) (i : Fin 512) (v : Fin 128) :
    (k0_pay20 (k0_pay3 p) (k0_pay4 q) (k0_pay10 x g w) : FVec Ideal S1x512x128 .bf16) (ix3 0 i v) = k0_pay10 x g w (ix2 i ⟨1024 + 128 * 3 + v.val, by omega⟩) * p (ix2 i v) + k0_pay10 x g w (ix2 i ⟨2048 + 128 * 3 + v.val, by omega⟩) * q (ix2 i v) := by
  pointwise [k0_pay20, k0_pay3, k0_pay4]

theorem nope_4 (x : Vec Ideal S512x384 .f32) (g : Vec Ideal S1x384 .f32) (w : Vec Ideal S384x3072 .bf16) (b : Vec Ideal S256x128 .bf16) (i : Fin 512) (r : Fin 256) :
    (k0_pay21 (k0_pay10 x g w) b : FVec Ideal S1x512x256 .bf16) (ix3 0 i r) = ∑ n : Fin 128, k0_pay10 x g w (ix2 i ⟨128 * 4 + n.val, by omega⟩) * b (ix2 r n) := by
  pointwise [k0_pay21]

theorem rope_4 (p q : Vec Ideal S512x128 .f32) (x : Vec Ideal S512x384 .f32) (g : Vec Ideal S1x384 .f32) (w : Vec Ideal S384x3072 .bf16) (i : Fin 512) (v : Fin 128) :
    (k0_pay22 (k0_pay3 p) (k0_pay4 q) (k0_pay10 x g w) : FVec Ideal S1x512x128 .bf16) (ix3 0 i v) = k0_pay10 x g w (ix2 i ⟨1024 + 128 * 4 + v.val, by omega⟩) * p (ix2 i v) + k0_pay10 x g w (ix2 i ⟨2048 + 128 * 4 + v.val, by omega⟩) * q (ix2 i v) := by
  pointwise [k0_pay22, k0_pay3, k0_pay4]

theorem nope_5 (x : Vec Ideal S512x384 .f32) (g : Vec Ideal S1x384 .f32) (w : Vec Ideal S384x3072 .bf16) (b : Vec Ideal S256x128 .bf16) (i : Fin 512) (r : Fin 256) :
    (k0_pay24 (k0_pay23 (k0_pay10 x g w)) b : FVec Ideal S1x512x256 .bf16) (ix3 0 i r) = ∑ n : Fin 128, k0_pay10 x g w (ix2 i ⟨128 * 5 + n.val, by omega⟩) * b (ix2 r n) := by
  pointwise [k0_pay24, k0_pay23]

theorem rope_5 (p q : Vec Ideal S512x128 .f32) (x : Vec Ideal S512x384 .f32) (g : Vec Ideal S1x384 .f32) (w : Vec Ideal S384x3072 .bf16) (i : Fin 512) (v : Fin 128) :
    (k0_pay25 (k0_pay3 p) (k0_pay4 q) (k0_pay10 x g w) : FVec Ideal S1x512x128 .bf16) (ix3 0 i v) = k0_pay10 x g w (ix2 i ⟨1024 + 128 * 5 + v.val, by omega⟩) * p (ix2 i v) + k0_pay10 x g w (ix2 i ⟨2048 + 128 * 5 + v.val, by omega⟩) * q (ix2 i v) := by
  pointwise [k0_pay25, k0_pay3, k0_pay4]

theorem nope_6 (x : Vec Ideal S512x384 .f32) (g : Vec Ideal S1x384 .f32) (w : Vec Ideal S384x3072 .bf16) (b : Vec Ideal S256x128 .bf16) (i : Fin 512) (r : Fin 256) :
    (k0_pay26 (k0_pay10 x g w) b : FVec Ideal S1x512x256 .bf16) (ix3 0 i r) = ∑ n : Fin 128, k0_pay10 x g w (ix2 i ⟨128 * 6 + n.val, by omega⟩) * b (ix2 r n) := by
  pointwise [k0_pay26]

theorem rope_6 (p q : Vec Ideal S512x128 .f32) (x : Vec Ideal S512x384 .f32) (g : Vec Ideal S1x384 .f32) (w : Vec Ideal S384x3072 .bf16) (i : Fin 512) (v : Fin 128) :
    (k0_pay27 (k0_pay3 p) (k0_pay4 q) (k0_pay10 x g w) : FVec Ideal S1x512x128 .bf16) (ix3 0 i v) = k0_pay10 x g w (ix2 i ⟨1024 + 128 * 6 + v.val, by omega⟩) * p (ix2 i v) + k0_pay10 x g w (ix2 i ⟨2048 + 128 * 6 + v.val, by omega⟩) * q (ix2 i v) := by
  pointwise [k0_pay27, k0_pay3, k0_pay4]

theorem nope_7 (x : Vec Ideal S512x384 .f32) (g : Vec Ideal S1x384 .f32) (w : Vec Ideal S384x3072 .bf16) (b : Vec Ideal S256x128 .bf16) (i : Fin 512) (r : Fin 256) :
    (k0_pay1 (k0_pay28 (k0_pay10 x g w)) (k0_pay29 b) (constant S512x256 .f32 0x00000000#32) : FVec Ideal S1x512x256 .bf16) (ix3 0 i r) = ∑ n : Fin 128, k0_pay10 x g w (ix2 i ⟨128 * 7 + n.val, by omega⟩) * b (ix2 r n) := by
  pointwise [k0_pay1, k0_pay28, k0_pay29]

theorem rope_7 (p q : Vec Ideal S512x128 .f32) (x : Vec Ideal S512x384 .f32) (g : Vec Ideal S1x384 .f32) (w : Vec Ideal S384x3072 .bf16) (i : Fin 512) (v : Fin 128) :
    (k0_pay2 (k0_pay3 p) (k0_pay4 q) (k0_pay10 x g w) : FVec Ideal S1x512x128 .bf16) (ix3 0 i v) = k0_pay10 x g w (ix2 i ⟨1024 + 128 * 7 + v.val, by omega⟩) * p (ix2 i v) + k0_pay10 x g w (ix2 i ⟨2048 + 128 * 7 + v.val, by omega⟩) * q (ix2 i v) := by
  pointwise [k0_pay2, k0_pay3, k0_pay4]

section
variable (m : (ℓ : Loc nD τ sig) → Buf (Elt Ideal) ℓ) (c : Dev nD)

/-- Which block each window holds at a point. -/
theorem idx (t : Fin cfg0.N) : (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val % 4 ∧ win0_4.index t 1 = 0) ∧ (win0_5.index t 0 = t.val % 4 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = t.val ∧ win0_10.index t 2 = 0) ∧ (win0_11.index t 0 = t.val ∧ win0_11.index t 1 = 0) ∧ (win0_12.index t 0 = t.val ∧ win0_12.index t 1 = 0) ∧ (win0_13.index t 0 = t.val ∧ win0_13.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val % 4 ∧ win0_4.index t 1 = 0) ∧ (win0_5.index t 0 = t.val % 4 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = t.val ∧ win0_10.index t 2 = 0) ∧ (win0_11.index t 0 = t.val ∧ win0_11.index t 1 = 0) ∧ (win0_12.index t 0 = t.val ∧ win0_12.index t 1 = 0) ∧ (win0_13.index t 0 = t.val ∧ win0_13.index t 1 = 0)) t

/-- The token of a row of a point's block. -/
def row (t : Fin cfg0.N) (r : Fin 512) : Fin 16384 := ⟨512 * t.val + r.val, by have : t.val < 32 := t.isLt; omega⟩

/-- Its place in its sequence. -/
def place (t : Fin cfg0.N) (r : Fin 512) : Fin 2048 := ⟨(row t r).val % 2048, by omega⟩

theorem block_cq (t : Fin cfg0.N) (i : Fin 512) (l : Fin 384) : iblk m c 0 t (ix2 i l) = (m ((c.tc : Thread nD τ).loc main_arg0) : FVec Ideal S16384x384 .f32) (ix2 (row t i) l) := by
  obtain ⟨⟨a0, a1⟩, _⟩ := idx t
  unfold row
  blk_point [iblk, V, a0, a1]

theorem block_kv (t : Fin cfg0.N) (i : Fin 512) (l : Fin 256) : iblk m c 1 t (ix2 i l) = (m ((c.tc : Thread nD τ).loc main_arg1) : FVec Ideal S16384x256 .f32) (ix2 (row t i) l) := by
  obtain ⟨_, ⟨a0, a1⟩, _⟩ := idx t
  unfold row
  blk_point [iblk, V, a0, a1]

theorem block_ka (t : Fin cfg0.N) (i : Fin 512) (v : Fin 128) : iblk m c 2 t (ix2 i v) = plain (fun j => (m ((c.tc : Thread nD τ).loc main_arg2) : FVec Ideal S16384x64 .f32) (ix2 (row t i) j)) v := by
  obtain ⟨_, _, ⟨a0, a1⟩, _⟩ := idx t
  blk_simp [iblk]
  rw [V_ka, show (win0_2.blk t).view.emb (ix2 i v) = ix2 (row t i) v by unfold row; blk_ext; all_goals omega]
  exact padded_at _ _ _

theorem block_kb (t : Fin cfg0.N) (i : Fin 512) (v : Fin 128) : iblk m c 3 t (ix2 i v) = swapped (fun j => (m ((c.tc : Thread nD τ).loc main_arg2) : FVec Ideal S16384x64 .f32) (ix2 (row t i) j)) v := by
  obtain ⟨_, _, _, ⟨a0, a1⟩, _⟩ := idx t
  blk_simp [iblk]
  rw [V_kb, show (win0_3.blk t).view.emb (ix2 i v) = ix2 (row t i) v by unfold row; blk_ext; all_goals omega]
  exact crossed_at _ _ _

theorem block_cos (t : Fin cfg0.N) (i : Fin 512) (v : Fin 128) : iblk m c 4 t (ix2 i v) = wide (fun j => (Host.cos places : FVec Ideal S2048x32 .f32) (ix2 (place t i) j)) v := by
  obtain ⟨_, _, _, _, ⟨a0, a1⟩, _⟩ := idx t
  blk_simp [iblk]
  rw [V_cos, show (win0_4.blk t).view.emb (ix2 i v) = ix2 (place t i) v by unfold place row; blk_ext; all_goals (try dsimp only); all_goals omega]
  exact table_at _ _ _

theorem block_sin (t : Fin cfg0.N) (i : Fin 512) (v : Fin 128) : iblk m c 5 t (ix2 i v) = wide (fun j => (Host.sin places : FVec Ideal S2048x32 .f32) (ix2 (place t i) j)) v := by
  obtain ⟨_, _, _, _, _, ⟨a0, a1⟩, _⟩ := idx t
  blk_simp [iblk]
  rw [V_sin, show (win0_5.blk t).view.emb (ix2 i v) = ix2 (place t i) v by unfold place row; blk_ext; all_goals (try dsimp only); all_goals omega]
  exact table_at _ _ _

theorem block_gq (t : Fin cfg0.N) (l : Fin 384) : iblk m c 6 t (ix2 0 l) = (m ((c.tc : Thread nD τ).loc main_arg3) : FVec Ideal S384 .f32) (ix1 l) := by
  obtain ⟨_, _, _, _, _, _, ⟨a0, a1⟩, _⟩ := idx t
  blk_simp [iblk]
  rw [V_gq, show (win0_6.blk t).view.emb (ix2 0 l) = ix2 0 l by blk_ext; all_goals omega]
  pointwise

theorem block_gk (t : Fin cfg0.N) (l : Fin 256) : iblk m c 7 t (ix2 0 l) = (m ((c.tc : Thread nD τ).loc main_arg4) : FVec Ideal S256 .f32) (ix1 l) := by
  obtain ⟨_, _, _, _, _, _, _, ⟨a0, a1⟩, _⟩ := idx t
  blk_simp [iblk]
  rw [V_gk, show (win0_7.blk t).view.emb (ix2 0 l) = ix2 0 l by blk_ext; all_goals omega]
  pointwise

theorem block_wq (t : Fin cfg0.N) (l : Fin 384) (e : Fin 3072) : iblk m c 8 t (ix2 l e) = ordered (m ((c.tc : Thread nD τ).loc main_arg5) : FVec Ideal S384x1536 .f32) (ix2 l e) := by
  obtain ⟨_, _, _, _, _, _, _, _, ⟨a0, a1⟩, _⟩ := idx t
  blk_simp [iblk]
  rw [V_wq, show (win0_8.blk t).view.emb (ix2 l e) = ix2 l e by blk_ext; all_goals omega]

theorem block_wk (t : Fin cfg0.N) (r : Fin 256) (e : Fin 2048) : iblk m c 9 t (ix2 r e) = (m ((c.tc : Thread nD τ).loc main_arg6) : FVec Ideal S256x2048 .f32) (ix2 r e) := by
  obtain ⟨_, _, _, _, _, _, _, _, _, ⟨a0, a1⟩, _⟩ := idx t
  blk_simp [iblk]
  rw [V_wu, show (win0_9.blk t).view.emb (ix2 r e) = ix2 r e by blk_ext; all_goals omega]
  pointwise

/-- The reference's queries, of the kernel's arguments. -/
def queries : FVec Ideal Cert.Reference6Ideal.S16384x1536 .f32 := Cert.Reference6Ideal.Own.prod (m ((c.tc : Thread nD τ).loc main_arg0) : FVec Ideal S16384x384 .f32) (m ((c.tc : Thread nD τ).loc main_arg3) : FVec Ideal S384 .f32) (m ((c.tc : Thread nD τ).loc main_arg5) : FVec Ideal S384x1536 .f32)
/-- The reference's latent keys. -/
def latents : FVec Ideal S16384x256 .f32 := Cert.Reference6Ideal.Own.latent (m ((c.tc : Thread nD τ).loc main_arg1) : FVec Ideal S16384x256 .f32) (m ((c.tc : Thread nD τ).loc main_arg4) : FVec Ideal S256 .f32)
/-- The reference's rotary keys. -/
def turnedKeys : FVec Ideal S16384x64 .f32 := Cert.Reference6Ideal.Own.key (m ((c.tc : Thread nD τ).loc main_arg2) : FVec Ideal S16384x64 .f32) (Host.cos Cert.Reference6Ideal.Own.angles) (Host.sin Cert.Reference6Ideal.Own.angles)
/-- The reference's turned columns of each head's query. -/
def turnedHeads : FVec Ideal Cert.Reference6Ideal.S16384x8x64 .f32 := Cert.Reference6Ideal.Own.heads (queries m c) (Host.cos Cert.Reference6Ideal.Own.angles) (Host.sin Cert.Reference6Ideal.Own.angles)

theorem cos_at (t : Fin cfg0.N) (i : Fin 512) (j : Fin 32) :
    (Host.cos Cert.Reference6Ideal.Own.angles : FVec Ideal S16384x32 .f32) (ix2 (row t i) j) = (Host.cos places : FVec Ideal S2048x32 .f32) (ix2 (place t i) j) :=
  congrArg Ideal.cos (angles_at (row t i) j (place t i) rfl)

theorem sin_at (t : Fin cfg0.N) (i : Fin 512) (j : Fin 32) :
    (Host.sin Cert.Reference6Ideal.Own.angles : FVec Ideal S16384x32 .f32) (ix2 (row t i) j) = (Host.sin places : FVec Ideal S2048x32 .f32) (ix2 (place t i) j) :=
  congrArg Ideal.sin (angles_at (row t i) j (place t i) rfl)

/-- A row of a point's latent keys is the reference's. -/
theorem latent_row (t : Fin cfg0.N) (i : Fin 512) (v : Fin 256) :
    k0_pay5 (iblk m c 1 t) (iblk m c 7 t) (ix2 i v) = latents m c (ix2 (row t i) v) := by
  unfold latents
  rw [latent_block, Cert.Reference6Ideal.Own.latent_at]
  simp only [block_kv, block_gk]

/-- A row of a point's turned keys is the reference's, then zeros. -/
theorem turn_row (t : Fin cfg0.N) (i : Fin 512) (v : Fin 128) :
    k0_pay6 (iblk m c 4 t) (iblk m c 5 t) (iblk m c 2 t) (iblk m c 3 t) (ix2 i v) = if h : v.val < 64 then turnedKeys m c (ix2 (row t i) ⟨v.val, h⟩) else (0 : EReal) := by
  unfold turnedKeys
  rw [turn_block, block_cos, block_sin, block_ka, block_kb]
  refine (turned_lane _ _ _ v).trans ?_
  split_ifs with h
  · rw [Cert.Reference6Ideal.Own.key_at]
    simp only [cos_at, sin_at]
  · rfl

/-- A point's products: each row of its queries over its root mean square against a column of the kernel's weights. -/
theorem product_row (t : Fin cfg0.N) (i : Fin 512) (e : Fin 3072) :
    k0_pay10 (iblk m c 0 t) (iblk m c 6 t) (iblk m c 8 t) (ix2 i e) = ∑ l : Fin 384, scaled (Ideal.ofBits .f32 0x43C00000#32) (fun l => (m ((c.tc : Thread nD τ).loc main_arg0) : FVec Ideal S16384x384 .f32) (ix2 (row t i) l)) (fun l => (m ((c.tc : Thread nD τ).loc main_arg3) : FVec Ideal S384 .f32) (ix1 l)) l * ordered (m ((c.tc : Thread nD τ).loc main_arg5) : FVec Ideal S384x1536 .f32) (ix2 l e) := by
  rw [product_block]
  simp only [block_cq, block_gq]
  exact Finset.sum_congr rfl fun l _ => congrArg _ (block_wq m c t l e)

/-- Against a head's column without place: the reference's. -/
theorem column_0 (t : Fin cfg0.N) (i : Fin 512) (h : Fin 8) (v : Fin 128) :
    k0_pay10 (iblk m c 0 t) (iblk m c 6 t) (iblk m c 8 t) (ix2 i ⟨128 * h.val + v.val, by omega⟩) = queries m c (ix2 (row t i) ⟨192 * h.val + v.val, by omega⟩) := by
  unfold queries
  rw [product_row, Cert.Reference6Ideal.Own.prod_at]
  exact Finset.sum_congr rfl fun l _ => congrArg _ (ordered_0 _ l h v)

/-- Against a head's rotary columns: the reference's, then zeros. -/
theorem column_1 (t : Fin cfg0.N) (i : Fin 512) (h : Fin 8) (v : Fin 128) :
    k0_pay10 (iblk m c 0 t) (iblk m c 6 t) (iblk m c 8 t) (ix2 i ⟨1024 + 128 * h.val + v.val, by omega⟩) = plain (fun j => queries m c (ix2 (row t i) ⟨192 * h.val + 128 + j.val, by omega⟩)) v := by
  unfold queries
  rw [product_row]
  refine (Finset.sum_congr rfl fun l _ => congrArg _ (ordered_1 _ l h v)).trans ?_
  unfold plain
  split_ifs with hv
  · exact (Cert.Reference6Ideal.Own.prod_at _ _ _ _ _).symm
  · exact Finset.sum_eq_zero fun l _ => mul_zero _

/-- Against a head's rotary columns exchanged, the arguments reals: the reference's exchanged, then zeros. -/
theorem column_2 (hx : ∀ y, ∃ r : ℝ, (m ((c.tc : Thread nD τ).loc main_arg0) : FVec Ideal S16384x384 .f32) y = (r : EReal))
    (hg : ∀ y, ∃ r : ℝ, (m ((c.tc : Thread nD τ).loc main_arg3) : FVec Ideal S384 .f32) y = (r : EReal))
    (hw : ∀ y, ∃ r : ℝ, (m ((c.tc : Thread nD τ).loc main_arg5) : FVec Ideal S384x1536 .f32) y = (r : EReal))
    (t : Fin cfg0.N) (i : Fin 512) (h : Fin 8) (v : Fin 128) :
    k0_pay10 (iblk m c 0 t) (iblk m c 6 t) (iblk m c 8 t) (ix2 i ⟨2048 + 128 * h.val + v.val, by omega⟩) = swapped (fun j => queries m c (ix2 (row t i) ⟨192 * h.val + 128 + j.val, by omega⟩)) v := by
  unfold queries
  rw [product_row]
  refine (Finset.sum_congr rfl fun l _ => congrArg _ (ordered_2 _ l h v)).trans ?_
  unfold swapped
  split_ifs with hv hv'
  · beta_reduce
    rw [Cert.Reference6Ideal.Own.prod_at, ← sum_neg]
    · exact Finset.sum_congr rfl fun l _ => mul_neg _ _
    · intro l
      rw [ofBits_384]
      obtain ⟨a, ha⟩ := real_scaled 384 (by norm_num) _ _ (fun l => hx (ix2 (row t i) l)) (fun l => hg (ix1 l)) l
      obtain ⟨b, hb⟩ := hw (ix2 l ⟨192 * h.val + 128 + (32 + v.val), by omega⟩)
      exact ⟨a * b, (congrArg₂ (· * ·) ha hb).trans (EReal.coe_mul a b).symm⟩
  · exact (Cert.Reference6Ideal.Own.prod_at _ _ _ _ _).symm
  · exact Finset.sum_eq_zero fun l _ => mul_zero _

theorem emb_11 (t : Fin cfg0.N) (i : Fin 512) (v : Fin 256) : (win0_11.blk t).view.emb (ix2 i v) = ix2 (row t i) v := by
  obtain ⟨_, _, _, _, _, _, _, _, _, _, _, ⟨a0, a1⟩, _⟩ := idx t
  unfold row
  blk_ext
  all_goals omega

theorem emb_12 (t : Fin cfg0.N) (i : Fin 512) (v : Fin 64) : (win0_12.blk t).view.emb (ix2 i v) = ix2 (row t i) v := by
  obtain ⟨_, _, _, _, _, _, _, _, _, _, _, _, ⟨a0, a1⟩, _⟩ := idx t
  unfold row
  blk_ext
  all_goals omega

theorem emb_13 (t : Fin cfg0.N) (i : Fin 512) (v : Fin 384) : (win0_13.blk t).view.emb (ix2 i v) = ix2 (row t i) v := by
  obtain ⟨_, _, _, _, _, _, _, _, _, _, _, _, _, ⟨a0, a1⟩⟩ := idx t
  unfold row
  blk_ext
  all_goals omega

theorem emb_10 (t : Fin cfg0.N) (h : Fin 8) (i : Fin 512) (v : Fin 384) : (win0_10.blk t).view.emb (ix3 h i v) = ix3 h (row t i) v := by
  obtain ⟨_, _, _, _, _, _, _, _, _, _, ⟨a0, a1, a2⟩, _⟩ := idx t
  unfold row
  blk_ext
  all_goals omega

theorem result_11 (G : FVec Ideal S16384x256 .f32) (hG : ∀ (r : Fin 16384) (v : Fin 256), G (ix2 r v) = latents m c (ix2 r v)) :
    (dats m 0 c).arrAt 11 cfg0.N = G := by
  refine (dats m 0 c).arrAt_eq_of_covers 11 _ (by decide +kernel) fun t hf y => ?_
  blk_simp
  rw [after0_11]
  unfold outsAt0
  dsimp only
  frame_out
  obtain ⟨i, v, rfl⟩ : ∃ (i : Fin 512) (v : Fin 256), y = ix2 i v := ⟨y 0, y 1, by funext a; fin_cases a <;> rfl⟩
  refine (latent_row m c t i v).trans ?_
  exact ((congrArg G (emb_11 t i v)).trans (hG _ v)).symm

theorem result_12 (G : FVec Ideal S16384x64 .f32) (hG : ∀ (r : Fin 16384) (v : Fin 64), G (ix2 r v) = turnedKeys m c (ix2 r v)) :
    (dats m 0 c).arrAt 12 cfg0.N = G := by
  refine (dats m 0 c).arrAt_eq_of_covers 12 _ (by decide +kernel) fun t hf y => ?_
  blk_simp
  rw [after0_12]
  unfold outsAt0
  dsimp only
  frame_out
  obtain ⟨i, v, rfl⟩ : ∃ (i : Fin 512) (v : Fin 64), y = ix2 i v := ⟨y 0, y 1, by funext a; fin_cases a <;> rfl⟩
  refine ((turn_short _ _ _ _ i v).trans (turn_row m c t i _)).trans ?_
  rw [dif_pos (by exact v.isLt)]
  exact ((congrArg G (emb_12 t i v)).trans (hG _ v)).symm

/-- The latent columns of a point's keys. -/
theorem key_tile_0 (G : FVec Ideal S16384x384 .bf16) (hG : ∀ (r : Fin 16384) (v : Fin 384), G (ix2 r v) = Cert.Reference6Ideal.Own.keys (latents m c) (turnedKeys m c) (ix2 r v))
    (t : Fin cfg0.N) (x : S512x256.Idx) (y : S512x384.Idx) (h0 : (y 0).val = 0 + (x 0).val) (h1 : (y 1).val = 0 + (x 1).val) :
    (k0_pay8 (iblk m c 1 t) (iblk m c 7 t) : FVec Ideal S512x256 .bf16) x = G ((win0_13.blk t).view.emb y) := by
  obtain ⟨i, v, rfl⟩ : ∃ (i : Fin 512) (v : Fin 256), x = ix2 i v := ⟨x 0, x 1, by funext a; fin_cases a <;> rfl⟩
  have hy : y = ix2 i ⟨v.val, by omega⟩ := by
    funext a
    fin_cases a
    · exact Fin.ext (h0.trans (Nat.zero_add _))
    · exact Fin.ext (h1.trans (Nat.zero_add _))
  refine ((latent_narrow _ _ i v).trans (latent_row m c t i v)).trans ?_
  rw [hy]
  refine Eq.symm (((congrArg G (emb_13 t i _)).trans (hG _ _)).trans ?_)
  rw [Cert.Reference6Ideal.Own.keys_at, dif_pos (by exact v.isLt)]

/-- The turned columns of a point's keys. -/
theorem key_tile_1 (G : FVec Ideal S16384x384 .bf16) (hG : ∀ (r : Fin 16384) (v : Fin 384), G (ix2 r v) = Cert.Reference6Ideal.Own.keys (latents m c) (turnedKeys m c) (ix2 r v))
    (t : Fin cfg0.N) (x : S512x128.Idx) (y : S512x384.Idx) (h0 : (y 0).val = 0 + (x 0).val) (h1 : (y 1).val = 256 + (x 1).val) :
    (k0_pay9 (iblk m c 4 t) (iblk m c 5 t) (iblk m c 2 t) (iblk m c 3 t) : FVec Ideal S512x128 .bf16) x = G ((win0_13.blk t).view.emb y) := by
  obtain ⟨i, v, rfl⟩ : ∃ (i : Fin 512) (v : Fin 128), x = ix2 i v := ⟨x 0, x 1, by funext a; fin_cases a <;> rfl⟩
  have hy : y = ix2 i ⟨256 + v.val, by omega⟩ := by
    funext a
    fin_cases a
    · exact Fin.ext (h0.trans (Nat.zero_add _))
    · exact Fin.ext h1
  refine ((turn_narrow _ _ _ _ i v).trans (turn_row m c t i v)).trans ?_
  rw [hy]
  refine Eq.symm (((congrArg G (emb_13 t i _)).trans (hG _ _)).trans ?_)
  rw [Cert.Reference6Ideal.Own.keys_at, dif_neg (by dsimp only; omega)]
  by_cases h : v.val < 64
  · rw [dif_pos h, dif_pos (by dsimp only; omega)]
    exact congrArg (fun k => turnedKeys m c (ix2 (row t i) k)) (Fin.ext (by dsimp only; omega))
  · rw [dif_neg h, dif_neg (by dsimp only; omega)]

theorem result_13 (G : FVec Ideal S16384x384 .bf16) (hG : ∀ (r : Fin 16384) (v : Fin 384), G (ix2 r v) = Cert.Reference6Ideal.Own.keys (latents m c) (turnedKeys m c) (ix2 r v)) :
    (dats m 0 c).arrAt 13 cfg0.N = G := by
  refine (dats m 0 c).arrAt_eq_of_covers 13 _ (by decide +kernel) fun t hf y => ?_
  blk_simp
  rw [after0_13]
  unfold outsAt0
  dsimp only
  frame_out
  canon_tiles x h using View.cover_of_tiledBy _ ![512, 128] (by sl_kernel_rfl) y
  · exact key_tile_1 m c G hG t x y (by omega) (by omega)
  · exact key_tile_0 m c G hG t x y (by omega) (by omega)

/-- A head's columns without place, in a point's queries. -/
theorem query_tile_0 (G : FVec Ideal S8x16384x384 .bf16) (hG : ∀ (h : Fin 8) (r : Fin 16384) (v : Fin 384), G (ix3 h r v) = Cert.Reference6Ideal.Own.query (Cert.Reference6Ideal.Own.shared (queries m c) (m ((c.tc : Thread nD τ).loc main_arg6) : FVec Ideal S256x2048 .f32)) (turnedHeads m c) (ix3 h r v))
    (t : Fin cfg0.N) (h : ℕ) (hh : h < 8) (p : FVec Ideal S1x512x256 .bf16) (b : Vec Ideal S256x128 .bf16)
    (hp : ∀ (i : Fin 512) (r : Fin 256), p (ix3 0 i r) = ∑ n : Fin 128, k0_pay10 (iblk m c 0 t) (iblk m c 6 t) (iblk m c 8 t) (ix2 i ⟨128 * h + n.val, by omega⟩) * b (ix2 r n))
    (hb : ∀ (r : Fin 256) (n : Fin 128), b (ix2 r n) = iblk m c 9 t (ix2 r ⟨256 * h + n.val, by omega⟩))
    (x : S1x512x256.Idx) (y : S8x512x384.Idx) (h0 : (y 0).val = h) (h1 : (y 1).val = (x 1).val) (h2 : (y 2).val = (x 2).val) :
    p x = G ((win0_10.blk t).view.emb y) := by
  obtain ⟨i, v, rfl⟩ : ∃ (i : Fin 512) (v : Fin 256), x = ix3 0 i v := ⟨x 1, x 2, by funext a; fin_cases a <;> first | rfl | exact Subsingleton.elim (α := Fin 1) _ _⟩
  have hy : y = ix3 ⟨h, hh⟩ i ⟨v.val, by omega⟩ := by
    funext a
    fin_cases a
    · exact Fin.ext h0
    · exact Fin.ext h1
    · exact Fin.ext h2
  rw [hy]
  refine (hp i v).trans (Eq.symm (((congrArg G (emb_10 t ⟨h, hh⟩ i _)).trans (hG _ _ _)).trans ?_))
  rw [Cert.Reference6Ideal.Own.query_at, dif_pos (by exact v.isLt), Cert.Reference6Ideal.Own.shared_at]
  exact Finset.sum_congr rfl fun n _ => congrArg₂ (· * ·) (column_0 m c t i ⟨h, hh⟩ n).symm ((hb v n).trans (block_wk m c t v _)).symm

/-- A head's turned columns, in a point's queries. -/
theorem query_tile_1 (hx : ∀ y, ∃ r : ℝ, (m ((c.tc : Thread nD τ).loc main_arg0) : FVec Ideal S16384x384 .f32) y = (r : EReal))
    (hg : ∀ y, ∃ r : ℝ, (m ((c.tc : Thread nD τ).loc main_arg3) : FVec Ideal S384 .f32) y = (r : EReal))
    (hw : ∀ y, ∃ r : ℝ, (m ((c.tc : Thread nD τ).loc main_arg5) : FVec Ideal S384x1536 .f32) y = (r : EReal))
    (G : FVec Ideal S8x16384x384 .bf16) (hG : ∀ (h : Fin 8) (r : Fin 16384) (v : Fin 384), G (ix3 h r v) = Cert.Reference6Ideal.Own.query (Cert.Reference6Ideal.Own.shared (queries m c) (m ((c.tc : Thread nD τ).loc main_arg6) : FVec Ideal S256x2048 .f32)) (turnedHeads m c) (ix3 h r v))
    (t : Fin cfg0.N) (h : ℕ) (hh : h < 8) (p : FVec Ideal S1x512x128 .bf16)
    (hp : ∀ (i : Fin 512) (v : Fin 128), p (ix3 0 i v) = k0_pay10 (iblk m c 0 t) (iblk m c 6 t) (iblk m c 8 t) (ix2 i ⟨1024 + 128 * h + v.val, by omega⟩) * iblk m c 4 t (ix2 i v) + k0_pay10 (iblk m c 0 t) (iblk m c 6 t) (iblk m c 8 t) (ix2 i ⟨2048 + 128 * h + v.val, by omega⟩) * iblk m c 5 t (ix2 i v))
    (x : S1x512x128.Idx) (y : S8x512x384.Idx) (h0 : (y 0).val = h) (h1 : (y 1).val = (x 1).val) (h2 : (y 2).val = 256 + (x 2).val) :
    p x = G ((win0_10.blk t).view.emb y) := by
  obtain ⟨i, v, rfl⟩ : ∃ (i : Fin 512) (v : Fin 128), x = ix3 0 i v := ⟨x 1, x 2, by funext a; fin_cases a <;> first | rfl | exact Subsingleton.elim (α := Fin 1) _ _⟩
  have hy : y = ix3 ⟨h, hh⟩ i ⟨256 + v.val, by omega⟩ := by
    funext a
    fin_cases a
    · exact Fin.ext h0
    · exact Fin.ext h1
    · exact Fin.ext h2
  rw [hy]
  refine (hp i v).trans ?_
  rw [column_1 m c t i ⟨h, hh⟩ v, column_2 m c hx hg hw t i ⟨h, hh⟩ v, block_cos, block_sin]
  refine (turned_lane _ _ _ v).trans (Eq.symm (((congrArg G (emb_10 t ⟨h, hh⟩ i _)).trans (hG _ _ _)).trans ?_))
  rw [Cert.Reference6Ideal.Own.query_at, dif_neg (by dsimp only; omega)]
  unfold turnedHeads
  by_cases hv : v.val < 64
  · rw [dif_pos hv, dif_pos (by dsimp only; omega), Cert.Reference6Ideal.Own.heads_at]
    simp only [cos_at, sin_at]
    exact congrArg (rot _ _ _) (Fin.ext (by dsimp only; omega))
  · rw [dif_neg hv, dif_neg (by dsimp only; omega)]

theorem result_10 (hx : ∀ y, ∃ r : ℝ, (m ((c.tc : Thread nD τ).loc main_arg0) : FVec Ideal S16384x384 .f32) y = (r : EReal))
    (hg : ∀ y, ∃ r : ℝ, (m ((c.tc : Thread nD τ).loc main_arg3) : FVec Ideal S384 .f32) y = (r : EReal))
    (hw : ∀ y, ∃ r : ℝ, (m ((c.tc : Thread nD τ).loc main_arg5) : FVec Ideal S384x1536 .f32) y = (r : EReal))
    (G : FVec Ideal S8x16384x384 .bf16) (hG : ∀ (h : Fin 8) (r : Fin 16384) (v : Fin 384), G (ix3 h r v) = Cert.Reference6Ideal.Own.query (Cert.Reference6Ideal.Own.shared (queries m c) (m ((c.tc : Thread nD τ).loc main_arg6) : FVec Ideal S256x2048 .f32)) (turnedHeads m c) (ix3 h r v)) :
    (dats m 0 c).arrAt 10 cfg0.N = G := by
  refine (dats m 0 c).arrAt_eq_of_covers 10 _ (by decide +kernel) fun t hf y => ?_
  blk_simp
  rw [after0_10]
  unfold outsAt0
  dsimp only
  frame_out
  canon_tiles x h using View.cover_of_tiledBy _ ![1, 512, 128] (by sl_kernel_rfl) y
  · exact query_tile_1 m c hx hg hw G hG t 7 (by norm_num) _ (rope_7 _ _ _ _ _) x y (by omega) (by omega) (by omega)
  · exact query_tile_0 m c G hG t 7 (by norm_num) _ _ (nope_7 _ _ _ _) (fun r n => View.ld_unit_apply_of _ _ _ _ _ _ fun a => by fin_cases a <;> simp) x y (by omega) (by omega) (by omega)
  · exact query_tile_1 m c hx hg hw G hG t 6 (by norm_num) _ (rope_6 _ _ _ _ _) x y (by omega) (by omega) (by omega)
  · exact query_tile_0 m c G hG t 6 (by norm_num) _ _ (nope_6 _ _ _ _) (fun r n => View.ld_unit_apply_of _ _ _ _ _ _ fun a => by fin_cases a <;> simp) x y (by omega) (by omega) (by omega)
  · exact query_tile_1 m c hx hg hw G hG t 5 (by norm_num) _ (rope_5 _ _ _ _ _) x y (by omega) (by omega) (by omega)
  · exact query_tile_0 m c G hG t 5 (by norm_num) _ _ (nope_5 _ _ _ _) (fun r n => View.ld_unit_apply_of _ _ _ _ _ _ fun a => by fin_cases a <;> simp) x y (by omega) (by omega) (by omega)
  · exact query_tile_1 m c hx hg hw G hG t 4 (by norm_num) _ (rope_4 _ _ _ _ _) x y (by omega) (by omega) (by omega)
  · exact query_tile_0 m c G hG t 4 (by norm_num) _ _ (nope_4 _ _ _ _) (fun r n => View.ld_unit_apply_of _ _ _ _ _ _ fun a => by fin_cases a <;> simp) x y (by omega) (by omega) (by omega)
  · exact query_tile_1 m c hx hg hw G hG t 3 (by norm_num) _ (rope_3 _ _ _ _ _) x y (by omega) (by omega) (by omega)
  · exact query_tile_0 m c G hG t 3 (by norm_num) _ _ (nope_3 _ _ _ _) (fun r n => View.ld_unit_apply_of _ _ _ _ _ _ fun a => by fin_cases a <;> simp) x y (by omega) (by omega) (by omega)
  · exact query_tile_1 m c hx hg hw G hG t 2 (by norm_num) _ (rope_2 _ _ _ _ _) x y (by omega) (by omega) (by omega)
  · exact query_tile_0 m c G hG t 2 (by norm_num) _ _ (nope_2 _ _ _ _) (fun r n => View.ld_unit_apply_of _ _ _ _ _ _ fun a => by fin_cases a <;> simp) x y (by omega) (by omega) (by omega)
  · exact query_tile_1 m c hx hg hw G hG t 1 (by norm_num) _ (rope_1 _ _ _ _ _) x y (by omega) (by omega) (by omega)
  · exact query_tile_0 m c G hG t 1 (by norm_num) _ _ (nope_1 _ _ _ _) (fun r n => View.ld_unit_apply_of _ _ _ _ _ _ fun a => by fin_cases a <;> simp) x y (by omega) (by omega) (by omega)
  · exact query_tile_1 m c hx hg hw G hG t 0 (by norm_num) _ (rope_0 _ _ _ _ _) x y (by omega) (by omega) (by omega)
  · exact query_tile_0 m c G hG t 0 (by norm_num) _ _ (nope_0 _ _ _ _) (fun r n => View.ld_unit_apply_of _ _ _ _ _ _ fun a => by fin_cases a <;> simp) x y (by omega) (by omega) (by omega)

end
end Cert.Kernel6Ideal.Own

namespace Cert.Proof.MlaPrep
open Idealize.ShloMosaic Idealize.ShloMosaic.TcCoe Idealize.SL.Sem
open Cert.Kernel6Ideal.Own

/-- From finite arguments the kernel and the reference end with the same four results. -/
theorem algebraic [Cert.Pre_finite6.Facts] : Cert.algebraic_Kernel6Ideal_Reference6Ideal_pre_finite6 := by
  intro m ρ m' ρ' hpre hagree
  refine ⟨fun c => Cert.Reference6Ideal.Own.query (Cert.Reference6Ideal.Own.shared (queries m c) (m ((c.tc : Thread Cert.Kernel6Ideal.nD Cert.Kernel6Ideal.τ).loc Cert.Kernel6Ideal.main_arg6))) (turnedHeads m c), fun c => latents m c, fun c => turnedKeys m c, fun c => Cert.Reference6Ideal.Own.keys (latents m c) (turnedKeys m c), (θ_run Cert.Kernel6Ideal.defs _ _).mono (fun _ h c =>
    ⟨(h c).1.trans (result_10 m c (Cert.Finite.reals _ _ _ (hpre c).1) (Cert.Finite.reals _ _ _ (hpre c).2.1) (Cert.Finite.reals _ _ _ (hpre c).2.2) _ fun _ _ _ => rfl),
      (h c).2.1.trans (result_11 m c _ fun _ _ => rfl), (h c).2.2.1.trans (result_12 m c _ fun _ _ => rfl),
      (h c).2.2.2.1.trans (result_13 m c _ fun _ _ => rfl), (h c).2.2.2.2⟩)
    (Cert.Kernel6Ideal.Value.run_blocks m ρ), ?_⟩
  have hu : ∀ c : Dev Cert.Reference6Ideal.nD, Cert.Reference6Ideal.Own.prod (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg5)) = queries m c := by
    intro c
    obtain ⟨h0, h1, h2, h3, h4, h5, h6⟩ := hagree c
    rw [h0, h3, h5]
    rfl
  have hl : ∀ c : Dev Cert.Reference6Ideal.nD, Cert.Reference6Ideal.Own.latent (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg4)) = latents m c := by
    intro c
    obtain ⟨h0, h1, h2, h3, h4, h5, h6⟩ := hagree c
    rw [h1, h4]
    rfl
  have hk : ∀ c : Dev Cert.Reference6Ideal.nD, Cert.Reference6Ideal.Own.key (m' ((c.tc : Thread Cert.Reference6Ideal.nD Cert.Reference6Ideal.τ).loc Cert.Reference6Ideal.main_arg2)) (Host.cos Cert.Reference6Ideal.Own.angles) (Host.sin Cert.Reference6Ideal.Own.angles) = turnedKeys m c := by
    intro c
    obtain ⟨h0, h1, h2, h3, h4, h5, h6⟩ := hagree c
    rw [h2]
    rfl
  have hq : ∀ c : Dev Cert.Reference6Ideal.nD, Cert.Reference6Ideal.Own.query (Cert.Reference6Ideal.Own.shared (Cert.Reference6Ideal.Own.prod (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg5))) (m' ((c.tc : Thread Cert.Reference6Ideal.nD Cert.Reference6Ideal.τ).loc Cert.Reference6Ideal.main_arg6))) (Cert.Reference6Ideal.Own.heads (Cert.Reference6Ideal.Own.prod (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg5))) (Host.cos Cert.Reference6Ideal.Own.angles) (Host.sin Cert.Reference6Ideal.Own.angles)) = Cert.Reference6Ideal.Own.query (Cert.Reference6Ideal.Own.shared (queries m c) (m ((c.tc : Thread Cert.Kernel6Ideal.nD Cert.Kernel6Ideal.τ).loc Cert.Kernel6Ideal.main_arg6))) (turnedHeads m c) := by
    intro c
    obtain ⟨h0, h1, h2, h3, h4, h5, h6⟩ := hagree c
    rw [hu c, h6]
    rfl
  refine (θ_run Cert.Reference6Ideal.defs _ _).mono (fun _ h c => ?_) (Cert.Reference6Ideal.Value.run (F := Ideal) m' ρ')
  refine ⟨(h c).1.trans (Eq.trans ?_ (hq c)), (h c).2.1.trans (Eq.trans ?_ (hl c)), (h c).2.2.1.trans (Eq.trans ?_ (hk c)), (h c).2.2.2.1.trans (Eq.trans ?_ (congrArg₂ Cert.Reference6Ideal.Own.keys (hl c) (hk c))), (h c).2.2.2.2⟩
  all_goals rfl

end Cert.Proof.MlaPrep
end
-- ==== Proof.Loops.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.VecWindow

@[expose] public section
set_option maxRecDepth 8192
set_option maxHeartbeats 200000

noncomputable section

namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The number of trips of the score loop is the number of key blocks before the point's own. -/
theorem trips_t1 (i : grid0.Coords) : (k0_t1_loop i).trips = (i 1).val := by
  have : ∀ a : Fin 8, Scf.trips 0#32 (Scalar.addi 0#32 (Scalar.muli (Scalar.divsi (Scalar.subi (BitVec.ofNat 32 a.val) 0#32) 1#32) 1#32)) 1#32 = a.val := by decide +kernel
  exact this (i 1)

/-- The number of trips of the value loop is the number of key blocks before the point's own. -/
theorem trips_t3 (i : grid0.Coords) : (k0_t3_loop i).trips = (i 1).val := trips_t1 i

/-- The rest of the score loop never runs. -/
theorem trips_t2 (i : grid0.Coords) : (k0_t2_loop i).trips = 0 := by
  have : ∀ a : Fin 8, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0 := by decide +kernel
  exact this (i 1)

/-- The rest of the value loop never runs. -/
theorem trips_t4 (i : grid0.Coords) : (k0_t4_loop i).trips = 0 := trips_t2 i

/-- The score loop's stores into its two memories, the scores and their running maximum, after a trip, the last first. -/
def next1 (i : grid0.Coords) (arg3 : Memref sig .tc .vmem S1x2048x384 .bf16) (arg5 : Memref sig .tc .vmem S8x2048x256 .f32) (arg6 : Memref sig .tc .vmem S2048x256 .f32)
    (v0 : Vec F S8x1x256x384 .bf16) (X3 : BufTy.Contents (Elt F) arg3.view.ty) (k : Fin (k0_t1_loop i).trips) (G5 : BufTy.Contents (Elt F) arg5.view.ty) (G6 : BufTy.Contents (Elt F) arg6.view.ty) (p : List (View.Piece (Elt F) S8x2048x256 .f32) × List (View.Piece (Elt F) S2048x256 .f32)) : List (View.Piece (Elt F) S8x2048x256 .f32) × List (View.Piece (Elt F) S2048x256 .f32) :=
  ([⟨Rect.unit (s := S8x2048x256) (k0_off4 i k) S1x2048x256.size (k0_off4_inb i k),
      k0_pay17 v0 (arg3.view.readAt (Elt F) (Rect.unit (s := S1x2048x384) (k0_off3 i k) S1x256x384.size (k0_off3_inb i k)).toLoadRect X3)⟩] ++ p.1,
   [⟨(Rect.unit (s := S2048x256) ![0, 0] S2048x256.size inb_S2048x256_S2048x256_0_0),
      k0_pay18 v0 (arg3.view.readAt (Elt F) (Rect.unit (s := S1x2048x384) (k0_off3 i k) S1x256x384.size (k0_off3_inb i k)).toLoadRect X3)
        (arg6.view.readAt (Elt F) (Rect.unit (s := S2048x256) ![0, 0] S2048x256.size inb_S2048x256_S2048x256_0_0).toLoadRect (arg6.view.writes (Elt F) G6 p.2))⟩] ++ p.2)

/-- The score loop's stores into its two memories before trip `k`, the last first. -/
def st1 (i : grid0.Coords) (arg3 : Memref sig .tc .vmem S1x2048x384 .bf16) (arg5 : Memref sig .tc .vmem S8x2048x256 .f32) (arg6 : Memref sig .tc .vmem S2048x256 .f32)
    (v0 : Vec F S8x1x256x384 .bf16) (X3 : BufTy.Contents (Elt F) arg3.view.ty) (G5 : BufTy.Contents (Elt F) arg5.view.ty) (G6 : BufTy.Contents (Elt F) arg6.view.ty) : ℕ → List (View.Piece (Elt F) S8x2048x256 .f32) × List (View.Piece (Elt F) S2048x256 .f32)
  | 0 => ([], [])
  | k + 1 => if h : k < (k0_t1_loop i).trips then next1 i arg3 arg5 arg6 v0 X3 ⟨k, h⟩ G5 G6 (st1 i arg3 arg5 arg6 v0 X3 G5 G6 k) else st1 i arg3 arg5 arg6 v0 X3 G5 G6 k

theorem st1_succ (i : grid0.Coords) (arg3 : Memref sig .tc .vmem S1x2048x384 .bf16) (arg5 : Memref sig .tc .vmem S8x2048x256 .f32) (arg6 : Memref sig .tc .vmem S2048x256 .f32)
    (v0 : Vec F S8x1x256x384 .bf16) (X3 : BufTy.Contents (Elt F) arg3.view.ty) (G5 : BufTy.Contents (Elt F) arg5.view.ty) (G6 : BufTy.Contents (Elt F) arg6.view.ty) (k : Fin (k0_t1_loop i).trips) :
    st1 i arg3 arg5 arg6 v0 X3 G5 G6 (k.val + 1) = next1 i arg3 arg5 arg6 v0 X3 k G5 G6 (st1 i arg3 arg5 arg6 v0 X3 G5 G6 k.val) := by
  rw [st1, dif_pos k.isLt]

set_option warn.classDefReducibility false in
/-- The score loop: before trip `k` the two memories hold `st1` at `k`. -/
@[sl_loop] def loop1 (𝒱 : Variants) (c : Dev nD) (bd : Option 𝒱.V) (E : Set ℕ) (i : grid0.Coords) (arg2 : Memref sig .tc .vmem S8x1x256x384 .bf16) (harg2 : arg2.IsWhole) (arg3 : Memref sig .tc .vmem S1x2048x384 .bf16) (harg3 : arg3.IsWhole) (arg4 : Memref sig .tc .vmem S8x1x256x256 .bf16) (harg4 : arg4.IsWhole) (arg5 : Memref sig .tc .vmem S8x2048x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole) (v0 : Vec F S8x1x256x384 .bf16)
    (X3 : BufTy.Contents (Elt F) arg3.view.ty) (G5 : BufTy.Contents (Elt F) arg5.view.ty) (G6 : BufTy.Contents (Elt F) arg6.view.ty) :
    Idealize.ShloMosaic.LoopInv (M := 𝕄G) Idealize.ShloMosaic.frame (wpE defs₀ 𝒱 (c : Thread nD τ) bd) E
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 v0) where
  inv := fun k _ => iprop((arg3.view.loc (c : Thread nD τ) ↦[arg3.view.set]{fullShare} X3) ∗ (∃ f, (arg5.view.loc (c : Thread nD τ) ↦[arg5.view.set]{fullShare} f) ∗ ⌜f = arg5.view.writes (Elt F) G5 (st1 i arg3 arg5 arg6 v0 X3 G5 G6 k).1⌝) ∗ (∃ f, (arg6.view.loc (c : Thread nD τ) ↦[arg6.view.set]{fullShare} f) ∗ ⌜f = arg6.view.writes (Elt F) G6 (st1 i arg3 arg5 arg6 v0 X3 G5 G6 k).2⌝))
  step k acc := by
    iintro ⟨HR3, ⟨%f5, HW5, %h5⟩, ⟨%f6, HW6, %h6⟩⟩
    unfold k0_t1_body
    sl_exec
    sl_step
    rw [st1_succ i arg3 arg5 arg6 v0 X3 G5 G6 k]
    isplitl [HR3]; · iexact HR3
    isplitl [HW5]
    · iexists _; isplitl [HW5]; · iexact HW5
      ipureintro; rw [h5, next1, ← View.writes_append]
    iexists _; isplitl [HW6]; · iexact HW6
    ipureintro; rw [h6, next1, ← View.writes_append]

set_option warn.classDefReducibility false in
/-- The rest of the score loop, which never runs. -/
@[sl_loop] def loop2 (𝒱 : Variants) (c : Dev nD) (bd : Option 𝒱.V) (E : Set ℕ) (i : grid0.Coords) (arg2 : Memref sig .tc .vmem S8x1x256x384 .bf16) (harg2 : arg2.IsWhole) (arg3 : Memref sig .tc .vmem S1x2048x384 .bf16) (harg3 : arg3.IsWhole) (arg4 : Memref sig .tc .vmem S8x1x256x256 .bf16) (harg4 : arg4.IsWhole) (arg5 : Memref sig .tc .vmem S8x2048x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole) (v0 : Vec F S8x1x256x384 .bf16) :
    Idealize.ShloMosaic.LoopInv (M := 𝕄G) Idealize.ShloMosaic.frame (wpE defs₀ 𝒱 (c : Thread nD τ) bd) E
      (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 v0) where
  inv := fun _ _ => iprop(emp)
  step k acc := absurd k.isLt (by have := trips_t2 i; unfold Scf.Loop.trips at this; omega)

/-- The value loop's stores into its two memories, the sums of the weights and of the weighted values, after a trip, the last first. -/
def next3 (i : grid0.Coords) (arg3 : Memref sig .tc .vmem S1x2048x384 .bf16) (arg5 : Memref sig .tc .vmem S8x2048x256 .f32) (arg7 : Memref sig .tc .vmem S2048x128 .f32) (arg8 : Memref sig .tc .vmem S2048x128 .f32) (arg9 : Memref sig .tc .vmem S2048x256 .f32)
    (X3 : BufTy.Contents (Elt F) arg3.view.ty) (X5 : BufTy.Contents (Elt F) arg5.view.ty) (X7 : BufTy.Contents (Elt F) arg7.view.ty) (k : Fin (k0_t3_loop i).trips) (G8 : BufTy.Contents (Elt F) arg8.view.ty) (G9 : BufTy.Contents (Elt F) arg9.view.ty) (p : List (View.Piece (Elt F) S2048x128 .f32) × List (View.Piece (Elt F) S2048x256 .f32)) : List (View.Piece (Elt F) S2048x128 .f32) × List (View.Piece (Elt F) S2048x256 .f32) :=
  ([⟨(Rect.unit (s := S2048x128) ![0, 0] S2048x128.size inb_S2048x128_S2048x128_0_0),
      k0_pay4 (arg5.view.readAt (Elt F) (Rect.unit (s := S8x2048x256) (k0_off7 i k) S1x2048x256.size (k0_off7_inb i k)).toLoadRect X5)
        (arg7.view.readAt (Elt F) (Rect.unit (s := S2048x128) ![0, 0] S2048x128.size inb_S2048x128_S2048x128_0_0).toLoadRect X7) (arg8.view.readAt (Elt F) (Rect.unit (s := S2048x128) ![0, 0] S2048x128.size inb_S2048x128_S2048x128_0_0).toLoadRect (arg8.view.writes (Elt F) G8 p.1))⟩] ++ p.1,
   [⟨(Rect.unit (s := S2048x256) ![0, 0] S2048x256.size inb_S2048x256_S2048x256_0_0),
      k0_pay5 (arg5.view.readAt (Elt F) (Rect.unit (s := S8x2048x256) (k0_off7 i k) S1x2048x256.size (k0_off7_inb i k)).toLoadRect X5)
        (arg7.view.readAt (Elt F) (Rect.unit (s := S2048x128) ![0, 0] S2048x128.size inb_S2048x128_S2048x128_0_0).toLoadRect X7)
        (arg3.view.readAt (Elt F) (Rect.unit (s := S1x2048x384) (k0_off8 i k) S1x256x384.size (k0_off8_inb i k)).toLoadRect X3)
        (arg9.view.readAt (Elt F) (Rect.unit (s := S2048x256) ![0, 0] S2048x256.size inb_S2048x256_S2048x256_0_0).toLoadRect (arg9.view.writes (Elt F) G9 p.2))⟩] ++ p.2)

/-- The value loop's stores into its two memories before trip `k`, the last first. -/
def st3 (i : grid0.Coords) (arg3 : Memref sig .tc .vmem S1x2048x384 .bf16) (arg5 : Memref sig .tc .vmem S8x2048x256 .f32) (arg7 : Memref sig .tc .vmem S2048x128 .f32) (arg8 : Memref sig .tc .vmem S2048x128 .f32) (arg9 : Memref sig .tc .vmem S2048x256 .f32)
    (X3 : BufTy.Contents (Elt F) arg3.view.ty) (X5 : BufTy.Contents (Elt F) arg5.view.ty) (X7 : BufTy.Contents (Elt F) arg7.view.ty) (G8 : BufTy.Contents (Elt F) arg8.view.ty) (G9 : BufTy.Contents (Elt F) arg9.view.ty) : ℕ → List (View.Piece (Elt F) S2048x128 .f32) × List (View.Piece (Elt F) S2048x256 .f32)
  | 0 => ([], [])
  | k + 1 => if h : k < (k0_t3_loop i).trips then next3 i arg3 arg5 arg7 arg8 arg9 X3 X5 X7 ⟨k, h⟩ G8 G9 (st3 i arg3 arg5 arg7 arg8 arg9 X3 X5 X7 G8 G9 k) else st3 i arg3 arg5 arg7 arg8 arg9 X3 X5 X7 G8 G9 k

theorem st3_succ (i : grid0.Coords) (arg3 : Memref sig .tc .vmem S1x2048x384 .bf16) (arg5 : Memref sig .tc .vmem S8x2048x256 .f32) (arg7 : Memref sig .tc .vmem S2048x128 .f32) (arg8 : Memref sig .tc .vmem S2048x128 .f32) (arg9 : Memref sig .tc .vmem S2048x256 .f32)
    (X3 : BufTy.Contents (Elt F) arg3.view.ty) (X5 : BufTy.Contents (Elt F) arg5.view.ty) (X7 : BufTy.Contents (Elt F) arg7.view.ty) (G8 : BufTy.Contents (Elt F) arg8.view.ty) (G9 : BufTy.Contents (Elt F) arg9.view.ty) (k : Fin (k0_t3_loop i).trips) :
    st3 i arg3 arg5 arg7 arg8 arg9 X3 X5 X7 G8 G9 (k.val + 1) = next3 i arg3 arg5 arg7 arg8 arg9 X3 X5 X7 k G8 G9 (st3 i arg3 arg5 arg7 arg8 arg9 X3 X5 X7 G8 G9 k.val) := by
  rw [st3, dif_pos k.isLt]

set_option warn.classDefReducibility false in
/-- The value loop: before trip `k` the two memories hold `st3` at `k`. -/
@[sl_loop] def loop3 (𝒱 : Variants) (c : Dev nD) (bd : Option 𝒱.V) (E : Set ℕ) (i : grid0.Coords) (arg2 : Memref sig .tc .vmem S8x1x256x384 .bf16) (harg2 : arg2.IsWhole) (arg3 : Memref sig .tc .vmem S1x2048x384 .bf16) (harg3 : arg3.IsWhole) (arg4 : Memref sig .tc .vmem S8x1x256x256 .bf16) (harg4 : arg4.IsWhole) (arg5 : Memref sig .tc .vmem S8x2048x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (X3 : BufTy.Contents (Elt F) arg3.view.ty) (X5 : BufTy.Contents (Elt F) arg5.view.ty) (X7 : BufTy.Contents (Elt F) arg7.view.ty) (G8 : BufTy.Contents (Elt F) arg8.view.ty) (G9 : BufTy.Contents (Elt F) arg9.view.ty) :
    Idealize.ShloMosaic.LoopInv (M := 𝕄G) Idealize.ShloMosaic.frame (wpE defs₀ 𝒱 (c : Thread nD τ) bd) E
      (k0_t3_loop i).lb (k0_t3_loop i).ub (k0_t3_loop i).st (k0_t3_ok i) () (k0_t3_body (F := F) i arg2 harg2 arg3 harg3 arg4 harg4 arg5 harg5 arg6 harg6 arg7 harg7 arg8 harg8 arg9 harg9) where
  inv := fun k _ => iprop((arg3.view.loc (c : Thread nD τ) ↦[arg3.view.set]{fullShare} X3) ∗ (arg5.view.loc (c : Thread nD τ) ↦[arg5.view.set]{fullShare} X5) ∗ (arg7.view.loc (c : Thread nD τ) ↦[arg7.view.set]{fullShare} X7) ∗ (∃ f, (arg8.view.loc (c : Thread nD τ) ↦[arg8.view.set]{fullShare} f) ∗ ⌜f = arg8.view.writes (Elt F) G8 (st3 i arg3 arg5 arg7 arg8 arg9 X3 X5 X7 G8 G9 k).1⌝) ∗ (∃ f, (arg9.view.loc (c : Thread nD τ) ↦[arg9.view.set]{fullShare} f) ∗ ⌜f = arg9.view.writes (Elt F) G9 (st3 i arg3 arg5 arg7 arg8 arg9 X3 X5 X7 G8 G9 k).2⌝))
  step k acc := by
    iintro ⟨HR3, HR5, HR7, ⟨%f8, HW8, %h8⟩, ⟨%f9, HW9, %h9⟩⟩
    unfold k0_t3_body
    sl_exec
    sl_step
    rw [st3_succ i arg3 arg5 arg7 arg8 arg9 X3 X5 X7 G8 G9 k]
    isplitl [HR3]; · iexact HR3
    isplitl [HR5]; · iexact HR5
    isplitl [HR7]; · iexact HR7
    isplitl [HW8]
    · iexists _; isplitl [HW8]; · iexact HW8
      ipureintro; rw [h8, next3, ← View.writes_append]
    iexists _; isplitl [HW9]; · iexact HW9
    ipureintro; rw [h9, next3, ← View.writes_append]

set_option warn.classDefReducibility false in
/-- The rest of the value loop, which never runs. -/
@[sl_loop] def loop4 (𝒱 : Variants) (c : Dev nD) (bd : Option 𝒱.V) (E : Set ℕ) (i : grid0.Coords) (arg2 : Memref sig .tc .vmem S8x1x256x384 .bf16) (harg2 : arg2.IsWhole) (arg3 : Memref sig .tc .vmem S1x2048x384 .bf16) (harg3 : arg3.IsWhole) (arg4 : Memref sig .tc .vmem S8x1x256x256 .bf16) (harg4 : arg4.IsWhole) (arg5 : Memref sig .tc .vmem S8x2048x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole) :
    Idealize.ShloMosaic.LoopInv (M := 𝕄G) Idealize.ShloMosaic.frame (wpE defs₀ 𝒱 (c : Thread nD τ) bd) E
      (k0_t4_loop i).lb (k0_t4_loop i).ub (k0_t4_loop i).st (k0_t4_ok i) () (k0_t4_body (F := F) i arg2 harg2 arg3 harg3 arg4 harg4 arg5 harg5 arg6 harg6 arg7 harg7 arg8 harg8 arg9 harg9) where
  inv := fun _ _ => iprop(emp)
  step k acc := absurd k.isLt (by have := trips_t4 i; unfold Scf.Loop.trips at this; omega)

end Cert.KernelIdeal.Own
end
-- ==== Proof.Spec.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.VecWindow

@[expose] public section
set_option maxRecDepth 8192
set_option maxHeartbeats 200000

noncomputable section

namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The `k`-th block of 256 keys (each its 256 latent lanes, 64 rotated lanes and 64 zeros). -/
def keyBlk (x1 : Vec F S1x2048x384 .bf16) (k : ℕ) : Vec F S1x256x384 .bf16 :=
  VecWindow.window x1 ![0, 256 * (k % 8), 0] S1x256x384.size (fun a => by
    have : k % 8 < 8 := Nat.mod_lt _ (by norm_num)
    fin_cases a <;> simp [S1x256x384, S1x2048x384] <;> omega)

/-- The running maximum of the scores, lane by lane, after `k` of the earlier key blocks; `q` is the point's own block number. -/
def runMax (x0 : Vec F S8x1x256x384 .bf16) (x1 : Vec F S1x2048x384 .bf16) (q : ℕ) : ℕ → Vec F S2048x256 .f32
  | 0 => k0_pay15 x0 (keyBlk x1 q)
  | k + 1 => k0_pay18 x0 (keyBlk x1 k) (runMax x0 x1 q k)

/-- The rows' maxima times the exponents' factor, in 128 equal lanes. -/
def offset (x0 : Vec F S8x1x256x384 .bf16) (x1 : Vec F S1x2048x384 .bf16) (q : ℕ) : Vec F S2048x128 .f32 :=
  k0_pay23 (k0_pay22 (runMax x0 x1 q q)) (Named.named κ "scale_log2e" 0x3DD53B95#32)

/-- The sums of the weights after the own block and `k` of the earlier ones, in 128 partial sums a row. -/
def sumW (x0 : Vec F S8x1x256x384 .bf16) (x1 : Vec F S1x2048x384 .bf16) (q : ℕ) : ℕ → Vec F S2048x128 .f32
  | 0 => k0_pay27 (k0_pay14 x0 (keyBlk x1 q)) (offset x0 x1 q)
  | k + 1 => k0_pay4 (k0_pay17 x0 (keyBlk x1 k)) (offset x0 x1 q) (sumW x0 x1 q k)

/-- The sums of the weighted values after the own block and `k` of the earlier ones. -/
def sumV (x0 : Vec F S8x1x256x384 .bf16) (x1 : Vec F S1x2048x384 .bf16) (q : ℕ) : ℕ → Vec F S2048x256 .f32
  | 0 => k0_pay28 (k0_pay14 x0 (keyBlk x1 q)) (offset x0 x1 q) (keyBlk x1 q)
  | k + 1 => k0_pay5 (k0_pay17 x0 (keyBlk x1 k)) (offset x0 x1 q) (keyBlk x1 k) (sumV x0 x1 q k)

/-- What a grid point leaves in its output block, as a function of its query block and of the keys. -/
def outBlk (x0 : Vec F S8x1x256x384 .bf16) (x1 : Vec F S1x2048x384 .bf16) (q : ℕ) : Vec F S8x1x256x256 .bf16 :=
  k0_pay11 (sumW x0 x1 q q) (sumV x0 x1 q q)

end Cert.KernelIdeal.Own
end
-- ==== Proof.Body.lean ====
module

public import proofs.«01_k».proof.Proof.Gen.KernelIdeal.Skeleton
public import proofs.«01_k».proof.Proof.Loops
public import proofs.«01_k».proof.Proof.Spec
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.VecWindow

@[expose] public section
set_option maxRecDepth 8192
set_option maxHeartbeats 200000

noncomputable section

namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem point_lt (i : grid0.Coords) : (i 1).val < 8 := (i 1).isLt

theorem iv_toNat : ∀ n : Fin 8, (Scalar.indexCast (Scf.iv 0#32 1#32 n.val)).toNat = n.val := by decide +kernel
theorem iv_key : ∀ n : Fin 8, (Scalar.indexCast (Scalar.muli (Scf.iv 0#32 1#32 n.val) 256#32)).toNat = 256 * (n.val % 8) := by decide +kernel
theorem pt_toNat : ∀ n : Fin 8, (Scalar.indexCast (BitVec.ofNat 32 n.val)).toNat = n.val := by decide +kernel
theorem pt_key : ∀ n : Fin 8, (Scalar.indexCast (Scalar.muli (BitVec.ofNat 32 n.val) 256#32)).toNat = 256 * (n.val % 8) := by decide +kernel

theorem off1_eq (i : grid0.Coords) : k0_off1 i = ![0, 256 * ((i 1).val % 8), 0] := by
  have := pt_key (i 1)
  simpa [k0_off1] using this
theorem off2_eq (i : grid0.Coords) : k0_off2 i = ![(i 1).val, 0, 0] := by
  have := pt_toNat (i 1)
  simpa [k0_off2] using this
theorem off3_eq (i : grid0.Coords) (k : Fin (k0_t1_loop i).trips) : k0_off3 i k = ![0, 256 * (k.val % 8), 0] := by
  have := iv_key ⟨k.val, by have := k.isLt; have := trips_t1 i; have := point_lt i; omega⟩
  simpa [k0_off3] using this
theorem off4_eq (i : grid0.Coords) (k : Fin (k0_t1_loop i).trips) : k0_off4 i k = ![k.val, 0, 0] := by
  have := iv_toNat ⟨k.val, by have := k.isLt; have := trips_t1 i; have := point_lt i; omega⟩
  simpa [k0_off4] using this
theorem off7_eq (i : grid0.Coords) (k : Fin (k0_t3_loop i).trips) : k0_off7 i k = ![k.val, 0, 0] := by
  have := iv_toNat ⟨k.val, by have := k.isLt; have := trips_t3 i; have := point_lt i; omega⟩
  simpa [k0_off7] using this
theorem off8_eq (i : grid0.Coords) (k : Fin (k0_t3_loop i).trips) : k0_off8 i k = ![0, 256 * (k.val % 8), 0] := by
  have := iv_key ⟨k.val, by have := k.isLt; have := trips_t3 i; have := point_lt i; omega⟩
  simpa [k0_off8] using this

/-- A load of 256 keys at the offset of block `k` reads that block. -/
theorem read_keys (arg3 : Memref sig .tc .vmem S1x2048x384 .bf16) (X3 : BufTy.Contents (Elt F) arg3.view.ty) (x1 : Vec F S1x2048x384 .bf16) (hX : arg3.view.read (Elt F) X3 = x1) (k : ℕ)
    (off : Fin 3 → ℕ) (inb : ∀ a, off a + S1x256x384.size a ≤ S1x2048x384.size a) (h : off = ![0, 256 * (k % 8), 0]) :
    arg3.view.readAt (Elt F) (Rect.unit (s := S1x2048x384) off S1x256x384.size inb).toLoadRect X3 = keyBlk x1 k := by
  subst h; subst hX; rfl

/-- A load of one slab of scores reads that window. -/
theorem read_slab (arg5 : Memref sig .tc .vmem S8x2048x256 .f32) (X5 : BufTy.Contents (Elt F) arg5.view.ty) (k : ℕ)
    (off : Fin 3 → ℕ) (inb : ∀ a, off a + S1x2048x256.size a ≤ S8x2048x256.size a) (h : off = ![k, 0, 0]) (inb' : ∀ a : Fin 3, (![k, 0, 0] : Fin 3 → ℕ) a + S1x2048x256.size a ≤ S8x2048x256.size a) :
    arg5.view.readAt (Elt F) (Rect.unit (s := S8x2048x256) off S1x2048x256.size inb).toLoadRect X5 = VecWindow.window (arg5.view.read (Elt F) X5) ![k, 0, 0] S1x2048x256.size inb' := by
  subst h; rfl

/-- Before trip `k` of the score loop the maximum's memory holds `runMax` at `k`. -/
theorem read_st1 (i : grid0.Coords) (arg3 : Memref sig .tc .vmem S1x2048x384 .bf16) (arg5 : Memref sig .tc .vmem S8x2048x256 .f32) (arg6 : Memref sig .tc .vmem S2048x256 .f32) (x0 : Vec F S8x1x256x384 .bf16) (X3 : BufTy.Contents (Elt F) arg3.view.ty) (x1 : Vec F S1x2048x384 .bf16)
    (hX : arg3.view.read (Elt F) X3 = x1) (G5 : BufTy.Contents (Elt F) arg5.view.ty) (G6 : BufTy.Contents (Elt F) arg6.view.ty) (h6 : arg6.view.read (Elt F) G6 = runMax x0 x1 (i 1).val 0) :
    ∀ k, k ≤ (k0_t1_loop i).trips → arg6.view.read (Elt F) (arg6.view.writes (Elt F) G6 (st1 i arg3 arg5 arg6 x0 X3 G5 G6 k).2) = runMax x0 x1 (i 1).val k
  | 0, _ => h6
  | k + 1, hk => by
    have ih := read_st1 i arg3 arg5 arg6 x0 X3 x1 hX G5 G6 h6 k (Nat.le_of_succ_le hk)
    rw [st1_succ i arg3 arg5 arg6 x0 X3 G5 G6 ⟨k, hk⟩, next1, List.singleton_append, List.singleton_append]
    dsimp only
    rw [View.read_writes_full, View.readAt_full, ih, read_keys arg3 X3 x1 hX k _ _ (off3_eq i ⟨k, hk⟩)]
    rfl

/-- Before trip `k` of the score loop the scores' memory holds the earlier blocks' scores below `k`, and on the own block's slab what it held at entry. -/
theorem slab_st1 (i : grid0.Coords) (arg3 : Memref sig .tc .vmem S1x2048x384 .bf16) (arg5 : Memref sig .tc .vmem S8x2048x256 .f32) (arg6 : Memref sig .tc .vmem S2048x256 .f32) (x0 : Vec F S8x1x256x384 .bf16) (X3 : BufTy.Contents (Elt F) arg3.view.ty) (x1 : Vec F S1x2048x384 .bf16)
    (hX : arg3.view.read (Elt F) X3 = x1) (G5 : BufTy.Contents (Elt F) arg5.view.ty) (G6 : BufTy.Contents (Elt F) arg6.view.ty) :
    ∀ k, k ≤ (k0_t1_loop i).trips →
      (∀ j, j < k → ∀ inb, VecWindow.window (arg5.view.read (Elt F) (arg5.view.writes (Elt F) G5 (st1 i arg3 arg5 arg6 x0 X3 G5 G6 k).1)) ![j, 0, 0] S1x2048x256.size inb = k0_pay17 x0 (keyBlk x1 j)) ∧
      ∀ inb, VecWindow.window (arg5.view.read (Elt F) (arg5.view.writes (Elt F) G5 (st1 i arg3 arg5 arg6 x0 X3 G5 G6 k).1)) ![(i 1).val, 0, 0] S1x2048x256.size inb
        = VecWindow.window (arg5.view.read (Elt F) G5) ![(i 1).val, 0, 0] S1x2048x256.size inb
  | 0, _ => ⟨fun j hj => absurd hj (Nat.not_lt_zero _), fun _ => rfl⟩
  | k + 1, hk => by
    have ih := slab_st1 i arg3 arg5 arg6 x0 X3 x1 hX G5 G6 k (Nat.le_of_succ_le hk)
    have ht := trips_t1 i
    rw [st1_succ i arg3 arg5 arg6 x0 X3 G5 G6 ⟨k, hk⟩, next1, List.singleton_append]
    dsimp only
    rw [View.read_writes_cons_put _ _ _ _ _ (off4_eq i ⟨k, hk⟩), read_keys arg3 X3 x1 hX k _ _ (off3_eq i ⟨k, hk⟩)]
    refine ⟨fun j hj inb => ?_, fun inb => ?_⟩
    · rcases Nat.lt_succ_iff_lt_or_eq.mp hj with hjk | rfl
      · rw [VecWindow.window_put_of_disjoint _ _ _ _ _ _ _ (0 : Fin 3) (Or.inl (by show j + 1 ≤ k; omega))]
        exact ih.1 j hjk inb
      · exact VecWindow.window_put_same _ _ _ _ _
    · rw [VecWindow.window_put_of_disjoint _ _ _ _ _ _ _ (0 : Fin 3) (Or.inr (by show k + 1 ≤ (i 1).val; omega))]
      exact ih.2 inb

/-- Before trip `k` of the value loop the two memories hold `sumW` and `sumV` at `k`. -/
theorem read_st3 (i : grid0.Coords) (arg3 : Memref sig .tc .vmem S1x2048x384 .bf16) (arg5 : Memref sig .tc .vmem S8x2048x256 .f32) (arg7 : Memref sig .tc .vmem S2048x128 .f32) (arg8 : Memref sig .tc .vmem S2048x128 .f32) (arg9 : Memref sig .tc .vmem S2048x256 .f32) (x0 : Vec F S8x1x256x384 .bf16) (X3 : BufTy.Contents (Elt F) arg3.view.ty) (x1 : Vec F S1x2048x384 .bf16)
    (hX : arg3.view.read (Elt F) X3 = x1) (X5 : BufTy.Contents (Elt F) arg5.view.ty) (X7 : BufTy.Contents (Elt F) arg7.view.ty) (G8 : BufTy.Contents (Elt F) arg8.view.ty) (G9 : BufTy.Contents (Elt F) arg9.view.ty)
    (h5 : ∀ j, j < (i 1).val → ∀ inb, VecWindow.window (arg5.view.read (Elt F) X5) ![j, 0, 0] S1x2048x256.size inb = k0_pay17 x0 (keyBlk x1 j))
    (h7 : arg7.view.read (Elt F) X7 = offset x0 x1 (i 1).val) (h8 : arg8.view.read (Elt F) G8 = sumW x0 x1 (i 1).val 0) (h9 : arg9.view.read (Elt F) G9 = sumV x0 x1 (i 1).val 0) :
    ∀ k, k ≤ (k0_t3_loop i).trips →
      arg8.view.read (Elt F) (arg8.view.writes (Elt F) G8 (st3 i arg3 arg5 arg7 arg8 arg9 X3 X5 X7 G8 G9 k).1) = sumW x0 x1 (i 1).val k ∧
      arg9.view.read (Elt F) (arg9.view.writes (Elt F) G9 (st3 i arg3 arg5 arg7 arg8 arg9 X3 X5 X7 G8 G9 k).2) = sumV x0 x1 (i 1).val k
  | 0, _ => ⟨h8, h9⟩
  | k + 1, hk => by
    have ih := read_st3 i arg3 arg5 arg7 arg8 arg9 x0 X3 x1 hX X5 X7 G8 G9 h5 h7 h8 h9 k (Nat.le_of_succ_le hk)
    have ht := trips_t3 i
    have hs : arg5.view.readAt (Elt F) (Rect.unit (s := S8x2048x256) (k0_off7 i ⟨k, hk⟩) S1x2048x256.size (k0_off7_inb i ⟨k, hk⟩)).toLoadRect X5 = k0_pay17 x0 (keyBlk x1 k) :=
      (read_slab arg5 X5 k _ _ (off7_eq i ⟨k, hk⟩) (fun a => by have := k0_off7_inb i ⟨k, hk⟩ a; rw [off7_eq i ⟨k, hk⟩] at this; exact this)).trans (h5 k (by omega) _)
    rw [st3_succ i arg3 arg5 arg7 arg8 arg9 X3 X5 X7 G8 G9 ⟨k, hk⟩, next3, List.singleton_append, List.singleton_append]
    dsimp only
    rw [View.read_writes_full, View.read_writes_full, hs, View.readAt_full, View.readAt_full, View.readAt_full, h7, ih.1, ih.2,
      read_keys arg3 X3 x1 hX k _ _ (off8_eq i ⟨k, hk⟩)]
    exact ⟨rfl, rfl⟩

/-- What the two sums' memories hold at the end, divided, is `outBlk`. -/
theorem out_read (i : grid0.Coords) (arg3 : Memref sig .tc .vmem S1x2048x384 .bf16) (arg5 : Memref sig .tc .vmem S8x2048x256 .f32) (arg6 : Memref sig .tc .vmem S2048x256 .f32) (arg7 : Memref sig .tc .vmem S2048x128 .f32) (arg8 : Memref sig .tc .vmem S2048x128 .f32) (arg9 : Memref sig .tc .vmem S2048x256 .f32) (x0 v0 : Vec F S8x1x256x384 .bf16) (hv : v0 = x0) (x1 : Vec F S1x2048x384 .bf16) (X3 : BufTy.Contents (Elt F) arg3.view.ty)
    (hX : arg3.view.read (Elt F) X3 = x1) (w : Vec F S1x256x384 .bf16) (hw : w = keyBlk x1 (i 1).val) (fs0 : BufTy.Contents (Elt F) arg5.view.ty) (j6 : BufTy.Contents (Elt F) arg6.view.ty) (j7 : BufTy.Contents (Elt F) arg7.view.ty) (j8 : BufTy.Contents (Elt F) arg8.view.ty) (j9 : BufTy.Contents (Elt F) arg9.view.ty) :
    k0_pay11 (arg8.view.readAt (Elt F) (Rect.unit (s := S2048x128) ![0, 0] S2048x128.size inb_S2048x128_S2048x128_0_0).toLoadRect (arg8.view.writes (Elt F) j8 ((st3 i arg3 arg5 arg7 arg8 arg9 X3 (arg5.view.writes (Elt F) fs0 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).1 ++ [⟨Rect.unit (s := S8x2048x256) (k0_off2 i) S1x2048x256.size (k0_off2_inb i), k0_pay14 v0 w⟩])) (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).2 ++ [⟨(Rect.unit (s := S2048x256) ![0, 0] S2048x256.size inb_S2048x256_S2048x256_0_0), k0_pay15 v0 w⟩])))) (Named.named κ "scale_log2e" 0x3DD53B95#32)⟩]) (arg8.view.writes (Elt F) j8 [⟨(Rect.unit (s := S2048x128) ![0, 0] S2048x128.size inb_S2048x128_S2048x128_0_0), k0_pay27 (arg5.view.readAt (Elt F) (Rect.unit (s := S8x2048x256) (k0_off2 i) S1x2048x256.size (k0_off2_inb i)).toLoadRect (arg5.view.writes (Elt F) fs0 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).1 ++ [⟨Rect.unit (s := S8x2048x256) (k0_off2 i) S1x2048x256.size (k0_off2_inb i), k0_pay14 v0 w⟩]))) (arg7.view.readAt (Elt F) (Rect.unit (s := S2048x128) ![0, 0] S2048x128.size inb_S2048x128_S2048x128_0_0).toLoadRect (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).2 ++ [⟨(Rect.unit (s := S2048x256) ![0, 0] S2048x256.size inb_S2048x256_S2048x256_0_0), k0_pay15 v0 w⟩])))) (Named.named κ "scale_log2e" 0x3DD53B95#32)⟩]))⟩]) (arg9.view.writes (Elt F) j9 [⟨(Rect.unit (s := S2048x256) ![0, 0] S2048x256.size inb_S2048x256_S2048x256_0_0), k0_pay28 (arg5.view.readAt (Elt F) (Rect.unit (s := S8x2048x256) (k0_off2 i) S1x2048x256.size (k0_off2_inb i)).toLoadRect (arg5.view.writes (Elt F) fs0 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).1 ++ [⟨Rect.unit (s := S8x2048x256) (k0_off2 i) S1x2048x256.size (k0_off2_inb i), k0_pay14 v0 w⟩]))) (arg7.view.readAt (Elt F) (Rect.unit (s := S2048x128) ![0, 0] S2048x128.size inb_S2048x128_S2048x128_0_0).toLoadRect (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).2 ++ [⟨(Rect.unit (s := S2048x256) ![0, 0] S2048x256.size inb_S2048x256_S2048x256_0_0), k0_pay15 v0 w⟩])))) (Named.named κ "scale_log2e" 0x3DD53B95#32)⟩])) w⟩]) (k0_t3_loop i).trips).1 ++ [⟨(Rect.unit (s := S2048x128) ![0, 0] S2048x128.size inb_S2048x128_S2048x128_0_0), k0_pay27 (arg5.view.readAt (Elt F) (Rect.unit (s := S8x2048x256) (k0_off2 i) S1x2048x256.size (k0_off2_inb i)).toLoadRect (arg5.view.writes (Elt F) fs0 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).1 ++ [⟨Rect.unit (s := S8x2048x256) (k0_off2 i) S1x2048x256.size (k0_off2_inb i), k0_pay14 v0 w⟩]))) (arg7.view.readAt (Elt F) (Rect.unit (s := S2048x128) ![0, 0] S2048x128.size inb_S2048x128_S2048x128_0_0).toLoadRect (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).2 ++ [⟨(Rect.unit (s := S2048x256) ![0, 0] S2048x256.size inb_S2048x256_S2048x256_0_0), k0_pay15 v0 w⟩])))) (Named.named κ "scale_log2e" 0x3DD53B95#32)⟩]))⟩])))
        (arg9.view.readAt (Elt F) (Rect.unit (s := S2048x256) ![0, 0] S2048x256.size inb_S2048x256_S2048x256_0_0).toLoadRect (arg9.view.writes (Elt F) j9 ((st3 i arg3 arg5 arg7 arg8 arg9 X3 (arg5.view.writes (Elt F) fs0 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).1 ++ [⟨Rect.unit (s := S8x2048x256) (k0_off2 i) S1x2048x256.size (k0_off2_inb i), k0_pay14 v0 w⟩])) (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).2 ++ [⟨(Rect.unit (s := S2048x256) ![0, 0] S2048x256.size inb_S2048x256_S2048x256_0_0), k0_pay15 v0 w⟩])))) (Named.named κ "scale_log2e" 0x3DD53B95#32)⟩]) (arg8.view.writes (Elt F) j8 [⟨(Rect.unit (s := S2048x128) ![0, 0] S2048x128.size inb_S2048x128_S2048x128_0_0), k0_pay27 (arg5.view.readAt (Elt F) (Rect.unit (s := S8x2048x256) (k0_off2 i) S1x2048x256.size (k0_off2_inb i)).toLoadRect (arg5.view.writes (Elt F) fs0 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).1 ++ [⟨Rect.unit (s := S8x2048x256) (k0_off2 i) S1x2048x256.size (k0_off2_inb i), k0_pay14 v0 w⟩]))) (arg7.view.readAt (Elt F) (Rect.unit (s := S2048x128) ![0, 0] S2048x128.size inb_S2048x128_S2048x128_0_0).toLoadRect (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).2 ++ [⟨(Rect.unit (s := S2048x256) ![0, 0] S2048x256.size inb_S2048x256_S2048x256_0_0), k0_pay15 v0 w⟩])))) (Named.named κ "scale_log2e" 0x3DD53B95#32)⟩]))⟩]) (arg9.view.writes (Elt F) j9 [⟨(Rect.unit (s := S2048x256) ![0, 0] S2048x256.size inb_S2048x256_S2048x256_0_0), k0_pay28 (arg5.view.readAt (Elt F) (Rect.unit (s := S8x2048x256) (k0_off2 i) S1x2048x256.size (k0_off2_inb i)).toLoadRect (arg5.view.writes (Elt F) fs0 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).1 ++ [⟨Rect.unit (s := S8x2048x256) (k0_off2 i) S1x2048x256.size (k0_off2_inb i), k0_pay14 v0 w⟩]))) (arg7.view.readAt (Elt F) (Rect.unit (s := S2048x128) ![0, 0] S2048x128.size inb_S2048x128_S2048x128_0_0).toLoadRect (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).2 ++ [⟨(Rect.unit (s := S2048x256) ![0, 0] S2048x256.size inb_S2048x256_S2048x256_0_0), k0_pay15 v0 w⟩])))) (Named.named κ "scale_log2e" 0x3DD53B95#32)⟩])) w⟩]) (k0_t3_loop i).trips).2 ++ [⟨(Rect.unit (s := S2048x256) ![0, 0] S2048x256.size inb_S2048x256_S2048x256_0_0), k0_pay28 (arg5.view.readAt (Elt F) (Rect.unit (s := S8x2048x256) (k0_off2 i) S1x2048x256.size (k0_off2_inb i)).toLoadRect (arg5.view.writes (Elt F) fs0 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).1 ++ [⟨Rect.unit (s := S8x2048x256) (k0_off2 i) S1x2048x256.size (k0_off2_inb i), k0_pay14 v0 w⟩]))) (arg7.view.readAt (Elt F) (Rect.unit (s := S2048x128) ![0, 0] S2048x128.size inb_S2048x128_S2048x128_0_0).toLoadRect (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 w⟩]) (arg6.view.writes (Elt F) j6 [⟨(Rect.unit (s := S2048x256) ![0, 0] S2048x256.size inb_S2048x256_S2048x256_0_0), k0_pay15 v0 w⟩]) (k0_t1_loop i).trips).2 ++ [⟨(Rect.unit (s := S2048x256) ![0, 0] S2048x256.size inb_S2048x256_S2048x256_0_0), k0_pay15 v0 w⟩])))) (Named.named κ "scale_log2e" 0x3DD53B95#32)⟩])) w⟩]))) = outBlk x0 x1 (i 1).val := by
  subst hv; subst hw
  have h6 : arg6.view.read (Elt F) (arg6.view.writes (Elt F) j6 [⟨(Rect.unit (s := S2048x256) ![0, 0] S2048x256.size inb_S2048x256_S2048x256_0_0), k0_pay15 v0 (keyBlk x1 (i 1).val)⟩]) = runMax v0 x1 (i 1).val 0 := View.read_writes_full _ _ _ _ _
  have e2 := off2_eq i
  have inb' : ∀ a : Fin 3, (![(i 1).val, 0, 0] : Fin 3 → ℕ) a + S1x2048x256.size a ≤ S8x2048x256.size a := fun a => by
    have := k0_off2_inb i a; rw [e2] at this; exact this
  have hM := read_st1 i arg3 arg5 arg6 v0 X3 x1 hX (arg5.view.writes (Elt F) fs0 [⟨Rect.unit (s := S8x2048x256) (k0_off2 i) S1x2048x256.size (k0_off2_inb i), k0_pay14 v0 (keyBlk x1 (i 1).val)⟩]) _ h6 _ le_rfl
  have hS := slab_st1 i arg3 arg5 arg6 v0 X3 x1 hX (arg5.view.writes (Elt F) fs0 [⟨Rect.unit (s := S8x2048x256) (k0_off2 i) S1x2048x256.size (k0_off2_inb i), k0_pay14 v0 (keyBlk x1 (i 1).val)⟩]) (arg6.view.writes (Elt F) j6 [⟨(Rect.unit (s := S2048x256) ![0, 0] S2048x256.size inb_S2048x256_S2048x256_0_0), k0_pay15 v0 (keyBlk x1 (i 1).val)⟩]) _ le_rfl
  simp only [← View.writes_append] at hM hS
  have h39 := (read_slab arg5 _ (i 1).val (k0_off2 i) (k0_off2_inb i) e2 inb').trans (hS.2 inb')
  rw [View.read_writes_cons_put _ _ _ _ _ e2, VecWindow.window_put_same] at h39
  have h7 : arg7.view.read (Elt F) (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 (keyBlk x1 (i 1).val)⟩]) (arg6.view.writes (Elt F) j6 [⟨(Rect.unit (s := S2048x256) ![0, 0] S2048x256.size inb_S2048x256_S2048x256_0_0), k0_pay15 v0 (keyBlk x1 (i 1).val)⟩]) (k0_t1_loop i).trips).2 ++ [⟨(Rect.unit (s := S2048x256) ![0, 0] S2048x256.size inb_S2048x256_S2048x256_0_0), k0_pay15 v0 (keyBlk x1 (i 1).val)⟩])))) (Named.named κ "scale_log2e" 0x3DD53B95#32)⟩]) = offset v0 x1 (i 1).val := by
    rw [View.read_writes_full, View.readAt_full, hM, trips_t1 i]; rfl
  have h41 : (arg7.view.readAt (Elt F) (Rect.unit (s := S2048x128) ![0, 0] S2048x128.size inb_S2048x128_S2048x128_0_0).toLoadRect (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 (keyBlk x1 (i 1).val)⟩]) (arg6.view.writes (Elt F) j6 [⟨(Rect.unit (s := S2048x256) ![0, 0] S2048x256.size inb_S2048x256_S2048x256_0_0), k0_pay15 v0 (keyBlk x1 (i 1).val)⟩]) (k0_t1_loop i).trips).2 ++ [⟨(Rect.unit (s := S2048x256) ![0, 0] S2048x256.size inb_S2048x256_S2048x256_0_0), k0_pay15 v0 (keyBlk x1 (i 1).val)⟩])))) (Named.named κ "scale_log2e" 0x3DD53B95#32)⟩])) = offset v0 x1 (i 1).val := (View.readAt_full _ _ _).trans h7
  have h8 : arg8.view.read (Elt F) (arg8.view.writes (Elt F) j8 [⟨(Rect.unit (s := S2048x128) ![0, 0] S2048x128.size inb_S2048x128_S2048x128_0_0), k0_pay27 (arg5.view.readAt (Elt F) (Rect.unit (s := S8x2048x256) (k0_off2 i) S1x2048x256.size (k0_off2_inb i)).toLoadRect (arg5.view.writes (Elt F) fs0 ((st1 i arg3 arg5 arg6 v0 X3 (arg5.view.writes (Elt F) fs0 [⟨Rect.unit (s := S8x2048x256) (k0_off2 i) S1x2048x256.size (k0_off2_inb i), k0_pay14 v0 (keyBlk x1 (i 1).val)⟩]) (arg6.view.writes (Elt F) j6 [⟨(Rect.unit (s := S2048x256) ![0, 0] S2048x256.size inb_S2048x256_S2048x256_0_0), k0_pay15 v0 (keyBlk x1 (i 1).val)⟩]) (k0_t1_loop i).trips).1 ++ [⟨Rect.unit (s := S8x2048x256) (k0_off2 i) S1x2048x256.size (k0_off2_inb i), k0_pay14 v0 (keyBlk x1 (i 1).val)⟩]))) (arg7.view.readAt (Elt F) (Rect.unit (s := S2048x128) ![0, 0] S2048x128.size inb_S2048x128_S2048x128_0_0).toLoadRect (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 (keyBlk x1 (i 1).val)⟩]) (arg6.view.writes (Elt F) j6 [⟨(Rect.unit (s := S2048x256) ![0, 0] S2048x256.size inb_S2048x256_S2048x256_0_0), k0_pay15 v0 (keyBlk x1 (i 1).val)⟩]) (k0_t1_loop i).trips).2 ++ [⟨(Rect.unit (s := S2048x256) ![0, 0] S2048x256.size inb_S2048x256_S2048x256_0_0), k0_pay15 v0 (keyBlk x1 (i 1).val)⟩])))) (Named.named κ "scale_log2e" 0x3DD53B95#32)⟩]))⟩]) = sumW v0 x1 (i 1).val 0 := by
    rw [View.read_writes_full, h39, h41]; rfl
  have h9 : arg9.view.read (Elt F) (arg9.view.writes (Elt F) j9 [⟨(Rect.unit (s := S2048x256) ![0, 0] S2048x256.size inb_S2048x256_S2048x256_0_0), k0_pay28 (arg5.view.readAt (Elt F) (Rect.unit (s := S8x2048x256) (k0_off2 i) S1x2048x256.size (k0_off2_inb i)).toLoadRect (arg5.view.writes (Elt F) fs0 ((st1 i arg3 arg5 arg6 v0 X3 (arg5.view.writes (Elt F) fs0 [⟨Rect.unit (s := S8x2048x256) (k0_off2 i) S1x2048x256.size (k0_off2_inb i), k0_pay14 v0 (keyBlk x1 (i 1).val)⟩]) (arg6.view.writes (Elt F) j6 [⟨(Rect.unit (s := S2048x256) ![0, 0] S2048x256.size inb_S2048x256_S2048x256_0_0), k0_pay15 v0 (keyBlk x1 (i 1).val)⟩]) (k0_t1_loop i).trips).1 ++ [⟨Rect.unit (s := S8x2048x256) (k0_off2 i) S1x2048x256.size (k0_off2_inb i), k0_pay14 v0 (keyBlk x1 (i 1).val)⟩]))) (arg7.view.readAt (Elt F) (Rect.unit (s := S2048x128) ![0, 0] S2048x128.size inb_S2048x128_S2048x128_0_0).toLoadRect (arg7.view.writes (Elt F) j7 [⟨(Rect.unit (s := S2048x128) ![0, 0] S2048x128.size inb_S2048x128_S2048x128_0_0), k0_pay23 (k0_pay22 (arg6.view.readAt (Elt F) (Rect.unit (s := S2048x256) ![0, 0] S2048x256.size inb_S2048x256_S2048x256_0_0).toLoadRect (arg6.view.writes (Elt F) j6 ((st1 i arg3 arg5 arg6 v0 X3 (arg5.view.writes (Elt F) fs0 [⟨Rect.unit (s := S8x2048x256) (k0_off2 i) S1x2048x256.size (k0_off2_inb i), k0_pay14 v0 (keyBlk x1 (i 1).val)⟩]) (arg6.view.writes (Elt F) j6 [⟨(Rect.unit (s := S2048x256) ![0, 0] S2048x256.size inb_S2048x256_S2048x256_0_0), k0_pay15 v0 (keyBlk x1 (i 1).val)⟩]) (k0_t1_loop i).trips).2 ++ [⟨(Rect.unit (s := S2048x256) ![0, 0] S2048x256.size inb_S2048x256_S2048x256_0_0), k0_pay15 v0 (keyBlk x1 (i 1).val)⟩])))) (Named.named κ "scale_log2e" 0x3DD53B95#32)⟩])) (keyBlk x1 (i 1).val)⟩]) = sumV v0 x1 (i 1).val 0 := by
    rw [View.read_writes_full, h39, h41]; rfl
  have h := read_st3 i arg3 arg5 arg7 arg8 arg9 v0 X3 x1 hX _ _ _ _ (fun j hj => hS.1 j (by rw [trips_t1 i]; exact hj)) h7 h8 h9 _ le_rfl
  have e8 := (View.readAt_full arg8.view _ inb_S2048x128_S2048x128_0_0).trans ((congrArg (arg8.view.read (Elt F)) (View.writes_append _ _ _ _)).trans h.1)
  have e9 := (View.readAt_full arg9.view _ inb_S2048x256_S2048x256_0_0).trans ((congrArg (arg9.view.read (Elt F)) (View.writes_append _ _ _ _)).trans h.2)
  refine (congrArg₂ k0_pay11 e8 e9).trans ?_
  rw [trips_t3 i]
  rfl

/-- One grid point: from whole windows at their contents and the scratch memories at anything, the body leaves `outBlk` in the output window. -/
theorem run (c : Dev nD) (i : grid0.Coords) (arg2 : Memref sig .tc .vmem S8x1x256x384 .bf16) (harg2 : arg2.IsWhole) (arg3 : Memref sig .tc .vmem S1x2048x384 .bf16) (harg3 : arg3.IsWhole) (arg4 : Memref sig .tc .vmem S8x1x256x256 .bf16) (harg4 : arg4.IsWhole) (arg5 : Memref sig .tc .vmem S8x2048x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (x0 : Vec F S8x1x256x384 .bf16) (x1 : Vec F S1x2048x384 .bf16) (E : Set ℕ) (K : PUnit → sProp 𝕄G) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare (outBlk x0 x1 (i 1).val) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_mla_prompt i arg2 harg2 arg3 harg3 arg4 harg4 arg5 harg5 arg6 harg6 arg7 harg7 arg8 harg8 arg9 harg9) K := by
  simp only [cc0_mla_prompt_eq_skeleton]; unfold cc0_mla_prompt_skel
  simp only [k0_part1_eq_skeleton, k0_part2_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_full]
    delta run.sl.v73 run.sl.v76
    delta run.sl.HS3_1 run.sl.HS4_1
    delta run.sl.v39 run.sl.v41
    delta run.sl.HS2_1
    delta run.sl.r run.sl.cst_16
    delta run.sl.v28
    delta run.sl.HS1_1
    exact out_read i arg3 arg5 arg6 arg7 arg8 arg9 x0 _ ((View.readAt_full _ _ _).trans (harg2.read_unread x0)) x1 _ (harg3.read_unread x1)
      _ (read_keys arg3 _ x1 (harg3.read_unread x1) _ _ _ (off1_eq i)) fs0 _ _ _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl
end Cert.KernelIdeal.Own
end
-- ==== Proof.Run.lean ====
module

public import proofs.«01_k».proof.Proof.Gen.KernelIdeal.Frame
public import proofs.«01_k».proof.Proof.Body
public import Idealize.ShloMosaic.Lib.Claim

@[expose] public section
set_option maxRecDepth 16384

noncomputable section

namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The staging memref of the query window at a point. -/
abbrev stQ (t : Fin cfg0.N) : Memref sig .tc .vmem S8x1x256x384 .bf16 := win0_0.stage (cfg0.slots t 0)
/-- The staging memref of the key window at a point. -/
abbrev stK (t : Fin cfg0.N) : Memref sig .tc .vmem S1x2048x384 .bf16 := win0_1.stage (cfg0.slots t 1)
/-- The staging memref of the output window at a point. -/
abbrev stO (t : Fin cfg0.N) : Memref sig .tc .vmem S8x1x256x256 .bf16 := win0_2.stage (cfg0.slots t 2)

/-- The pipeline's invariant is the five scratch memories at some contents, beside the generator's register. -/
theorem scratch_eq (c : Dev nD) :
    (Pipeline.ΦA spec0 c : sProp 𝕄G)
      = iprop(iprop((∃ d, owns (c : Thread nD τ) (Memref.whole cc0_scratch0 : Memref sig .tc .vmem S8x2048x256 .f32) fullShare d)
          ∗ (∃ d, owns (c : Thread nD τ) (Memref.whole cc0_scratch1 : Memref sig .tc .vmem S2048x256 .f32) fullShare d)
          ∗ (∃ d, owns (c : Thread nD τ) (Memref.whole cc0_scratch2 : Memref sig .tc .vmem S2048x128 .f32) fullShare d)
          ∗ (∃ d, owns (c : Thread nD τ) (Memref.whole cc0_scratch3 : Memref sig .tc .vmem S2048x128 .f32) fullShare d)
          ∗ (∃ d, owns (c : Thread nD τ) (Memref.whole cc0_scratch4 : Memref sig .tc .vmem S2048x256 .f32) fullShare d)) ∗ (∃ r, prngReg c r)) := by
  unfold Pipeline.ΦA; rw [scopedRest0_eq]; simp only [owns_whole]; try rfl

/-- The pipeline's proof data: the inputs' blocks stay, the output's block is `outBlk` of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t) (grid0.coords t 1).val
  Φ _ := Pipeline.ΦA spec0 c
  q _ := fullShare
  owed _ := 0

theorem dats_A (c : Dev nD) (w : Fin cfg0.W) : (dats m 0 c).A w = V m c (Pipeline.arrRef spec0 w) := by dsimp only [dats]
theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) :
    (dats m 0 c).after 2 t = outBlk (iblk m c 0 t) (iblk m c 1 t) (grid0.coords t 1).val := by dsimp only [dats]
theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d

set_option maxHeartbeats 800000 in
/-- The body at any point, from the windows' memories as the pipeline hands them to what it takes back. -/
theorem body_at (c : Dev nD) (t : Fin cfg0.N) :
    iprop((dats m 0 c).Φ t.castSucc ∗ (dats m 0 c).owesAt () t.castSucc
      ∗ (∃ d, owns (c : Thread nD τ) (stQ t) fullShare ((dats m 0 c).before 0 t d))
      ∗ (∃ d, owns (c : Thread nD τ) (stK t) fullShare ((dats m 0 c).before 1 t d))
      ∗ (∃ d, owns (c : Thread nD τ) (stO t) fullShare ((dats m 0 c).before 2 t d)))
    ⊢ wp frame (wpE (defs₀ (F := F)) Variants.none c none) Set.univ (bodyAt0 t)
      (fun _ => iprop((dats m 0 c).Φ t.succ ∗ (dats m 0 c).owesAt () t.succ
        ∗ owns (c : Thread nD τ) (stQ t) fullShare ((dats m 0 c).after 0 t)
        ∗ owns (c : Thread nD τ) (stK t) fullShare ((dats m 0 c).after 1 t)
        ∗ owns (c : Thread nD τ) (stO t) fullShare ((dats m 0 c).after 2 t))) := by
  unfold bodyAt0
  simp only [dats_before0, dats_before1]
  rw [show (dats m 0 c).Φ t.succ = (dats m 0 c).Φ t.castSucc from rfl,
    show (dats m 0 c).owesAt () t.succ = (dats m 0 c).owesAt () t.castSucc from rfl,
    dats_after0, dats_after1, dats_after2]
  rw [show (dats m 0 c).Φ t.castSucc = Pipeline.ΦA spec0 c from rfl, scratch_eq]
  iintro ⟨⟨⟨HS0, HS1, HS2, HS3, HS4⟩, Hg⟩, Ho, ⟨%d0, H0⟩, ⟨%d1, H1⟩, ⟨%d2, H2⟩⟩
  iapply (run c (grid0.coords t) _ _ _ _ _ _ _ _ _ _ _ _ _ _ _ _ (iblk m c 0 t) (iblk m c 1 t) Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  iintro ⟨H0, H1, H2, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  iexact H2

/-- The pipeline's obligation, at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The run of the whole program: the pipeline's arrays end as the proof data say and the counters at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_counters m ρ)

/-- The frame: the run ends, the four arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) (run_main m ρ)) ((θ_run defs _ _).mono (fun _ h => h.2) (run_counters m ρ))

end Cert.KernelIdeal.Own
end
-- ==== Proof.OutProj.lean ====
/- The output projection of an even layer: the kernel's two products against one product of the joined halves. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import Idealize.ShloMosaic.Lib.Quiescent

@[expose] public section
set_option maxRecDepth 16384
set_option maxHeartbeats 200000
noncomputable section
namespace Cert.Kernel3Ideal.Own
open Idealize.ShloMosaic

/-- The norm of a row `y` at a place, times a weight, plus a residual. -/
def normed (y : Fin 1024 → EReal) (g r : EReal) (v : Fin 1024) : EReal :=
  r + y v * Ideal.rsqrt (Ideal.div (∑ u, y u * y u) (Ideal.ofBits .f32 0x44800000#32) + Ideal.ofBits .f32 0x358637BD#32) * g

end Cert.Kernel3Ideal.Own

namespace Cert.Reference3Ideal.Own
open Cert.Reference3Ideal Cert.Reference3Ideal.Gen
open Idealize.ShloMosaic Idealize.ShloMosaic.TcCoe

/-- The reference's product. -/
def prod (a b : FVec Ideal S16384x512 .f32) (w : FVec Ideal S1024x1024 .f32) : FVec Ideal S16384x1024 .f32 :=
  Host.dotGeneral dot_S16384x1024_S1024x1024_S16384x1024_1_0_0_1_n_n none (concatenate S16384x1024 1 [⟨S16384x512, a⟩, ⟨S16384x512, b⟩] concatenates_S16384x512_S16384x512_S16384x1024_d1) w

/-- The reference's norm and residual of a product `y`. -/
def norm (y : FVec Ideal S16384x1024 .f32) (g : FVec Ideal S1024 .f32) (r : FVec Ideal S16384x1024 .f32) : FVec Ideal S16384x1024 .f32 :=
  addf r (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

theorem prod_at (a b : FVec Ideal S16384x512 .f32) (w : FVec Ideal S1024x1024 .f32) (i : Fin 16384) (v : Fin 1024) :
    prod a b w (ix2 i v) = ∑ l : Fin 512, a (ix2 i l) * w (ix2 ⟨l.val, by omega⟩ v) + ∑ l : Fin 512, b (ix2 i l) * w (ix2 ⟨512 + l.val, by omega⟩ v) := by
  unfold prod
  pointwise

theorem norm_at (y : FVec Ideal S16384x1024 .f32) (g : FVec Ideal S1024 .f32) (r : FVec Ideal S16384x1024 .f32) (i : Fin 16384) (v : Fin 1024) :
    norm y g r (ix2 i v) = Cert.Kernel3Ideal.Own.normed (fun u => y (ix2 i u)) (g (ix1 v)) (r (ix2 i v)) v := by
  unfold norm Cert.Kernel3Ideal.Own.normed
  pointwise

end Cert.Reference3Ideal.Own

namespace Cert.Kernel3Ideal.Own
open Cert.Kernel3Ideal Cert.Kernel3Ideal.Gen
open Idealize.ShloMosaic Idealize.ShloMosaic.TcCoe Idealize.SL.Sem

/-- The block a point computes, at an index. -/
theorem pay_at (x0 : Vec Ideal S512x512 .f32) (w0 : Vec Ideal S512x1024 .bf16) (x1 : Vec Ideal S512x512 .f32) (w1 : Vec Ideal S512x1024 .bf16)
    (r : Vec Ideal S512x1024 .f32) (g : Vec Ideal S1x1024 .f32) (i : Fin 512) (v : Fin 1024) :
    k0_pay1 x0 w0 x1 w1 r g (ix2 i v) = normed (fun u => ∑ l, x0 (ix2 i l) * w0 (ix2 l u) + ∑ l, x1 (ix2 i l) * w1 (ix2 l u)) (g (ix2 0 v)) (r (ix2 i v)) v := by
  unfold normed
  pointwise [k0_pay1]

/-- Which block each window holds at a point. -/
theorem idx (t : Fin cfg0.N) :
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)) t

/-- The token of a row of a point's block. -/
def row (t : Fin cfg0.N) (r : Fin 512) : Fin 16384 := ⟨512 * t.val + r.val, by have : t.val < 32 := t.isLt; omega⟩

section
variable (m : (ℓ : Loc nD τ sig) → Buf (Elt Ideal) ℓ) (c : Dev nD)

/-- The weights the call takes: the argument, narrowed. -/
theorem V_w : V m c main_v0 = (truncf .bf16 (m ((c.tc : Thread nD τ).loc main_arg2) : FVec Ideal S1024x1024 .f32) bitsLt_bf16_f32 : FVec Ideal S1024x1024 .bf16) := by
  unfold V
  after_results
  all_goals try rfl

/-- The norm's weights the call takes: the argument as one row. -/
theorem V_g : V m c main_v1 = (shapeCast S1x1024 (m ((c.tc : Thread nD τ).loc main_arg3) : FVec Ideal S1024 .f32) shapeCasts_S1024_S1x1024 : FVec Ideal S1x1024 .f32) := by
  unfold V
  after_results
  all_goals try rfl

/-- The reference's result, of the kernel's arguments. -/
def projected : FVec Ideal S16384x1024 .f32 :=
  Cert.Reference3Ideal.Own.norm (Cert.Reference3Ideal.Own.prod (m ((c.tc : Thread nD τ).loc main_arg0)) (m ((c.tc : Thread nD τ).loc main_arg1))
    (m ((c.tc : Thread nD τ).loc main_arg2))) (m ((c.tc : Thread nD τ).loc main_arg3)) (m ((c.tc : Thread nD τ).loc main_arg4))

theorem block_a (t : Fin cfg0.N) (i l : Fin 512) :
    iblk m c 0 t (ix2 i l) = (m ((c.tc : Thread nD τ).loc main_arg0) : FVec Ideal S16384x512 .f32) (ix2 (row t i) l) := by
  obtain ⟨⟨a0, a1⟩, _⟩ := idx t
  unfold row
  blk_point [iblk, V, a0, a1]

theorem block_b (t : Fin cfg0.N) (i l : Fin 512) :
    iblk m c 1 t (ix2 i l) = (m ((c.tc : Thread nD τ).loc main_arg1) : FVec Ideal S16384x512 .f32) (ix2 (row t i) l) := by
  obtain ⟨_, ⟨a0, a1⟩, _⟩ := idx t
  unfold row
  blk_point [iblk, V, a0, a1]

theorem block_r (t : Fin cfg0.N) (i : Fin 512) (v : Fin 1024) :
    iblk m c 4 t (ix2 i v) = (m ((c.tc : Thread nD τ).loc main_arg4) : FVec Ideal S16384x1024 .f32) (ix2 (row t i) v) := by
  obtain ⟨_, _, _, _, ⟨a0, a1⟩, _⟩ := idx t
  unfold row
  blk_point [iblk, V, a0, a1]

theorem block_w (t : Fin cfg0.N) (l v : Fin 1024) :
    iblk m c 2 t (ix2 l v) = (m ((c.tc : Thread nD τ).loc main_arg2) : FVec Ideal S1024x1024 .f32) (ix2 l v) := by
  obtain ⟨_, _, ⟨a0, a1⟩, _⟩ := idx t
  blk_simp [iblk]
  rw [V_w, show (win0_2.blk t).view.emb (ix2 l v) = ix2 l v by blk_ext; all_goals omega]
  pointwise

theorem block_g (t : Fin cfg0.N) (v : Fin 1024) :
    iblk m c 3 t (ix2 0 v) = (m ((c.tc : Thread nD τ).loc main_arg3) : FVec Ideal S1024 .f32) (ix1 v) := by
  obtain ⟨_, _, _, ⟨a0, a1⟩, _⟩ := idx t
  blk_simp [iblk]
  rw [V_g, show (win0_3.blk t).view.emb (ix2 0 v) = ix2 0 v by blk_ext; all_goals omega]
  pointwise

/-- The first half of the weights' rows. -/
theorem ld_0 (x : Vec Ideal S1024x1024 .bf16) (l : Fin 512) (u : Fin 1024) : View.ld x r0_1 (ix2 l u) = x (ix2 ⟨l.val, by omega⟩ u) := by
  refine View.ld_unit_apply_of x _ _ _ _ _ fun a => ?_
  fin_cases a <;> simp

/-- The second half of the weights' rows. -/
theorem ld_1 (x : Vec Ideal S1024x1024 .bf16) (l : Fin 512) (u : Fin 1024) : View.ld x r0_2 (ix2 l u) = x (ix2 ⟨512 + l.val, by omega⟩ u) := by
  refine View.ld_unit_apply_of x _ _ _ _ _ fun a => ?_
  fin_cases a <;> simp

theorem emb_o (t : Fin cfg0.N) (i : Fin 512) (v : Fin 1024) : (win0_5.blk t).view.emb (ix2 i v) = ix2 (row t i) v := by
  obtain ⟨_, _, _, _, _, ⟨a0, a1⟩⟩ := idx t
  unfold row
  blk_ext
  all_goals omega

/-- The output array ends as the reference's result. -/
theorem result : (dats m 0 c).arrAt 5 cfg0.N = projected m c := by
  refine (dats m 0 c).arrAt_eq_of_covers 5 _ (by decide +kernel) fun t hf y => ?_
  blk_simp
  rw [after0_5]
  frame_out
  obtain ⟨i, v, rfl⟩ : ∃ (i : Fin 512) (v : Fin 1024), y = ix2 i v := ⟨y 0, y 1, by funext a; fin_cases a <;> rfl⟩
  refine (pay_at _ _ _ _ _ _ i v).trans ?_
  refine Eq.trans ?_ (congrArg (projected m c) (emb_o t i v)).symm
  unfold projected
  rw [Cert.Reference3Ideal.Own.norm_at]
  simp only [Cert.Reference3Ideal.Own.prod_at, block_g, block_r, block_a, block_b]
  refine congrArg (fun y => normed y _ _ v) (funext fun u => congrArg₂ (· + ·) ?_ ?_)
  · exact Finset.sum_congr rfl fun l _ => congrArg _ ((ld_0 _ l u).trans (block_w m c t _ u))
  · exact Finset.sum_congr rfl fun l _ => congrArg _ ((ld_1 _ l u).trans (block_w m c t _ u))
end
end Cert.Kernel3Ideal.Own

namespace Cert.Proof.OutProj
open Idealize.ShloMosaic Idealize.ShloMosaic.TcCoe Idealize.SL.Sem

/-- The kernel and the reference end with the same result. -/
theorem algebraic : Cert.algebraic_Kernel3Ideal_Reference3Ideal := by
  intro m ρ m' ρ' _ hagree
  refine ⟨fun c => Cert.Kernel3Ideal.Own.projected m c, (θ_run Cert.Kernel3Ideal.defs _ _).mono (fun _ h c =>
    ⟨(h c).1.trans (Cert.Kernel3Ideal.Own.result m c), (h c).2⟩) (Cert.Kernel3Ideal.Value.run_blocks m ρ), ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4⟩ := hagree c
  rw [h0, h1, h2, h3, h4]
  rfl

end Cert.Proof.OutProj
end
-- ==== Proof.MlaOut.lean ====
/- The latent output of an odd layer: the kernel's eight heads one by one against one product of all of them. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.OutProj

@[expose] public section
set_option maxRecDepth 16384
set_option maxHeartbeats 200000
noncomputable section
namespace Cert.Kernel4Ideal.Own
open Idealize.ShloMosaic

/-- A value times its logistic function. -/
def gate (z : EReal) : EReal := z * Ideal.div 1 (1 + Ideal.exp (0 - z))

/-- The share of head `h` in a row of the product: its latent output through its own weights, gated, through its rows of the last weights. -/
def part (o : Fin 8 → Fin 256 → EReal) (z : Fin 1024 → EReal) (wu : Fin 256 → Fin 2048 → EReal) (wo : Fin 1024 → Fin 1024 → EReal)
    (h : Fin 8) (u : Fin 1024) : EReal :=
  ∑ e : Fin 128, (∑ r : Fin 256, o h r * wu r ⟨256 * h.val + 128 + e.val, by omega⟩) * gate (z ⟨128 * h.val + e.val, by omega⟩)
    * wo ⟨128 * h.val + e.val, by omega⟩ u

/-- A sum over 1024 places is the sum over eight blocks of 128. -/
theorem sum_heads (f : Fin 1024 → EReal) : ∑ x, f x = ∑ h : Fin 8, ∑ e : Fin 128, f ⟨128 * h.val + e.val, by omega⟩ := by
  rw [← Fintype.sum_prod_type']
  refine ((finProdFinEquiv (m := 8) (n := 128)).sum_comp f).symm.trans (Finset.sum_congr rfl fun p _ => congrArg f (Fin.ext ?_))
  show p.2.val + 128 * p.1.val = 128 * p.1.val + p.2.val
  omega

end Cert.Kernel4Ideal.Own

namespace Cert.Reference4Ideal.Own
open Cert.Reference4Ideal Cert.Reference4Ideal.Gen
open Idealize.ShloMosaic Idealize.ShloMosaic.TcCoe
open Cert.Kernel3Ideal.Own (normed)
open Cert.Kernel4Ideal.Own (gate part sum_heads)

/-- The reference's heads side by side. -/
def mix (o : FVec Ideal S8x16384x256 .f32) (wu : FVec Ideal S256x2048 .f32) : FVec Ideal S16384x1024 .f32 :=
  shapeCast S16384x1024 (transpose S16384x8x128 [2, 0, 1] (Host.dotGeneral dot_S256x8x128_S8x16384x256_S8x128x16384_0_2_2_1_1_0 none (extractStridedSlice S256x8x128 ![0, 0, 128] (shapeCast S256x8x256 wu shapeCasts_S256x2048_S256x8x256) slices_S256x8x256_S256x8x128_0_0_128) o) transposes_S8x128x16384_S16384x8x128_2_0_1) shapeCasts_S16384x8x128_S16384x1024

/-- The reference's product, of the heads `x` and the gates `z`. -/
def prod (x z : FVec Ideal S16384x1024 .f32) (wo : FVec Ideal S1024x1024 .f32) : FVec Ideal S16384x1024 .f32 :=
  Host.dotGeneral dot_S16384x1024_S1024x1024_S16384x1024_1_0_0_1_n_n none (mulf x (mulf z (Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))))) wo

/-- The reference's norm and residual of a product `y`. -/
def norm (y : FVec Ideal S16384x1024 .f32) (g : FVec Ideal S1024 .f32) (r : FVec Ideal S16384x1024 .f32) : FVec Ideal S16384x1024 .f32 :=
  addf r (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

theorem mix_at (o : FVec Ideal S8x16384x256 .f32) (wu : FVec Ideal S256x2048 .f32) (i : Fin 16384) (h : Fin 8) (e : Fin 128) :
    mix o wu (ix2 i ⟨128 * h.val + e.val, by omega⟩) = ∑ r : Fin 256, o (ix3 h i r) * wu (ix2 r ⟨256 * h.val + 128 + e.val, by omega⟩) := by
  unfold mix
  pointwise
  refine Finset.sum_congr rfl fun r _ => (mul_comm _ _).trans (congrArg₂ (· * ·) ?_ ?_)
  · exact congrArg (fun k => o (ix3 k i r)) (Fin.ext (by dsimp only <;> omega))
  · exact congrArg (fun k => wu (ix2 r k)) (Fin.ext (by dsimp only <;> omega))

theorem prod_at (o : FVec Ideal S8x16384x256 .f32) (wu : FVec Ideal S256x2048 .f32) (z : FVec Ideal S16384x1024 .f32) (wo : FVec Ideal S1024x1024 .f32)
    (i : Fin 16384) (v : Fin 1024) :
    prod (mix o wu) z wo (ix2 i v)
      = ∑ h : Fin 8, part (fun h r => o (ix3 h i r)) (fun e => z (ix2 i e)) (fun r e => wu (ix2 r e)) (fun e u => wo (ix2 e u)) h v := by
  unfold prod part gate
  pointwise
  refine (sum_heads _).trans (Finset.sum_congr rfl fun h _ => Finset.sum_congr rfl fun e _ => ?_)
  rw [mix_at, zero_sub]

theorem norm_at (y : FVec Ideal S16384x1024 .f32) (g : FVec Ideal S1024 .f32) (r : FVec Ideal S16384x1024 .f32) (i : Fin 16384) (v : Fin 1024) :
    norm y g r (ix2 i v) = normed (fun u => y (ix2 i u)) (g (ix1 v)) (r (ix2 i v)) v := by
  unfold norm normed
  pointwise

end Cert.Reference4Ideal.Own

namespace Cert.Kernel4Ideal.Own
open Cert.Kernel4Ideal Cert.Kernel4Ideal.Gen
open Idealize.ShloMosaic Idealize.ShloMosaic.TcCoe Idealize.SL.Sem
open Cert.Kernel3Ideal.Own (normed)

/-- The share of one head, from the four blocks loaded for it. -/
def share (o : Vec Ideal S1x512x256 .f32) (wu : Vec Ideal S256x128 .bf16) (z : Vec Ideal S512x128 .f32) (wo : Vec Ideal S128x1024 .bf16)
    (i : Fin 512) (u : Fin 1024) : EReal :=
  ∑ e : Fin 128, (∑ r : Fin 256, o (ix3 0 i r) * wu (ix2 r e)) * gate (z (ix2 i e)) * wo (ix2 e u)

theorem share_ld (x0 : Vec Ideal S8x512x256 .f32) (x1 : Vec Ideal S512x1024 .f32) (x2 : Vec Ideal S256x2048 .bf16) (x3 : Vec Ideal S1024x1024 .bf16)
    (h : Fin 8) (n0 n1 n2 n3) (i : Fin 512) (u : Fin 1024) :
    share (View.ld x0 (Rect.unit (s := S8x512x256) ![h.val, 0, 0] S1x512x256.size n0))
      (View.ld x2 (Rect.unit (s := S256x2048) ![0, 256 * h.val + 128] S256x128.size n2))
      (View.ld x1 (Rect.unit (s := S512x1024) ![0, 128 * h.val] S512x128.size n1))
      (View.ld x3 (Rect.unit (s := S1024x1024) ![128 * h.val, 0] S128x1024.size n3)) i u
      = part (fun h r => x0 (ix3 h i r)) (fun e => x1 (ix2 i e)) (fun r e => x2 (ix2 r e)) (fun e u => x3 (ix2 e u)) h u := by
  refine Finset.sum_congr rfl fun e _ => congrArg₂ (· * ·) (congrArg₂ (· * ·) (Finset.sum_congr rfl fun r _ => congrArg₂ (· * ·) ?_ ?_) (congrArg gate ?_)) ?_
  all_goals exact View.ld_unit_apply_of _ _ _ _ _ _ fun a => by fin_cases a <;> simp

/-- The rows before the norm: the eight heads' shares, added one by one. -/
def rows (x0 : Vec Ideal S8x512x256 .f32) (x1 : Vec Ideal S512x1024 .f32) (x2 : Vec Ideal S256x2048 .bf16) (x3 : Vec Ideal S1024x1024 .bf16)
    (i : Fin 512) (u : Fin 1024) : EReal := share (View.ld x0 r0_0) (View.ld x2 r0_1) (View.ld x1 r0_2) (View.ld x3 r0_3) i u + share (View.ld x0 r0_4) (View.ld x2 r0_5) (View.ld x1 r0_6) (View.ld x3 r0_7) i u + share (View.ld x0 r0_8) (View.ld x2 r0_9) (View.ld x1 r0_10) (View.ld x3 r0_11) i u + share (View.ld x0 r0_12) (View.ld x2 r0_13) (View.ld x1 r0_14) (View.ld x3 r0_15) i u + share (View.ld x0 r0_16) (View.ld x2 r0_17) (View.ld x1 r0_18) (View.ld x3 r0_19) i u + share (View.ld x0 r0_20) (View.ld x2 r0_21) (View.ld x1 r0_22) (View.ld x3 r0_23) i u + share (View.ld x0 r0_24) (View.ld x2 r0_25) (View.ld x1 r0_26) (View.ld x3 r0_27) i u + share (View.ld x0 r0_28) (View.ld x2 r0_29) (View.ld x1 r0_30) (View.ld x3 r0_31) i u

theorem rows_eq (x0 : Vec Ideal S8x512x256 .f32) (x1 : Vec Ideal S512x1024 .f32) (x2 : Vec Ideal S256x2048 .bf16) (x3 : Vec Ideal S1024x1024 .bf16)
    (i : Fin 512) (u : Fin 1024) :
    rows x0 x1 x2 x3 i u = ∑ h : Fin 8, part (fun h r => x0 (ix3 h i r)) (fun e => x1 (ix2 i e)) (fun r e => x2 (ix2 r e)) (fun e u => x3 (ix2 e u)) h u := by
  rw [Fin.sum_univ_eight]
  unfold rows
  refine (congrArg₂ (· + ·) (congrArg₂ (· + ·) (congrArg₂ (· + ·) (congrArg₂ (· + ·) (congrArg₂ (· + ·) (congrArg₂ (· + ·) (congrArg₂ (· + ·) (share_ld x0 x1 x2 x3 0 _ _ _ _ i u) (share_ld x0 x1 x2 x3 1 _ _ _ _ i u)) (share_ld x0 x1 x2 x3 2 _ _ _ _ i u)) (share_ld x0 x1 x2 x3 3 _ _ _ _ i u)) (share_ld x0 x1 x2 x3 4 _ _ _ _ i u)) (share_ld x0 x1 x2 x3 5 _ _ _ _ i u)) (share_ld x0 x1 x2 x3 6 _ _ _ _ i u)) (share_ld x0 x1 x2 x3 7 _ _ _ _ i u))

theorem pay_at (o0 o1 o2 o3 o4 o5 o6 o7 : Vec Ideal S1x512x256 .f32) (a0 a1 a2 a3 a4 a5 a6 a7 : Vec Ideal S256x128 .bf16) (z0 z1 z2 z3 z4 z5 z6 z7 : Vec Ideal S512x128 .f32) (b0 b1 b2 b3 b4 b5 b6 b7 : Vec Ideal S128x1024 .bf16) (r : Vec Ideal S512x1024 .f32) (g : Vec Ideal S1x1024 .f32) (i : Fin 512) (v : Fin 1024) :
    k0_pay1 r (k0_pay11 g) (k0_pay12 (k0_pay9 (k0_pay7 (k0_pay5 (k0_pay2 o0 a0 z0 b0) (k0_pay3 o1 a1) z1 (k0_pay4 z1) b1 o2 a2 z2 b2) (k0_pay6 o3 a3) z3 b3 o4 a4 z4 b4) (k0_pay8 o5) a5 z5 b5) (k0_pay10 o6 a6 z6) b6 o7 a7 z7 b7) (ix2 i v)
      = normed (fun u => share o0 a0 z0 b0 i u + share o1 a1 z1 b1 i u + share o2 a2 z2 b2 i u + share o3 a3 z3 b3 i u + share o4 a4 z4 b4 i u + share o5 a5 z5 b5 i u + share o6 a6 z6 b6 i u + share o7 a7 z7 b7 i u) (g (ix2 0 v)) (r (ix2 i v)) v := by
  unfold normed share gate
  pointwise [k0_pay1, k0_pay2, k0_pay3, k0_pay4, k0_pay5, k0_pay6, k0_pay7, k0_pay8, k0_pay9, k0_pay10, k0_pay11, k0_pay12]

/-- Which block each window holds at a point. -/
theorem idx (t : Fin cfg0.N) :
    (win0_0.index t 0 = 0 ∧ win0_0.index t 1 = t.val ∧ win0_0.index t 2 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0) :=
  (by decide +kernel : ∀ t : Fin grid0.N,
    (win0_0.index t 0 = 0 ∧ win0_0.index t 1 = t.val ∧ win0_0.index t 2 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0)) t

/-- The token of a row of a point's block. -/
def row (t : Fin cfg0.N) (r : Fin 512) : Fin 16384 := ⟨512 * t.val + r.val, by have : t.val < 32 := t.isLt; omega⟩

section
variable (m : (ℓ : Loc nD τ sig) → Buf (Elt Ideal) ℓ) (c : Dev nD)

/-- The up-projection weights the call takes: the argument, narrowed. -/
theorem V_wu : V m c main_v0 = (truncf .bf16 (m ((c.tc : Thread nD τ).loc main_arg2) : FVec Ideal S256x2048 .f32) bitsLt_bf16_f32 : FVec Ideal S256x2048 .bf16) := by
  unfold V
  after_results
  all_goals try rfl

/-- The last weights the call takes: the argument, narrowed. -/
theorem V_wo : V m c main_v1 = (truncf .bf16 (m ((c.tc : Thread nD τ).loc main_arg3) : FVec Ideal S1024x1024 .f32) bitsLt_bf16_f32 : FVec Ideal S1024x1024 .bf16) := by
  unfold V
  after_results
  all_goals try rfl

/-- The norm's weights the call takes: the argument as one row. -/
theorem V_g : V m c main_v2 = (shapeCast S1x1024 (m ((c.tc : Thread nD τ).loc main_arg4) : FVec Ideal S1024 .f32) shapeCasts_S1024_S1x1024 : FVec Ideal S1x1024 .f32) := by
  unfold V
  after_results
  all_goals try rfl

theorem block_o (t : Fin cfg0.N) (h : Fin 8) (i : Fin 512) (l : Fin 256) :
    iblk m c 0 t (ix3 h i l) = (m ((c.tc : Thread nD τ).loc main_arg0) : FVec Ideal S8x16384x256 .f32) (ix3 h (row t i) l) := by
  obtain ⟨⟨a0, a1, a2⟩, _⟩ := idx t
  unfold row
  blk_point [iblk, V, a0, a1, a2]

theorem block_z (t : Fin cfg0.N) (i : Fin 512) (e : Fin 1024) :
    iblk m c 1 t (ix2 i e) = (m ((c.tc : Thread nD τ).loc main_arg1) : FVec Ideal S16384x1024 .f32) (ix2 (row t i) e) := by
  obtain ⟨_, ⟨a0, a1⟩, _⟩ := idx t
  unfold row
  blk_point [iblk, V, a0, a1]

theorem block_r (t : Fin cfg0.N) (i : Fin 512) (v : Fin 1024) :
    iblk m c 5 t (ix2 i v) = (m ((c.tc : Thread nD τ).loc main_arg5) : FVec Ideal S16384x1024 .f32) (ix2 (row t i) v) := by
  obtain ⟨_, _, _, _, _, ⟨a0, a1⟩, _⟩ := idx t
  unfold row
  blk_point [iblk, V, a0, a1]

theorem block_wu (t : Fin cfg0.N) (l : Fin 256) (e : Fin 2048) :
    iblk m c 2 t (ix2 l e) = (m ((c.tc : Thread nD τ).loc main_arg2) : FVec Ideal S256x2048 .f32) (ix2 l e) := by
  obtain ⟨_, _, ⟨a0, a1⟩, _⟩ := idx t
  blk_simp [iblk]
  rw [V_wu, show (win0_2.blk t).view.emb (ix2 l e) = ix2 l e by blk_ext; all_goals omega]
  pointwise

theorem block_wo (t : Fin cfg0.N) (e v : Fin 1024) :
    iblk m c 3 t (ix2 e v) = (m ((c.tc : Thread nD τ).loc main_arg3) : FVec Ideal S1024x1024 .f32) (ix2 e v) := by
  obtain ⟨_, _, _, ⟨a0, a1⟩, _⟩ := idx t
  blk_simp [iblk]
  rw [V_wo, show (win0_3.blk t).view.emb (ix2 e v) = ix2 e v by blk_ext; all_goals omega]
  pointwise

theorem block_g (t : Fin cfg0.N) (v : Fin 1024) :
    iblk m c 4 t (ix2 0 v) = (m ((c.tc : Thread nD τ).loc main_arg4) : FVec Ideal S1024 .f32) (ix1 v) := by
  obtain ⟨_, _, _, _, ⟨a0, a1⟩, _⟩ := idx t
  blk_simp [iblk]
  rw [V_g, show (win0_4.blk t).view.emb (ix2 0 v) = ix2 0 v by blk_ext; all_goals omega]
  pointwise

theorem emb_6 (t : Fin cfg0.N) (i : Fin 512) (v : Fin 1024) : (win0_6.blk t).view.emb (ix2 i v) = ix2 (row t i) v := by
  obtain ⟨_, _, _, _, _, _, ⟨a0, a1⟩⟩ := idx t
  unfold row
  blk_ext
  all_goals omega

/-- The reference's result, of the kernel's arguments. -/
def projected : FVec Ideal S16384x1024 .f32 :=
  Cert.Reference4Ideal.Own.norm (Cert.Reference4Ideal.Own.prod (Cert.Reference4Ideal.Own.mix (m ((c.tc : Thread nD τ).loc main_arg0))
    (m ((c.tc : Thread nD τ).loc main_arg2))) (m ((c.tc : Thread nD τ).loc main_arg1)) (m ((c.tc : Thread nD τ).loc main_arg3)))
    (m ((c.tc : Thread nD τ).loc main_arg4)) (m ((c.tc : Thread nD τ).loc main_arg5))

theorem block_6 (t : Fin cfg0.N) (i : Fin 512) (v : Fin 1024) :
    normed (rows (iblk m c 0 t) (iblk m c 1 t) (iblk m c 2 t) (iblk m c 3 t) i) (iblk m c 4 t (ix2 0 v)) (iblk m c 5 t (ix2 i v)) v
      = projected m c (ix2 (row t i) v) := by
  unfold projected
  rw [Cert.Reference4Ideal.Own.norm_at, block_g, block_r]
  refine congrArg (fun y => normed y _ _ v) (funext fun u => ?_)
  rw [Cert.Reference4Ideal.Own.prod_at, rows_eq]
  simp only [block_o, block_z, block_wu, block_wo]

/-- The output array ends as the reference's result. -/
theorem result (G : FVec Ideal S16384x1024 .f32) (hG : ∀ (r : Fin 16384) (v : Fin 1024), G (ix2 r v) = projected m c (ix2 r v)) :
    (dats m 0 c).arrAt 6 cfg0.N = G := by
  refine (dats m 0 c).arrAt_eq_of_covers 6 _ (by decide +kernel) fun t hf y => ?_
  blk_simp
  rw [after0_6]
  frame_out
  obtain ⟨i, v, rfl⟩ : ∃ (i : Fin 512) (v : Fin 1024), y = ix2 i v := ⟨y 0, y 1, by funext a; fin_cases a <;> rfl⟩
  refine (pay_at _ _ _ _ _ _ _ _ _ _ _ _ _ _ _ _ _ _ _ _ _ _ _ _ _ _ _ _ _ _ _ _ _ _ i v).trans ?_
  exact (block_6 m c t i v).trans ((congrArg G (emb_6 t i v)).trans (hG _ v)).symm

end
end Cert.Kernel4Ideal.Own

namespace Cert.Proof.MlaOut
open Idealize.ShloMosaic Idealize.ShloMosaic.TcCoe Idealize.SL.Sem

/-- The kernel and the reference end with the same result. -/
theorem algebraic : Cert.algebraic_Kernel4Ideal_Reference4Ideal := by
  intro m ρ m' ρ' _ hagree
  refine ⟨fun c => Cert.Kernel4Ideal.Own.projected m c, (θ_run Cert.Kernel4Ideal.defs _ _).mono (fun _ h c =>
    ⟨(h c).1.trans (Cert.Kernel4Ideal.Own.result m c _ fun _ _ => rfl), (h c).2⟩) (Cert.Kernel4Ideal.Value.run_blocks m ρ), ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5⟩ := hagree c
  rw [h0, h1, h2, h3, h4, h5]
  rfl

end Cert.Proof.MlaOut
end
-- ==== Proof.Claims.lean ====
/- The claims that need no values: the frames, and the named constant. -/
module

public import proofs.«01_k».proof.Defs
public import proofs.«01_k».proof.Proof.OddNorm
public import proofs.«01_k».proof.Proof.MlaPrep
public import proofs.«01_k».proof.Proof.Run
public import proofs.«01_k».proof.Proof.BitsRun
public import proofs.«01_k».proof.Proof.Gen.ReferenceIdeal.Run
public import proofs.«01_k».proof.Proof.NormMatmul
public import proofs.«01_k».proof.Proof.OutProj
public import proofs.«01_k».proof.Proof.MlaOut
public import Idealize.ShloMosaic.Lib.Quiescent

@[expose] public section

noncomputable section

open Idealize.ShloMosaic Idealize.ShloMosaic.TcCoe Idealize.SL.Sem

namespace Cert.Proof.Claims

/-- The kernel on words ends, with its four arguments as they were and every counter at zero. -/
theorem frame_p : Cert.quiescent_Kernel := fun m ρ _ => Cert.Kernel.Own.frame_main m ρ

/-- The kernel on extended reals ends, with its four arguments as they were and every counter at zero. -/
theorem frame_pi : Cert.quiescent_KernelIdeal := fun m ρ _ => Cert.KernelIdeal.Own.frame_main m ρ

/-- The same from memories whose arguments are finite. -/
theorem frame_pi_finite [Cert.Pre_finite.Facts] : Cert.quiescent_KernelIdeal_pre_finite :=
  fun m ρ _ => Cert.KernelIdeal.Own.frame_main m ρ

/-- The reference on extended reals ends, with its four arguments as they were and every counter at zero. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same from memories whose arguments are finite. -/
theorem frame_ri_finite [Cert.Pre_finite.Facts] : Cert.quiescent_ReferenceIdeal_pre_finite := fun m ρ _ =>
  frame_ri m ρ trivial

/-- The constant the kernel multiplies its scores by is named the real `1/√192 · 1/log 2`. -/
theorem preserves : Cert.preserves_Kernel_KernelIdeal :=
  IdealRules.named_const.statement Cert.KernelIdeal.κ "scale_log2e" .f32 0x3DD53B95#32
    (((Real.sqrt 192)⁻¹ * (Real.log 2)⁻¹ : ℝ) : EReal) rfl

/-- The projections an even layer opens with: the kernel on words ends, its arguments as they were and every counter at zero. -/
theorem frame_p2 : Cert.quiescent_Kernel2 := fun m ρ _ => Cert.Kernel2.Gen.frame m ρ

/-- The same on extended reals. -/
theorem frame_pi2 : Cert.quiescent_Kernel2Ideal := fun m ρ _ => Cert.Kernel2Ideal.Gen.frame m ρ

/-- The same of its reference. -/
theorem frame_ri2 : Cert.quiescent_Reference2Ideal := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)

/-- The output projection: the kernel on words ends, its arguments as they were and every counter at zero. -/
theorem frame_p3 : Cert.quiescent_Kernel3 := fun m ρ _ => Cert.Kernel3.Gen.frame m ρ

/-- The same on extended reals. -/
theorem frame_pi3 : Cert.quiescent_Kernel3Ideal := fun m ρ _ => Cert.Kernel3Ideal.Gen.frame m ρ

/-- The same of its reference. -/
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The latent output: the kernel on words ends, its arguments as they were and every counter at zero. -/
theorem frame_p4 : Cert.quiescent_Kernel4 := fun m ρ _ => Cert.Kernel4.Gen.frame m ρ

/-- The same on extended reals. -/
theorem frame_pi4 : Cert.quiescent_Kernel4Ideal := fun m ρ _ => Cert.Kernel4Ideal.Gen.frame m ρ

/-- The same of its reference. -/
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The projections an odd layer opens with: the kernel on words ends, its arguments as they were and every counter at zero. -/
theorem frame_p5 : Cert.quiescent_Kernel5 := fun m ρ _ => Cert.Kernel5.Gen.frame m ρ

/-- The same on extended reals. -/
theorem frame_pi5 : Cert.quiescent_Kernel5Ideal := fun m ρ _ => Cert.Kernel5Ideal.Gen.frame m ρ

/-- The same from memories whose arguments are finite. -/
theorem frame_pi5_finite [Cert.Pre_finite5.Facts] : Cert.quiescent_Kernel5Ideal_pre_finite5 :=
  fun m ρ _ => Cert.Kernel5Ideal.Gen.frame m ρ

/-- The same of its reference. -/
theorem frame_ri5 : Cert.quiescent_Reference5Ideal := fun m ρ _ =>
  (θ_run Cert.Reference5Ideal.defs _ _).mono (fun r h => ⟨fun c => (h c).2.2.2.2.2,
      Idealize.ShloMosaic.sem_eq_zero_of_no_sems (by decide) r.2⟩)
    (Cert.Reference5Ideal.Value.run (F := Ideal) m ρ)

/-- The same from memories whose arguments are finite. -/
theorem frame_ri5_finite [Cert.Pre_finite5.Facts] : Cert.quiescent_Reference5Ideal_pre_finite5 := fun m ρ _ =>
  frame_ri5 m ρ trivial

/-- What comes before an odd layer's latent attention: the kernel on words ends, its arguments as they were and every counter at zero. -/
theorem frame_p6 : Cert.quiescent_Kernel6 := fun m ρ _ => Cert.Kernel6.Gen.frame m ρ

/-- The same on extended reals. -/
theorem frame_pi6 : Cert.quiescent_Kernel6Ideal := fun m ρ _ => Cert.Kernel6Ideal.Gen.frame m ρ

/-- The same from memories whose arguments are finite. -/
theorem frame_pi6_finite [Cert.Pre_finite6.Facts] : Cert.quiescent_Kernel6Ideal_pre_finite6 :=
  fun m ρ _ => Cert.Kernel6Ideal.Gen.frame m ρ

/-- The same of its reference. -/
theorem frame_ri6 : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)

/-- The same from memories whose arguments are finite. -/
theorem frame_ri6_finite [Cert.Pre_finite6.Facts] : Cert.quiescent_Reference6Ideal_pre_finite6 := fun m ρ _ =>
  frame_ri6 m ρ trivial

end Cert.Proof.Claims

end
-- ==== Proof.KernelValue.lean ====
/- What the kernel's body makes of one block of queries and one batch's keys, when every entry is a real number. -/
module

public import proofs.«01_k».proof.Proof.Spec
public import proofs.«01_k».proof.Proof.Sums
public import proofs.«01_k».proof.Proof.Consts
public import Idealize.ShloMosaic.Lib.Pipeline.ValueKit
public import Idealize.ShloMosaic.Lib.Claim
public import Idealize.ShloMosaic.Lib.WordCmp

@[expose] public section
set_option maxRecDepth 16384
set_option maxHeartbeats 200000
noncomputable section
namespace Cert.KernelIdeal.Own
open Cert.KernelIdeal Cert.KernelIdeal.Gen Cert.Consts
open Idealize.ShloMosaic Idealize.ShloMosaic.TcCoe

/-- The `k`-th key block read at an index. -/
theorem keyBlk_at (x1 : Vec Ideal S1x2048x384 .bf16) (k : ℕ) (hk : k < 8) (s : Fin 256) (l : Fin 384) :
    keyBlk x1 k (ix3 0 s l) = x1 (ix3 0 ⟨256 * k + s.val, by omega⟩ l) := by
  unfold keyBlk VecWindow.window
  refine congrArg x1 ?_
  funext a
  fin_cases a
  all_goals apply Fin.ext
  all_goals simp [Nat.mod_eq_of_lt hk, ix3]

/-- The kernel's comparison of a key's place with the row's place in its block of 256. -/
theorem mask_word (a b : ℕ) (ha : a < 256) (hb : b < 2048) (x y : EReal) :
    Scalar.select (IntOp.cmpi CmpIPredicate.sle (BitVec.ofNat 32 a) (IntOp.andi (BitVec.ofNat 32 b) 255#32)) x y
      = if a ≤ b % 256 then x else y := by
  have e : IntOp.andi (BitVec.ofNat 32 b) 255#32 = BitVec.ofNat 32 (b % 256) := by
    apply BitVec.eq_of_toNat_eq
    unfold IntOp.andi
    rw [BitVec.toNat_and, BitVec.toNat_ofNat, BitVec.toNat_ofNat, BitVec.toNat_ofNat,
      Nat.mod_eq_of_lt (show b < 2 ^ 32 by omega), Nat.mod_eq_of_lt (show b % 256 < 2 ^ 32 by omega),
      show 255 % 2 ^ 32 = 2 ^ 8 - 1 from rfl, Nat.and_two_pow_sub_one_eq_mod]
  rw [e, Scalar.select]
  refine if_congr ?_ rfl rfl
  exact WordCmp.cmpi_sle_ofNat_eq_one_iff (w := 32) (by omega) (by omega)

/-- A score's weight, as the kernel computes it by a power of two. -/
theorem weight_real (t a : ℝ) :
    FloatOps.exp2 (F := Ideal) (φ := .f32) ((t : EReal) * (scl : EReal) - ((a * scl : ℝ) : EReal))
      = ((Real.exp ((t - a) * fac) : ℝ) : EReal) := by
  rw [← Cert.Sums.two_rpow t a fac]
  show Ideal.exp2 _ = _
  rw [← EReal.coe_mul, ← EReal.coe_sub, Ideal.exp2_coe]
  rfl

/-- A masked score has no weight. -/
theorem weight_bot (a : ℝ) :
    FloatOps.exp2 (F := Ideal) (φ := .f32) ((⊥ : EReal) * (scl : EReal) - ((a * scl : ℝ) : EReal))
      = ((0 : ℝ) : EReal) := by
  show Ideal.exp2 _ = _
  rw [EReal.bot_mul_coe_of_pos scl_pos, EReal.bot_sub, Ideal.exp2_bot, EReal.coe_zero]

/-- The score of a row of queries and a key: the product over the 384 lanes. -/
def dot (Q K : ℕ → ℕ → ℝ) (i j : ℕ) : ℝ := ∑ l ∈ Finset.range 384, Q i l * K j l

/-- A block of queries whose entries are the reals `Q` (row `256 h + r`). -/
def QReal (x0 : Vec Ideal S8x1x256x384 .bf16) (Q : ℕ → ℕ → ℝ) : Prop :=
  ∀ (h : Fin 8) (r : Fin 256) (l : Fin 384), x0 (ix4 h 0 r l) = ((Q (256 * h.val + r.val) l.val : ℝ) : EReal)

/-- A batch's keys whose entries are the reals `K`. -/
def KReal (x1 : Vec Ideal S1x2048x384 .bf16) (K : ℕ → ℕ → ℝ) : Prop :=
  ∀ (j : Fin 2048) (l : Fin 384), x1 (ix3 0 j l) = ((K j.val l.val : ℝ) : EReal)

/-- The own block's left half-row of weights, read at an index. -/
theorem pay25_at (S : Vec Ideal S1x2048x256 .f32) (O : Vec Ideal S2048x128 .f32) (r : Fin 2048) (l : Fin 128) :
    k0_pay25 S O (ix2 r l) = FloatOps.exp2 (F := Ideal) (φ := .f32)
      (S (ix3 0 r ⟨l.val, by omega⟩) * (scl : EReal) - O (ix2 r l)) := by
  pointwise [k0_pay25, k0_pay24]
  rw [named_scl]

/-- The own block's right half-row of weights, read at an index. -/
theorem pay26_at (S : Vec Ideal S1x2048x256 .f32) (O : Vec Ideal S2048x128 .f32) (r : Fin 2048) (l : Fin 128) :
    k0_pay26 S O (ix2 r l) = FloatOps.exp2 (F := Ideal) (φ := .f32)
      (S (ix3 0 r ⟨128 + l.val, by omega⟩) * (scl : EReal) - O (ix2 r l)) := by
  pointwise [k0_pay26, k0_pay24]
  rw [named_scl]

/-- The left half-row of an earlier block's weights, read at an index. -/
theorem pay2_at (S : Vec Ideal S1x2048x256 .f32) (O : Vec Ideal S2048x128 .f32) (r : Fin 2048) (l : Fin 128) :
    k0_pay2 S O (ix2 r l) = FloatOps.exp2 (F := Ideal) (φ := .f32)
      (S (ix3 0 r ⟨l.val, by omega⟩) * (scl : EReal) - O (ix2 r l)) := by
  pointwise [k0_pay2, k0_pay1]
  rw [named_scl]

/-- The right half-row of an earlier block's weights, read at an index. -/
theorem pay3_at (S : Vec Ideal S1x2048x256 .f32) (O : Vec Ideal S2048x128 .f32) (r : Fin 2048) (l : Fin 128) :
    k0_pay3 S O (ix2 r l) = FloatOps.exp2 (F := Ideal) (φ := .f32)
      (S (ix3 0 r ⟨128 + l.val, by omega⟩) * (scl : EReal) - O (ix2 r l)) := by
  pointwise [k0_pay3, k0_pay1]
  rw [named_scl]

section
variable {x0 : Vec Ideal S8x1x256x384 .bf16} {x1 : Vec Ideal S1x2048x384 .bf16} {Q K : ℕ → ℕ → ℝ}
  (hQ : QReal x0 Q) (hK : KReal x1 K)

include hK in
/-- The `k`-th key block's entries are reals. -/
theorem key_at (k : ℕ) (hk : k < 8) (s : Fin 256) (l : Fin 384) :
    keyBlk x1 k (ix3 0 s l) = ((K (256 * k + s.val) l.val : ℝ) : EReal) := by
  rw [keyBlk_at x1 k hk, hK]

include hQ in
/-- The queries' entries, as rows of 384 lanes, are reals. -/
theorem query_at (r : Fin 2048) (l : Fin 384) : k0_pay12 x0 (ix2 r l) = ((Q r.val l.val : ℝ) : EReal) := by
  have h := hQ ⟨r.val / 256, by omega⟩ ⟨r.val % 256, by omega⟩ l
  pointwise [k0_pay12]
  have e : 256 * (r.val / 256) + r.val % 256 = r.val := Nat.div_add_mod _ _
  simp only [e] at h
  exact h

include hQ hK in
/-- The scores of a key block are the reals `dot Q K`. -/
theorem scores_at (k : ℕ) (hk : k < 8) (r : Fin 2048) (s : Fin 256) :
    k0_pay16 x0 (keyBlk x1 k) (ix2 r s) = ((dot Q K r.val (256 * k + s.val) : ℝ) : EReal) := by
  pointwise [k0_pay16]
  unfold dot
  rw [← Cert.Sums.coe_sum_fin 384 (fun l => Q r.val l * K (256 * k + s.val) l)]
  refine Finset.sum_congr rfl fun l _ => ?_
  rw [EReal.coe_mul, ← query_at hQ, ← key_at hK k hk]

include hQ hK in
/-- The same in the slab the scores are kept in. -/
theorem slab_at (k : ℕ) (hk : k < 8) (r : Fin 2048) (s : Fin 256) :
    k0_pay17 x0 (keyBlk x1 k) (ix3 0 r s) = ((dot Q K r.val (256 * k + s.val) : ℝ) : EReal) := by
  have h := scores_at hQ hK k hk r s
  pointwise [k0_pay17]
  exact h

include hQ hK in
/-- The scores of a row's own key block: the key's place must not be after the row's. -/
theorem own_at (q : ℕ) (hq : q < 8) (r : Fin 2048) (s : Fin 256) :
    k0_pay13 x0 (keyBlk x1 q) (ix2 r s)
      = if s.val ≤ r.val % 256 then ((dot Q K r.val (256 * q + s.val) : ℝ) : EReal) else ⊥ := by
  have h := scores_at hQ hK q hq r s
  pointwise [k0_pay13]
  pointwise [k0_pay16] at h
  rw [h, neg_inf]
  exact mask_word _ _ s.isLt r.isLt _ _

include hQ hK in
/-- The same in the slab the scores are kept in. -/
theorem own_slab_at (q : ℕ) (hq : q < 8) (r : Fin 2048) (s : Fin 256) :
    k0_pay14 x0 (keyBlk x1 q) (ix3 0 r s)
      = if s.val ≤ r.val % 256 then ((dot Q K r.val (256 * q + s.val) : ℝ) : EReal) else ⊥ := by
  have h := own_at hQ hK q hq r s
  pointwise [k0_pay14]
  exact h

include hQ hK in
/-- The running maximum never is infinite, and is real in the first lane. -/
theorem runMax_at (q : ℕ) (hq : q < 8) (k : ℕ) (hk : k ≤ q) (r : Fin 2048) (s : Fin 256) :
    runMax x0 x1 q k (ix2 r s) ≠ ⊤ ∧ (s.val = 0 → runMax x0 x1 q k (ix2 r s) ≠ ⊥) := by
  induction k with
  | zero =>
    have h := own_at hQ hK q hq r s
    have e : runMax x0 x1 q 0 (ix2 r s) = k0_pay13 x0 (keyBlk x1 q) (ix2 r s) := by
      rw [runMax]
      pointwise [k0_pay15]
    rw [e, h]
    constructor
    · split_ifs
      · exact EReal.coe_ne_top _
      · exact bot_ne_top
    · intro h0
      rw [if_pos (by omega)]
      exact EReal.coe_ne_bot _
  | succ k ih =>
    have h := scores_at hQ hK k (by omega) r s
    obtain ⟨i1, i2⟩ := ih (by omega)
    have e : runMax x0 x1 q (k + 1) (ix2 r s) = max (runMax x0 x1 q k (ix2 r s)) (k0_pay16 x0 (keyBlk x1 k) (ix2 r s)) := by
      rw [runMax]
      pointwise [k0_pay18]
    rw [e, h]
    refine ⟨(max_lt (lt_top_iff_ne_top.mpr i1) (EReal.coe_lt_top _)).ne, fun h0 => ?_⟩
    exact (lt_of_lt_of_le (bot_lt_iff_ne_bot.mpr (i2 h0)) (le_max_left _ _)).ne'

include hQ hK in
/-- Each row's offset is a real multiple of the named constant. -/
theorem offset_at (q : ℕ) (hq : q < 8) :
    ∃ a : ℕ → ℝ, ∀ (r : Fin 2048) (l : Fin 128), offset x0 x1 q (ix2 r l) = ((a r.val * scl : ℝ) : EReal) := by
  have h : ∀ r : Fin 2048, ∃ a : ℝ, k0_pay22 (runMax x0 x1 q q) (ix2 r 0) = (a : EReal) := by
    intro r
    have h1 := fun x => (runMax_at hQ hK q hq q le_rfl r x).1
    have h2 := (runMax_at hQ hK q hq q le_rfl r ⟨0, by norm_num⟩).2 rfl
    generalize runMax x0 x1 q q = M at h1 h2 ⊢
    pointwise [k0_pay22]
    exact Cert.Sums.fold_max_real (fun _ _ => rfl) neg_inf _ h1 _ h2
  choose a ha using h
  refine ⟨fun r => if h : r < 2048 then a ⟨r, h⟩ else 0, fun r l => ?_⟩
  unfold offset
  dsimp only
  rw [dif_pos r.isLt, EReal.coe_mul, ← ha r, named_scl]
  generalize k0_pay22 (runMax x0 x1 q q) = M
  generalize (scl : EReal) = z
  pointwise [k0_pay23]

section
variable {a : ℕ → ℝ} {q : ℕ} (hq : q < 8)
  (ha : ∀ (r : Fin 2048) (l : Fin 128), offset x0 x1 q (ix2 r l) = ((a r.val * scl : ℝ) : EReal))

/-- The weight of key `j` in row `i`. -/
def wgt (Q K : ℕ → ℕ → ℝ) (a : ℕ → ℝ) (i j : ℕ) : ℝ := Real.exp ((dot Q K i j - a i) * fac)

/-- The weight of the `s`-th key of a row's own block, which is zero after the row's place. -/
def wOwn (Q K : ℕ → ℕ → ℝ) (a : ℕ → ℝ) (q i s : ℕ) : ℝ := if s ≤ i % 256 then wgt Q K a i (256 * q + s) else 0

/-- The weight of a score that may be masked. -/
theorem weight_own (i s : ℕ) :
    FloatOps.exp2 (F := Ideal) (φ := .f32)
      ((if s ≤ i % 256 then ((dot Q K i (256 * q + s) : ℝ) : EReal) else ⊥)
        * (scl : EReal) - ((a i * scl : ℝ) : EReal)) = ((wOwn Q K a q i s : ℝ) : EReal) := by
  unfold wOwn wgt
  by_cases h : s ≤ i % 256
  · rw [if_pos h, if_pos h]; exact weight_real _ _
  · rw [if_neg h, if_neg h]; exact weight_bot _

include hQ hK hq ha in
/-- The own block's weights: the left half of its lanes. -/
theorem own_left_at (r : Fin 2048) (l : Fin 128) :
    k0_pay25 (k0_pay14 x0 (keyBlk x1 q)) (offset x0 x1 q) (ix2 r l) = ((wOwn Q K a q r.val l.val : ℝ) : EReal) := by
  have h1 := own_slab_at hQ hK q hq r ⟨l.val, by omega⟩
  have h2 := ha r l
  generalize k0_pay14 x0 (keyBlk x1 q) = S at h1 ⊢
  generalize offset x0 x1 q = O at h2 ⊢
  rw [pay25_at, h1, h2]
  exact weight_own _ _

include hQ hK hq ha in
/-- The own block's weights: the right half of its lanes. -/
theorem own_right_at (r : Fin 2048) (l : Fin 128) :
    k0_pay26 (k0_pay14 x0 (keyBlk x1 q)) (offset x0 x1 q) (ix2 r l) = ((wOwn Q K a q r.val (128 + l.val) : ℝ) : EReal) := by
  have h1 := own_slab_at hQ hK q hq r ⟨128 + l.val, by omega⟩
  have h2 := ha r l
  generalize k0_pay14 x0 (keyBlk x1 q) = S at h1 ⊢
  generalize offset x0 x1 q = O at h2 ⊢
  rw [pay26_at, h1, h2]
  exact weight_own _ _

include hQ hK ha in
/-- An earlier block's weights: the left half of its lanes. -/
theorem left_at (k : ℕ) (hk : k < 8) (r : Fin 2048) (l : Fin 128) :
    k0_pay2 (k0_pay17 x0 (keyBlk x1 k)) (offset x0 x1 q) (ix2 r l) = ((wgt Q K a r.val (256 * k + l.val) : ℝ) : EReal) := by
  have h1 := slab_at hQ hK k hk r ⟨l.val, by omega⟩
  have h2 := ha r l
  generalize k0_pay17 x0 (keyBlk x1 k) = S at h1 ⊢
  generalize offset x0 x1 q = O at h2 ⊢
  rw [pay2_at, h1, h2]
  exact weight_real _ _

include hQ hK ha in
/-- An earlier block's weights: the right half of its lanes. -/
theorem right_at (k : ℕ) (hk : k < 8) (r : Fin 2048) (l : Fin 128) :
    k0_pay3 (k0_pay17 x0 (keyBlk x1 k)) (offset x0 x1 q) (ix2 r l)
      = ((wgt Q K a r.val (256 * k + (128 + l.val)) : ℝ) : EReal) := by
  have h1 := slab_at hQ hK k hk r ⟨128 + l.val, by omega⟩
  have h2 := ha r l
  generalize k0_pay17 x0 (keyBlk x1 k) = S at h1 ⊢
  generalize offset x0 x1 q = O at h2 ⊢
  rw [pay3_at, h1, h2]
  exact weight_real _ _

include hQ hK hq ha in
/-- A lane's sum of weights after `k` earlier blocks. -/
theorem sumW_at (k : ℕ) (hk : k ≤ q) (r : Fin 2048) (l : Fin 128) :
    sumW x0 x1 q k (ix2 r l) = (((wOwn Q K a q r.val l.val + wOwn Q K a q r.val (128 + l.val))
      + ∑ n ∈ Finset.range k, (wgt Q K a r.val (256 * n + l.val) + wgt Q K a r.val (256 * n + (128 + l.val))) : ℝ) : EReal) := by
  induction k with
  | zero =>
    have h1 := own_left_at hQ hK hq ha r l
    have h2 := own_right_at hQ hK hq ha r l
    rw [sumW, Finset.sum_range_zero, add_zero, EReal.coe_add, ← h1, ← h2]
    pointwise [k0_pay27]
  | succ k ih =>
    have h1 := left_at hQ hK ha k (by omega) r l
    have h2 := right_at hQ hK ha k (by omega) r l
    rw [sumW, Finset.sum_range_succ _ k, ← add_assoc, EReal.coe_add, ← ih (by omega), EReal.coe_add, ← h1, ← h2]
    pointwise [k0_pay4]

/-- A sum over two half-rows of 128 lanes, as the kernel's product with a concatenation is read. -/
theorem two_halves (f : Fin 128 → EReal) (g : Fin 128 → EReal) (F : ℕ → ℝ)
    (hf : ∀ x, f x = ((F x.val : ℝ) : EReal)) (hg : ∀ x, g x = ((F (128 + x.val) : ℝ) : EReal)) :
    ∑ x, f x + ∑ x, g x = ((∑ s ∈ Finset.range 256, F s : ℝ) : EReal) := by
  rw [← Cert.Sums.halves, Finset.sum_add_distrib, EReal.coe_add, ← Cert.Sums.coe_sum_fin, ← Cert.Sums.coe_sum_fin 128 (fun l => F (128 + l))]
  simp only [hf, hg]

include hQ hK hq ha in
/-- A lane's weighted sum of the keys' latents after `k` earlier blocks. -/
theorem sumV_at (k : ℕ) (hk : k ≤ q) (r : Fin 2048) (v : Fin 256) :
    sumV x0 x1 q k (ix2 r v) = ((∑ s ∈ Finset.range 256, wOwn Q K a q r.val s * K (256 * q + s) v.val
      + ∑ n ∈ Finset.range k, ∑ s ∈ Finset.range 256,
          wgt Q K a r.val (256 * n + s) * K (256 * n + s) v.val : ℝ) : EReal) := by
  induction k with
  | zero =>
    have h1 := fun l => own_left_at hQ hK hq ha r l
    have h2 := fun l => own_right_at hQ hK hq ha r l
    have h3 := fun s l => key_at hK q hq s l
    rw [sumV, Finset.sum_range_zero, add_zero]
    generalize k0_pay14 x0 (keyBlk x1 q) = S at h1 h2 ⊢
    generalize offset x0 x1 q = O at h1 h2 ⊢
    generalize keyBlk x1 q = B at h3 ⊢
    pointwise [k0_pay28]
    refine two_halves _ _ (fun s => wOwn Q K a q r.val s * K (256 * q + s) v.val) (fun x => ?_) (fun x => ?_)
    · rw [EReal.coe_mul, ← h1 x, h3]
    · rw [EReal.coe_mul, ← h2 x, h3]
  | succ k ih =>
    have h1 := fun l => left_at hQ hK ha k (by omega) r l
    have h2 := fun l => right_at hQ hK ha k (by omega) r l
    have h3 := fun s l => key_at hK k (by omega) s l
    rw [sumV, Finset.sum_range_succ _ k, ← add_assoc, EReal.coe_add, ← ih (by omega)]
    generalize k0_pay17 x0 (keyBlk x1 k) = S at h1 h2 ⊢
    generalize sumV x0 x1 q k = A
    generalize offset x0 x1 q = O at h1 h2 ⊢
    generalize keyBlk x1 k = B at h3 ⊢
    pointwise [k0_pay5]
    congr 1
    refine two_halves _ _ (fun s => wgt Q K a r.val (256 * k + s) * K (256 * k + s) v.val) (fun x => ?_) (fun x => ?_)
    · rw [EReal.coe_mul, ← h1 x, h3]
    · rw [EReal.coe_mul, ← h2 x, h3]

end

include hQ hK in
/-- The block a grid point leaves: each row's mean of the keys' latents up to the row's place, by exponential weights
    of the scores. -/
theorem outBlk_at (q : ℕ) (hq : q < 8) (b : ℝ) (h : Fin 8) (r v : Fin 256) :
    outBlk x0 x1 q (ix4 h 0 r v)
      = ((∑ j ∈ Finset.range (256 * q + r.val + 1), K j v.val
          * (Real.exp (dot Q K (256 * h.val + r.val) j * fac - b)
            / ∑ i ∈ Finset.range (256 * q + r.val + 1), Real.exp (dot Q K (256 * h.val + r.val) i * fac - b)) : ℝ) : EReal) := by
  obtain ⟨a, ha⟩ := offset_at hQ hK q hq
  have hm : (256 * h.val + r.val) % 256 = r.val := by omega
  have h1 : sumV x0 x1 q q (ix2 ⟨h.val * 256 + r.val, by omega⟩ v)
      = ((∑ j ∈ Finset.range (256 * q + r.val + 1), wgt Q K a (256 * h.val + r.val) j * K j v.val : ℝ) : EReal) := by
    rw [sumV_at hQ hK hq ha q le_rfl]
    simp only [mul_comm h.val 256]
    rw [← Cert.Sums.causal (fun j => wgt Q K a (256 * h.val + r.val) j * K j v.val) q r.val r.isLt]
    simp only [wOwn, hm, ite_mul, zero_mul]
  have h2 : ∑ l : Fin 128, sumW x0 x1 q q (ix2 ⟨h.val * 256 + r.val, by omega⟩ l)
      = ((∑ j ∈ Finset.range (256 * q + r.val + 1), wgt Q K a (256 * h.val + r.val) j : ℝ) : EReal) := by
    simp only [sumW_at hQ hK hq ha q le_rfl, mul_comm h.val 256]
    rw [Cert.Sums.coe_sum_fin 128 (fun l => (wOwn Q K a q (256 * h.val + r.val) l + wOwn Q K a q (256 * h.val + r.val) (128 + l))
      + ∑ n ∈ Finset.range q, (wgt Q K a (256 * h.val + r.val) (256 * n + l) + wgt Q K a (256 * h.val + r.val) (256 * n + (128 + l)))),
      ← Cert.Sums.causal (fun j => wgt Q K a (256 * h.val + r.val) j) q r.val r.isLt,
      Finset.sum_add_distrib, Cert.Sums.halves (fun l => wOwn Q K a q (256 * h.val + r.val) l), Finset.sum_comm]
    simp only [Cert.Sums.halves (fun l => wgt Q K a (256 * h.val + r.val) (256 * _ + l)), wOwn, hm]
  have h3 : (0 : ℝ) < ∑ j ∈ Finset.range (256 * q + r.val + 1), wgt Q K a (256 * h.val + r.val) j :=
    Finset.sum_pos (fun j _ => Real.exp_pos _) ⟨0, Finset.mem_range.mpr (by omega)⟩
  rw [← Cert.Sums.mean (fun j => dot Q K (256 * h.val + r.val) j) (fun j => K j v.val) (a (256 * h.val + r.val)) b fac]
  unfold outBlk
  generalize sumV x0 x1 q q = A at h1 ⊢
  generalize sumW x0 x1 q q = L at h2 ⊢
  pointwise [k0_pay11]
  rw [h1, h2, Ideal.div_coe h3.ne', ← EReal.coe_mul, mul_one_div]
  rfl

end
end Cert.KernelIdeal.Own
-- ==== Proof.RefValue.lean ====
/- What the reference computes, when every entry of its arguments is a real number. -/
module

public import proofs.«01_k».proof.Proof.Gen.ReferenceIdeal.Run
public import proofs.«01_k».proof.Proof.Sums
public import proofs.«01_k».proof.Proof.Consts
public import Idealize.ShloMosaic.Lib.Pipeline.ValueKit
public import Idealize.ShloMosaic.Lib.Claim
public import Idealize.ShloMosaic.Lib.WordCmp
public import Idealize.ShloMosaic.PureOps.Reduce

@[expose] public section
set_option maxRecDepth 16384
set_option maxHeartbeats 200000
noncomputable section
namespace Cert.ReferenceIdeal.Own
open Cert.ReferenceIdeal Cert.ReferenceIdeal.Gen Cert.ReferenceIdeal.Value Cert.Consts
open Idealize.ShloMosaic Idealize.ShloMosaic.TcCoe

/-- The reference's scores, masked. -/
def refScores (q : FVec Ideal S8x8x2048x256 .f32) (p : FVec Ideal S8x8x2048x64 .f32) (k : FVec Ideal S8x2048x256 .f32)
    (o : FVec Ideal S8x2048x64 .f32) : FVec Ideal S8x8x2048x2048 .f32 :=
  select (broadcastInDim S8x8x2048x2048 ![0, 1, 2, 3] bcast_S1x1x2048x2048_S8x8x2048x2048_0_1_2_3 (cmpi .sle (broadcastInDim S1x1x2048x2048 ![0, 1, 2, 3] bcast_S1x1x1x2048_S1x1x2048x2048_0_1_2_3 (broadcastInDim S1x1x1x2048 ![3] bcast_S2048_S1x1x1x2048_3 (iotaInDim S2048 32 0))) (broadcastInDim S1x1x2048x2048 ![0, 1, 2, 3] bcast_S1x1x2048x1_S1x1x2048x2048_0_1_2_3 (broadcastInDim S1x1x2048x1 ![2] bcast_S2048_S1x1x2048x1_2 (iotaInDim S2048 32 0))))) (Host.divf (addf (transpose S8x8x2048x2048 [2, 0, 3, 1] (Host.dotGeneral dot_S8x2048x256_S8x8x2048x256_S8x2048x8x2048_2_3_1_02_0_1 none k q) transposes_S8x2048x8x2048_S8x8x2048x2048_2_0_3_1) (transpose S8x8x2048x2048 [2, 0, 3, 1] (Host.dotGeneral dot_S8x2048x64_S8x8x2048x64_S8x2048x8x2048_2_3_1_02_0_1 none o p) transposes_S8x2048x8x2048_S8x8x2048x2048_2_0_3_1)) (broadcastInDim S8x8x2048x2048 ![] bcast_S_S8x8x2048x2048 (id (Host.sqrt (constant S_ .f32 0x43400000#32))))) (broadcastInDim S8x8x2048x2048 ![] bcast_S_S8x8x2048x2048 (id (constant S_ .f32 0xFF800000#32)))

/-- The reference's row maxima. -/
def refMax (s : FVec Ideal S8x8x2048x2048 .f32) : FVec Ideal S8x8x2048 .f32 :=
  maximumf (broadcastInDim S8x8x2048 ![] bcast_S_S8x8x2048 (constant S_ .f32 0xFF800000#32)) (Host.reduce FloatOps.maximumf s (constant S_ .f32 0xFF800000#32) reducesTo_S8x8x2048x2048_S8x8x2048_d3 h_S_)

/-- The reference's weights before they are divided by their sum. -/
def refExp (s : FVec Ideal S8x8x2048x2048 .f32) : FVec Ideal S8x8x2048x2048 .f32 :=
  Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (refMax s))))

/-- The reference's mean of the keys' latents by the weights. -/
def refMean (k : FVec Ideal S8x2048x256 .f32) (e : FVec Ideal S8x8x2048x2048 .f32) : FVec Ideal S8x8x2048x256 .bf16 :=
  truncf .bf16 (transpose S8x8x2048x256 [2, 0, 3, 1] (Host.dotGeneral dot_S8x2048x256_S8x8x2048x2048_S8x256x8x2048_1_3_2_02_0_1 none k (Host.divf e (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd e (constant S_ .f32 0x00000000#32) reducesTo_S8x8x2048x2048_S8x8x2048_d3 h_S_))))) transposes_S8x256x8x2048_S8x8x2048x256_2_0_3_1) bitsLt_bf16_f32

/-- The reference's result is the mean by the weights of its masked scores. -/
theorem res_eq (m : (ℓ : Loc nD τ sig) → Buf (Elt Ideal) ℓ) (c : Dev nD) :
    res_out0 m c = refMean (m ((c.tc : Thread nD τ).loc main_arg2)) (refExp (refScores (m ((c.tc : Thread nD τ).loc main_arg0)) (m ((c.tc : Thread nD τ).loc main_arg1)) (m ((c.tc : Thread nD τ).loc main_arg2)) (m ((c.tc : Thread nD τ).loc main_arg3)))) := by
  unfold res_out0 res_main_v29 refMean refExp refMax refScores
  rfl

/-- The score of query `i` and key `j`: the products over the 256 latent lanes and over the 64 rotated lanes. -/
def score (f g : ℕ → ℝ) (f' g' : ℕ → ℝ) : ℝ :=
  ∑ l ∈ Finset.range 256, f' l * f l + ∑ l ∈ Finset.range 64, g' l * g l

section
variable {q : FVec Ideal S8x8x2048x256 .f32} {p : FVec Ideal S8x8x2048x64 .f32} {k : FVec Ideal S8x2048x256 .f32}
  {o : FVec Ideal S8x2048x64 .f32} {fq fp : ℕ → ℕ → ℕ → ℕ → ℝ} {fk fo : ℕ → ℕ → ℕ → ℝ}
  (hq : ∀ (h b : Fin 8) (i : Fin 2048) (l : Fin 256), q (ix4 h b i l) = ((fq h.val b.val i.val l.val : ℝ) : EReal))
  (hp : ∀ (h b : Fin 8) (i : Fin 2048) (l : Fin 64), p (ix4 h b i l) = ((fp h.val b.val i.val l.val : ℝ) : EReal))
  (hk : ∀ (b : Fin 8) (i : Fin 2048) (l : Fin 256), k (ix3 b i l) = ((fk b.val i.val l.val : ℝ) : EReal))
  (ho : ∀ (b : Fin 8) (i : Fin 2048) (l : Fin 64), o (ix3 b i l) = ((fo b.val i.val l.val : ℝ) : EReal))

include hq hp hk ho in
/-- A masked score is the real score times the factor, or minus infinity. -/
theorem scores_at (h b : Fin 8) (i j : Fin 2048) :
    refScores q p k o (ix4 h b i j) = if j.val ≤ i.val
      then ((score (fq h.val b.val i.val) (fp h.val b.val i.val) (fk b.val j.val) (fo b.val j.val) * fac : ℝ) : EReal) else ⊥ := by
  have e1 : ∑ x : Fin 256, k (ix3 b j x) * q (ix4 h b i x) + ∑ x : Fin 64, o (ix3 b j x) * p (ix4 h b i x)
      = ((score (fq h.val b.val i.val) (fp h.val b.val i.val) (fk b.val j.val) (fo b.val j.val) : ℝ) : EReal) := by
    unfold score
    simp only [hq, hp, hk, ho, ← EReal.coe_mul]
    rw [EReal.coe_add, Cert.Sums.coe_sum_fin 256 (fun l => fk b.val j.val l * fq h.val b.val i.val l),
      Cert.Sums.coe_sum_fin 64 (fun l => fo b.val j.val l * fp h.val b.val i.val l)]
  pointwise [refScores]
  rw [e1]
  have e2 : (id (Host.sqrt (constant (F := Ideal) S_ FTy.f32 0x43400000#32)) ix0) = Ideal.sqrt (Ideal.ofBits .f32 0x43400000#32) := rfl
  have e3 : (id (constant (F := Ideal) S_ FTy.f32 0xFF800000#32) ix0) = ⊥ := neg_inf
  rw [e2, e3, div_root, Scalar.select]
  refine if_congr ?_ rfl rfl
  exact WordCmp.cmpi_sle_ofNat_eq_one_iff (w := 32) (by omega) (by omega)

end

/-- The maximum with minus infinity changes nothing. -/
theorem max_neg_inf (r : FVec Ideal S8x8x2048 .f32) (j : S8x8x2048.Idx) :
    maximumf (broadcastInDim S8x8x2048 ![] bcast_S_S8x8x2048 (constant S_ .f32 0xFF800000#32)) r j = r j := by
  show max (Ideal.ofBits .f32 0xFF800000#32) (r j) = r j
  rw [neg_inf, max_eq_right bot_le]

/-- The row maxima are real when no score is infinite and each row's first score is real. -/
theorem refMax_real (s : FVec Ideal S8x8x2048x2048 .f32) (h1 : ∀ y, s y ≠ ⊤)
    (h2 : ∀ y : S8x8x2048x2048.Idx, (y 3).val = 0 → s y ≠ ⊥) (j : S8x8x2048.Idx) : ∃ M : ℝ, refMax s j = (M : EReal) := by
  have hr : S8x8x2048x2048.Reduces [3] S8x8x2048 := by decide
  obtain ⟨M, hM⟩ : ∃ M : ℝ, Host.reduce FloatOps.maximumf s (constant (F := Ideal) S_ .f32 0xFF800000#32)
      reducesTo_S8x8x2048x2048_S8x8x2048_d3 h_S_ j = (M : EReal) := by
    rw [Host.reduce_eq_fold_single _ _ _ _ hr]
    refine Cert.Sums.fold_max_real (fun _ _ => rfl) neg_inf _ (fun x => h1 _) ⟨0, by decide⟩ (h2 _ ?_)
    refine (Shape.Reduces.lift_val hr j _ 3).trans ?_
    simp [Shape.Reduces.liftVal]
  refine ⟨M, ?_⟩
  unfold refMax
  rw [max_neg_inf, hM]

/-- The mean of the keys' latents read at an index. -/
theorem mean_at (k : FVec Ideal S8x2048x256 .f32) (s : FVec Ideal S8x8x2048x2048 .f32) (h b : Fin 8) (i : Fin 2048)
    (v : Fin 256) : refMean k s (ix4 h b i v) = ∑ x : Fin 2048, k (ix3 b x v) * Ideal.div (s (ix4 h b i x)) (∑ x : Fin 2048, s (ix4 h b i x)) := by
  pointwise [refMean]

/-- The weights read at an index. -/
theorem exp_at (s : FVec Ideal S8x8x2048x2048 .f32) (h b : Fin 8) (i j : Fin 2048) :
    refExp s (ix4 h b i j) = Ideal.exp (s (ix4 h b i j) - refMax s (ix3 h b i)) := by
  pointwise [refExp]

/-- A row's mean of reals by real weights that vanish after place `i`. -/
theorem mean_real (k e : Fin 2048 → EReal) (K E : ℕ → ℝ) (i : ℕ) (hi : i < 2048) (hk : ∀ x, k x = ((K x.val : ℝ) : EReal))
    (he : ∀ x, e x = if x.val ≤ i then ((E x.val : ℝ) : EReal) else 0) (hE : ∀ x : ℕ, (0 : ℝ) < E x) :
    ∑ x : Fin 2048, k x * Ideal.div (e x) (∑ x : Fin 2048, e x)
      = ((∑ j ∈ Finset.range (i + 1), K j * (E j / ∑ l ∈ Finset.range (i + 1), E l) : ℝ) : EReal) := by
  have he' : ∀ x, e x = (((if x.val ≤ i then E x.val else 0 : ℝ)) : EReal) := fun x => by
    rw [he]; split_ifs <;> simp
  have h1 : ∑ x : Fin 2048, e x = ((∑ l ∈ Finset.range (i + 1), E l : ℝ) : EReal) := by
    simp only [he']
    rw [Cert.Sums.coe_sum_fin 2048 (fun x => if x ≤ i then E x else 0), Cert.Sums.masked _ _ _ hi]
  have h2 : (0 : ℝ) < ∑ l ∈ Finset.range (i + 1), E l :=
    Finset.sum_pos (fun j _ => hE j) ⟨0, Finset.mem_range.mpr (by omega)⟩
  rw [h1, ← Cert.Sums.masked (fun j => K j * (E j / ∑ l ∈ Finset.range (i + 1), E l)) 2048 i hi,
    ← Cert.Sums.coe_sum_fin 2048 (fun x => if x ≤ i then K x * (E x / ∑ l ∈ Finset.range (i + 1), E l) else 0)]
  refine Finset.sum_congr rfl fun x _ => ?_
  rw [he', Ideal.div_coe h2.ne', hk, ← EReal.coe_mul, ← EReal.coe_mul]
  congr 1
  split_ifs <;> ring

section
variable {q : FVec Ideal S8x8x2048x256 .f32} {p : FVec Ideal S8x8x2048x64 .f32} {k : FVec Ideal S8x2048x256 .f32}
  {o : FVec Ideal S8x2048x64 .f32} {fq fp : ℕ → ℕ → ℕ → ℕ → ℝ} {fk fo : ℕ → ℕ → ℕ → ℝ}
  (hq : ∀ (h b : Fin 8) (i : Fin 2048) (l : Fin 256), q (ix4 h b i l) = ((fq h.val b.val i.val l.val : ℝ) : EReal))
  (hp : ∀ (h b : Fin 8) (i : Fin 2048) (l : Fin 64), p (ix4 h b i l) = ((fp h.val b.val i.val l.val : ℝ) : EReal))
  (hk : ∀ (b : Fin 8) (i : Fin 2048) (l : Fin 256), k (ix3 b i l) = ((fk b.val i.val l.val : ℝ) : EReal))
  (ho : ∀ (b : Fin 8) (i : Fin 2048) (l : Fin 64), o (ix3 b i l) = ((fo b.val i.val l.val : ℝ) : EReal))
include hq hp hk ho

/-- The reference's result: each query's mean of the keys' latents up to its own place, by exponential weights. -/
theorem ref_at (h b : Fin 8) (i : Fin 2048) (v : Fin 256) :
    ∃ M : ℝ, refMean k (refExp (refScores q p k o)) (ix4 h b i v)
      = ((∑ j ∈ Finset.range (i.val + 1), fk b.val j v.val
          * (Real.exp (score (fq h.val b.val i.val) (fp h.val b.val i.val) (fk b.val j) (fo b.val j) * fac - M)
            / ∑ l ∈ Finset.range (i.val + 1),
                Real.exp (score (fq h.val b.val i.val) (fp h.val b.val i.val) (fk b.val l) (fo b.val l) * fac - M)) : ℝ) : EReal) := by
  have hs := scores_at hq hp hk ho
  have hy : ∀ y : S8x8x2048x2048.Idx, ∃ (h b : Fin 8) (i j : Fin 2048), y = ix4 h b i j ∧ (y 3).val = j.val :=
    fun y => ⟨y 0, y 1, y 2, y 3, by funext a; fin_cases a <;> rfl, rfl⟩
  obtain ⟨M, hM⟩ := refMax_real (refScores q p k o)
    (fun y => by
      obtain ⟨h, b, i, j, rfl, _⟩ := hy y
      rw [hs]; split_ifs
      · exact EReal.coe_ne_top _
      · exact bot_ne_top)
    (fun y h0 => by
      obtain ⟨h, b, i, j, rfl, h3⟩ := hy y
      rw [hs, if_pos (by omega)]
      exact EReal.coe_ne_bot _) (ix3 h b i)
  refine ⟨M, ?_⟩
  rw [mean_at]
  refine mean_real _ _ (fun j => fk b.val j v.val)
    (fun j => Real.exp (score (fq h.val b.val i.val) (fp h.val b.val i.val) (fk b.val j) (fo b.val j) * fac - M)) i.val i.isLt
    (fun x => hk b x v) (fun x => ?_) (fun x => Real.exp_pos _)
  rw [exp_at, hM, hs]
  split_ifs
  · rw [← EReal.coe_sub, Ideal.exp_coe]
  · rw [EReal.bot_sub, Ideal.exp_bot]

end
end Cert.ReferenceIdeal.Own
-- ==== Proof.Entry.lean ====
/- The kernel's two operands, the queries and the keys side by side in 384 lanes, and their blocks. -/
module

public import proofs.«01_k».proof.Proof.Run
public import proofs.«01_k».proof.Proof.KernelValue
public import proofs.«01_k».proof.Proof.RefValue

@[expose] public section
set_option maxRecDepth 16384
set_option maxHeartbeats 200000
noncomputable section
namespace Cert.KernelIdeal.Own
open Cert.KernelIdeal Cert.KernelIdeal.Gen Cert.Consts
open Idealize.ShloMosaic Idealize.ShloMosaic.TcCoe

/-- A row of 256 entries and a row of 64 beside each other, then zeros. -/
def cat (f g : ℕ → ℝ) (l : ℕ) : ℝ := if l < 256 then f l else if l < 320 then g (l - 256) else 0

/-- The product of two such rows is the two products' sum. -/
theorem cat_dot (f g f' g' : ℕ → ℝ) :
    ∑ l ∈ Finset.range 384, cat f g l * cat f' g' l = Cert.ReferenceIdeal.Own.score f g f' g' := by
  unfold Cert.ReferenceIdeal.Own.score
  rw [show 384 = 256 + 64 + 64 from rfl, Finset.sum_range_add, Finset.sum_range_add]
  rw [Finset.sum_eq_zero (s := Finset.range 64) (f := fun x => cat f g (256 + 64 + x) * cat f' g' (256 + 64 + x)), add_zero]
  · refine congrArg₂ (· + ·) (Finset.sum_congr rfl fun l hl => ?_) (Finset.sum_congr rfl fun l hl => ?_)
    · have := Finset.mem_range.mp hl
      simp only [cat, if_pos this, mul_comm]
    · have := Finset.mem_range.mp hl
      simp only [cat, if_neg (show ¬ 256 + l < 256 by omega), if_pos (show 256 + l < 320 by omega), Nat.add_sub_cancel_left, mul_comm]
  · intro l _
    simp only [cat, if_neg (show ¬ 256 + 64 + l < 256 by omega), if_neg (show ¬ 256 + 64 + l < 320 by omega), mul_zero]

section
variable {F : FTy → Type} [FloatOps F] [Named F] (m : (ℓ : Loc nD τ sig) → Buf (Elt F) ℓ) (c : Dev nD)

/-- The query operand as the kernel finds it: latents, rotary parts and zeros side by side. -/
theorem V_queries : V m c main_v3 = (truncf .bf16 (concatenate S8x8x2048x384 3 [⟨S8x8x2048x256, (m ((c.tc : Thread nD τ).loc main_arg0) : FVec F S8x8x2048x256 .f32)⟩, ⟨S8x8x2048x64, (m ((c.tc : Thread nD τ).loc main_arg1) : FVec F S8x8x2048x64 .f32)⟩, ⟨S8x8x2048x64, broadcastInDim S8x8x2048x64 ![] bcast_S_S8x8x2048x64 (constant S_ .f32 0x00000000#32 : FVec F S_ .f32)⟩] concatenates_S8x8x2048x256_S8x8x2048x64_S8x8x2048x64_S8x8x2048x384_d3) bitsLt_bf16_f32 : FVec F S8x8x2048x384 .bf16) := by
  unfold V
  after_results
  all_goals try rfl

/-- The key operand likewise. -/
theorem V_keys : V m c main_v5 = (truncf .bf16 (concatenate S8x2048x384 2 [⟨S8x2048x256, (m ((c.tc : Thread nD τ).loc main_arg2) : FVec F S8x2048x256 .f32)⟩, ⟨S8x2048x64, (m ((c.tc : Thread nD τ).loc main_arg3) : FVec F S8x2048x64 .f32)⟩, ⟨S8x2048x64, broadcastInDim S8x2048x64 ![] bcast_S_S8x2048x64 (constant S_ .f32 0x00000000#32 : FVec F S_ .f32)⟩] concatenates_S8x2048x256_S8x2048x64_S8x2048x64_S8x2048x384_d2) bitsLt_bf16_f32 : FVec F S8x2048x384 .bf16) := by
  unfold V
  after_results
  all_goals try rfl
end

/-- The query operand at an index, its parts being real. -/
theorem queries_at (x : FVec Ideal S8x8x2048x256 .f32) (y : FVec Ideal S8x8x2048x64 .f32) {f g : ℕ → ℕ → ℕ → ℕ → ℝ}
    (hx : ∀ (h b : Fin 8) (i : Fin 2048) (l : Fin 256), x (ix4 h b i l) = ((f h.val b.val i.val l.val : ℝ) : EReal))
    (hy : ∀ (h b : Fin 8) (i : Fin 2048) (l : Fin 64), y (ix4 h b i l) = ((g h.val b.val i.val l.val : ℝ) : EReal))
    (h b : Fin 8) (i : Fin 2048) (l : Fin 384) :
    (truncf .bf16 (concatenate S8x8x2048x384 3 [⟨S8x8x2048x256, x⟩, ⟨S8x8x2048x64, y⟩, ⟨S8x8x2048x64, broadcastInDim S8x8x2048x64 ![] bcast_S_S8x8x2048x64 (constant S_ .f32 0x00000000#32 : FVec Ideal S_ .f32)⟩] concatenates_S8x8x2048x256_S8x8x2048x64_S8x8x2048x64_S8x8x2048x384_d3) bitsLt_bf16_f32 : FVec Ideal S8x8x2048x384 .bf16)
      (ix4 h b i l) = ((cat (f h.val b.val i.val) (g h.val b.val i.val) l.val : ℝ) : EReal) := by
  pointwise
  unfold cat
  have hl := l.isLt
  split_ifs <;> first | omega | exact hx _ _ _ _ | (refine (hy _ _ _ _).trans ?_; rw [if_pos (show l.val < 320 by omega)]) | rfl

/-- The key operand at an index, its parts being real. -/
theorem keys_at (x : FVec Ideal S8x2048x256 .f32) (y : FVec Ideal S8x2048x64 .f32) {f g : ℕ → ℕ → ℕ → ℝ}
    (hx : ∀ (b : Fin 8) (i : Fin 2048) (l : Fin 256), x (ix3 b i l) = ((f b.val i.val l.val : ℝ) : EReal))
    (hy : ∀ (b : Fin 8) (i : Fin 2048) (l : Fin 64), y (ix3 b i l) = ((g b.val i.val l.val : ℝ) : EReal))
    (b : Fin 8) (i : Fin 2048) (l : Fin 384) :
    (truncf .bf16 (concatenate S8x2048x384 2 [⟨S8x2048x256, x⟩, ⟨S8x2048x64, y⟩, ⟨S8x2048x64, broadcastInDim S8x2048x64 ![] bcast_S_S8x2048x64 (constant S_ .f32 0x00000000#32 : FVec Ideal S_ .f32)⟩] concatenates_S8x2048x256_S8x2048x64_S8x2048x64_S8x2048x384_d2) bitsLt_bf16_f32 : FVec Ideal S8x2048x384 .bf16)
      (ix3 b i l) = ((cat (f b.val i.val) (g b.val i.val) l.val : ℝ) : EReal) := by
  pointwise
  unfold cat
  have hl := l.isLt
  split_ifs <;> first | omega | exact hx _ _ _ | (refine (hy _ _ _).trans ?_; rw [if_pos (show l.val < 320 by omega)]) | rfl

/-- A point's batch. -/
def bat (t : Fin cfg0.N) : Fin 8 := ⟨(grid0.coords t 0).val, (grid0.coords t 0).isLt⟩
theorem qi_lt (t : Fin cfg0.N) : (grid0.coords t 1).val < 8 := (grid0.coords t 1).isLt
/-- The place of a row of a point's query block. -/
def row (t : Fin cfg0.N) (r : Fin 256) : Fin 2048 := ⟨256 * (grid0.coords t 1).val + r.val, by have := qi_lt t; omega⟩

/-- Which block each window holds at a point. -/
theorem idx (t : Fin cfg0.N) :
    (win0_0.index t 0 = 0 ∧ win0_0.index t 1 = (grid0.coords t 0).val ∧ win0_0.index t 2 = (grid0.coords t 1).val ∧ win0_0.index t 3 = 0)
    ∧ (win0_1.index t 0 = (grid0.coords t 0).val ∧ win0_1.index t 1 = 0 ∧ win0_1.index t 2 = 0)
    ∧ (win0_2.index t 0 = 0 ∧ win0_2.index t 1 = (grid0.coords t 0).val ∧ win0_2.index t 2 = (grid0.coords t 1).val ∧ win0_2.index t 3 = 0) :=
  (by decide +kernel : ∀ t : Fin grid0.N,
    (win0_0.index t 0 = 0 ∧ win0_0.index t 1 = (grid0.coords t 0).val ∧ win0_0.index t 2 = (grid0.coords t 1).val ∧ win0_0.index t 3 = 0)
    ∧ (win0_1.index t 0 = (grid0.coords t 0).val ∧ win0_1.index t 1 = 0 ∧ win0_1.index t 2 = 0)
    ∧ (win0_2.index t 0 = 0 ∧ win0_2.index t 1 = (grid0.coords t 0).val ∧ win0_2.index t 2 = (grid0.coords t 1).val ∧ win0_2.index t 3 = 0)) t

/-- Where the query block lies. -/
theorem emb_q (t : Fin cfg0.N) (h : Fin 8) (r : Fin 256) (l : Fin 384) :
    (win0_0.blk t).view.emb (ix4 h 0 r l) = ix4 h (bat t) (row t r) l := by
  obtain ⟨⟨i0, i1, i2, i3⟩, _⟩ := idx t
  unfold bat row
  blk_ext
  all_goals omega

/-- Where the key block lies. -/
theorem emb_k (t : Fin cfg0.N) (j : Fin 2048) (l : Fin 384) : (win0_1.blk t).view.emb (ix3 0 j l) = ix3 (bat t) j l := by
  obtain ⟨_, ⟨i0, i1, i2⟩, _⟩ := idx t
  unfold bat
  blk_ext
  all_goals omega

/-- Where the output block lies. -/
theorem emb_o (t : Fin cfg0.N) (h : Fin 8) (r v : Fin 256) :
    (win0_2.blk t).view.emb (ix4 h 0 r v) = ix4 h (bat t) (row t r) v := by
  obtain ⟨_, _, ⟨i0, i1, i2, i3⟩⟩ := idx t
  unfold bat row
  blk_ext
  all_goals omega

section
variable {m : (ℓ : Loc nD τ sig) → Buf (Elt Ideal) ℓ} {c : Dev nD} {fq fp : ℕ → ℕ → ℕ → ℕ → ℝ} {fk fo : ℕ → ℕ → ℕ → ℝ}

/-- A point's query block, row `256 h + r` the query of head `h` at the block's place `r`. -/
theorem block_q
    (hq : ∀ (h b : Fin 8) (i : Fin 2048) (l : Fin 256), (m ((c.tc : Thread nD τ).loc main_arg0) : FVec Ideal S8x8x2048x256 .f32) (ix4 h b i l) = ((fq h.val b.val i.val l.val : ℝ) : EReal))
    (hp : ∀ (h b : Fin 8) (i : Fin 2048) (l : Fin 64), (m ((c.tc : Thread nD τ).loc main_arg1) : FVec Ideal S8x8x2048x64 .f32) (ix4 h b i l) = ((fp h.val b.val i.val l.val : ℝ) : EReal))
    (t : Fin cfg0.N) :
    QReal (iblk m c 0 t) (fun n l => cat (fq (n / 256) (bat t).val (256 * (grid0.coords t 1).val + n % 256))
      (fp (n / 256) (bat t).val (256 * (grid0.coords t 1).val + n % 256)) l) := by
  intro h r l
  blk_simp [iblk]
  rw [emb_q, V_queries, queries_at _ _ hq hp]
  beta_reduce
  rw [show (256 * h.val + r.val) / 256 = h.val by omega, show (256 * h.val + r.val) % 256 = r.val by omega]
  rfl

/-- A point's key block: the keys of its batch. -/
theorem block_k
    (hk : ∀ (b : Fin 8) (i : Fin 2048) (l : Fin 256), (m ((c.tc : Thread nD τ).loc main_arg2) : FVec Ideal S8x2048x256 .f32) (ix3 b i l) = ((fk b.val i.val l.val : ℝ) : EReal))
    (ho : ∀ (b : Fin 8) (i : Fin 2048) (l : Fin 64), (m ((c.tc : Thread nD τ).loc main_arg3) : FVec Ideal S8x2048x64 .f32) (ix3 b i l) = ((fo b.val i.val l.val : ℝ) : EReal))
    (t : Fin cfg0.N) :
    KReal (iblk m c 1 t) (fun j l => cat (fk (bat t).val j) (fo (bat t).val j) l) := by
  intro j l
  blk_simp [iblk]
  rw [emb_k, V_keys, keys_at _ _ hk ho]

/-- A point's output block is the reference's result there. -/
theorem block_o
    (hq : ∀ (h b : Fin 8) (i : Fin 2048) (l : Fin 256), (m ((c.tc : Thread nD τ).loc main_arg0) : FVec Ideal S8x8x2048x256 .f32) (ix4 h b i l) = ((fq h.val b.val i.val l.val : ℝ) : EReal))
    (hp : ∀ (h b : Fin 8) (i : Fin 2048) (l : Fin 64), (m ((c.tc : Thread nD τ).loc main_arg1) : FVec Ideal S8x8x2048x64 .f32) (ix4 h b i l) = ((fp h.val b.val i.val l.val : ℝ) : EReal))
    (hk : ∀ (b : Fin 8) (i : Fin 2048) (l : Fin 256), (m ((c.tc : Thread nD τ).loc main_arg2) : FVec Ideal S8x2048x256 .f32) (ix3 b i l) = ((fk b.val i.val l.val : ℝ) : EReal))
    (ho : ∀ (b : Fin 8) (i : Fin 2048) (l : Fin 64), (m ((c.tc : Thread nD τ).loc main_arg3) : FVec Ideal S8x2048x64 .f32) (ix3 b i l) = ((fo b.val i.val l.val : ℝ) : EReal))
    (R : FVec Ideal S8x8x2048x256 .bf16)
    (hR : ∀ (h b : Fin 8) (i : Fin 2048) (v : Fin 256), ∃ M : ℝ, R (ix4 h b i v)
      = ((∑ j ∈ Finset.range (i.val + 1), fk b.val j v.val
          * (Real.exp (Cert.ReferenceIdeal.Own.score (fq h.val b.val i.val) (fp h.val b.val i.val) (fk b.val j) (fo b.val j) * fac - M)
            / ∑ l ∈ Finset.range (i.val + 1),
                Real.exp (Cert.ReferenceIdeal.Own.score (fq h.val b.val i.val) (fp h.val b.val i.val) (fk b.val l) (fo b.val l) * fac - M)) : ℝ) : EReal))
    (t : Fin cfg0.N) (h : Fin 8) (r v : Fin 256) :
    outBlk (F := Ideal) (iblk m c 0 t) (iblk m c 1 t) (grid0.coords t 1).val (ix4 h 0 r v) = R (ix4 h (bat t) (row t r) v) := by
  obtain ⟨M, hM⟩ := hR h (bat t) (row t r) v
  rw [hM, outBlk_at (block_q hq hp t) (block_k hk ho t) _ (qi_lt t) M h r v]
  have hdot : ∀ j, dot (fun n l => cat (fq (n / 256) (bat t).val (256 * (grid0.coords t 1).val + n % 256))
      (fp (n / 256) (bat t).val (256 * (grid0.coords t 1).val + n % 256)) l)
      (fun j l => cat (fk (bat t).val j) (fo (bat t).val j) l) (256 * h.val + r.val) j
      = Cert.ReferenceIdeal.Own.score (fq h.val (bat t).val (row t r).val) (fp h.val (bat t).val (row t r).val) (fk (bat t).val j) (fo (bat t).val j) := by
    intro j
    unfold dot
    beta_reduce
    rw [cat_dot, show (256 * h.val + r.val) / 256 = h.val by omega, show (256 * h.val + r.val) % 256 = r.val by omega]
    rfl
  simp only [hdot]
  refine congrArg _ (Finset.sum_congr rfl fun j _ => ?_)
  rw [show cat (fk (bat t).val j) (fo (bat t).val j) v.val = fk (bat t).val j v.val from if_pos v.isLt]
  rfl
end

end Cert.KernelIdeal.Own
end
-- ==== Proof.Attention.lean ====
/- The attention's value claim: the kernel's result array is the reference's. -/
module

public import proofs.«01_k».proof.Defs
public import proofs.«01_k».proof.Proof.Finite
public import proofs.«01_k».proof.Proof.Entry
public import Idealize.ShloMosaic.Lib.Quiescent

@[expose] public section
set_option maxRecDepth 16384
set_option maxHeartbeats 400000
noncomputable section
namespace Cert.KernelIdeal.Own
open Cert.KernelIdeal Cert.KernelIdeal.Gen Cert.Consts
open Idealize.ShloMosaic Idealize.ShloMosaic.TcCoe Idealize.SL.Sem

/-- The reference's result, of the kernel's four arguments. -/
def attended (m : (ℓ : Loc nD τ sig) → Buf (Elt Ideal) ℓ) (c : Dev nD) : FVec Ideal S8x8x2048x256 .bf16 :=
  Cert.ReferenceIdeal.Own.refMean (m ((c.tc : Thread nD τ).loc main_arg2))
    (Cert.ReferenceIdeal.Own.refExp (Cert.ReferenceIdeal.Own.refScores (m ((c.tc : Thread nD τ).loc main_arg0))
      (m ((c.tc : Thread nD τ).loc main_arg1)) (m ((c.tc : Thread nD τ).loc main_arg2)) (m ((c.tc : Thread nD τ).loc main_arg3))))

/-- From finite arguments the output array ends as the reference's result. -/
theorem result (m : (ℓ : Loc nD τ sig) → Buf (Elt Ideal) ℓ) [Cert.Pre_finite.Facts] (hm : Cert.Pre_KernelIdeal_finite m) (c : Dev nD) :
    (dats m 0 c).arrAt 2 (cfgs 0).N = attended m c := by
  obtain ⟨⟨fq, hq⟩, ⟨fp, hp⟩, ⟨fk, hk⟩, ⟨fo, ho⟩⟩ := Cert.Finite.args m hm c
  refine (dats m 0 c).arrAt_eq_of_covers 2 _ (by decide +kernel) fun t hf y => ?_
  blk_simp
  rw [dats_after2]
  obtain ⟨h, r, v, rfl⟩ : ∃ (h : Fin 8) (r v : Fin 256), y = ix4 h 0 r v :=
    ⟨y 0, y 2, y 3, by
      funext a
      fin_cases a
      · rfl
      · exact Subsingleton.elim (α := Fin 1) _ _
      · rfl
      · rfl⟩
  rw [emb_o]
  exact block_o hq hp hk ho _ (fun h b i v => Cert.ReferenceIdeal.Own.ref_at hq hp hk ho h b i v) t h r v

/-- The run's result from finite arguments, the arguments as they were. -/
theorem run_value (m : (ℓ : Loc nD τ sig) → Buf (Elt Ideal) ℓ) (ρ : Dev nD → PrngReg) [Cert.Pre_finite.Facts] (hm : Cert.Pre_KernelIdeal_finite m) :
    θ_run (defs (F := Ideal)) (onTc (τ := τ) (main (F := Ideal))) ⟨m, fun _ => 0, ρ⟩ (fun r => ∀ c : Dev nD,
      r.2.mem ((c.tc : Thread nD τ).loc main_v6) = attended m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, h.2.1 c⟩) (θ_run_and (run_main m ρ) (frame_main m ρ))
  exact ((h.1 c).1 2).trans (result m hm c)

end Cert.KernelIdeal.Own

namespace Cert.Proof.Attention
open Idealize.ShloMosaic Idealize.ShloMosaic.TcCoe Idealize.SL.Sem

/-- From finite arguments the kernel and the reference end with the same result. -/
theorem algebraic [Cert.Pre_finite.Facts] : Cert.algebraic_KernelIdeal_ReferenceIdeal_pre_finite := by
  intro m ρ m' ρ' hm hagree
  refine ⟨_, Cert.KernelIdeal.Own.run_value m ρ hm, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  refine (Cert.ReferenceIdeal.Own.res_eq m' c).trans ?_
  unfold Cert.KernelIdeal.Own.attended
  rw [h0, h1, h2, h3]

end Cert.Proof.Attention
end
-- ==== Proof.lean ====
module

public import proofs.«01_k».proof.Defs
public import proofs.«01_k».proof.Proof.Claims
public import proofs.«01_k».proof.Proof.Attention
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite6
public import Idealize.ShloMosaic.Adequacy
public import Idealize.ShloMosaic.Init

@[expose] public section

noncomputable section

namespace Cert.Proof

open Idealize.ShloMosaic Idealize.SL.Sem

/-- Every claim of the certificate holds. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts, Cert.Pre_finite5.Gen.facts, Cert.Pre_finite6.Gen.facts,
    Claims.frame_p, Claims.frame_pi, Claims.frame_pi_finite, Claims.frame_ri, Claims.frame_ri_finite,
    Claims.frame_p2, Claims.frame_pi2, Claims.frame_ri2,
    Claims.frame_p3, Claims.frame_pi3, Claims.frame_ri3,
    Claims.frame_p4, Claims.frame_pi4, Claims.frame_ri4,
    Claims.frame_p5, Claims.frame_pi5, Claims.frame_pi5_finite, Claims.frame_ri5, Claims.frame_ri5_finite,
    Claims.frame_p6, Claims.frame_pi6, Claims.frame_pi6_finite, Claims.frame_ri6, Claims.frame_ri6_finite,
    Claims.preserves, Attention.algebraic, trivial, NormMatmul.algebraic, trivial, OutProj.algebraic, trivial, MlaOut.algebraic,
    trivial, OddNorm.algebraic, trivial, MlaPrep.algebraic⟩

end Cert.Proof

end
